-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v20)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v20) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v72) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v15_0)) (v1 : (c : Dev Cert.InProjIdeal.nD) → Buf (Elt Ideal) ((c.tc : Thread Cert.InProjIdeal.nD Cert.InProjIdeal.τ).loc Cert.InProjIdeal.main_v15_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15_0) = v0 c
          ∧ r.2.mem ((c.tc : Thread Cert.InProjIdeal.nD Cert.InProjIdeal.τ).loc Cert.InProjIdeal.main_v15_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v58) = v0 c
          ∧ r.2.mem ((c.tc : Thread Cert.InProjRefIdeal.nD Cert.InProjRefIdeal.τ).loc Cert.InProjRefIdeal.main_v49) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v22) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v74) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v13) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v12) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v71) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v72_0)) (v1 : (c : Dev Cert.QkvIdeal.nD) → Buf (Elt Ideal) ((c.tc : Thread Cert.QkvIdeal.nD Cert.QkvIdeal.τ).loc Cert.QkvIdeal.main_v72_1)) (v2 : (c : Dev Cert.QkvIdeal.nD) → Buf (Elt Ideal) ((c.tc : Thread Cert.QkvIdeal.nD Cert.QkvIdeal.τ).loc Cert.QkvIdeal.main_v72_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v72_0) = v0 c
          ∧ r.2.mem ((c.tc : Thread Cert.QkvIdeal.nD Cert.QkvIdeal.τ).loc Cert.QkvIdeal.main_v72_1) = v1 c
          ∧ r.2.mem ((c.tc : Thread Cert.QkvIdeal.nD Cert.QkvIdeal.τ).loc Cert.QkvIdeal.main_v72_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v133) = v0 c
          ∧ r.2.mem ((c.tc : Thread Cert.QkvRefIdeal.nD Cert.QkvRefIdeal.τ).loc Cert.QkvRefIdeal.main_v136) = v1 c
          ∧ r.2.mem ((c.tc : Thread Cert.QkvRefIdeal.nD Cert.QkvRefIdeal.τ).loc Cert.QkvRefIdeal.main_v139) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMerge : Cert.Merge.Facts) (hMergeIdeal : Cert.MergeIdeal.Facts) (hMergeRefIdeal : Cert.MergeRefIdeal.Facts) (hFin : Cert.Fin.Facts) (hFinIdeal : Cert.FinIdeal.Facts) (hFinRefIdeal : Cert.FinRefIdeal.Facts) (hAda : Cert.Ada.Facts) (hAdaIdeal : Cert.AdaIdeal.Facts) (hAdaRefIdeal : Cert.AdaRefIdeal.Facts) (hConv : Cert.Conv.Facts) (hConvIdeal : Cert.ConvIdeal.Facts) (hConvRefIdeal : Cert.ConvRefIdeal.Facts) (hQkv : Cert.Qkv.Facts) (hQkvIdeal : Cert.QkvIdeal.Facts) (hQkvRefIdeal : Cert.QkvRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_Fin (hFin := hFin)
    ∧ quiescent_FinIdeal (hFinIdeal := hFinIdeal)
    ∧ quiescent_FinRefIdeal (hFinRefIdeal := hFinRefIdeal)
    ∧ quiescent_Ada (hAda := hAda)
    ∧ quiescent_AdaIdeal (hAdaIdeal := hAdaIdeal)
    ∧ quiescent_AdaRefIdeal (hAdaRefIdeal := hAdaRefIdeal)
    ∧ quiescent_Conv (hConv := hConv)
    ∧ quiescent_ConvIdeal (hConvIdeal := hConvIdeal)
    ∧ quiescent_ConvRefIdeal (hConvRefIdeal := hConvRefIdeal)
    ∧ quiescent_Qkv (hQkv := hQkv)
    ∧ quiescent_QkvIdeal (hQkvIdeal := hQkvIdeal)
    ∧ quiescent_QkvRefIdeal (hQkvRefIdeal := hQkvRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Merge_MergeIdeal
    ∧ algebraic_MergeIdeal_MergeRefIdeal (hMergeIdeal := hMergeIdeal) (hMergeRefIdeal := hMergeRefIdeal)
    ∧ preserves_Fin_FinIdeal
    ∧ algebraic_FinIdeal_FinRefIdeal (hFinIdeal := hFinIdeal) (hFinRefIdeal := hFinRefIdeal)
    ∧ preserves_Ada_AdaIdeal
    ∧ algebraic_AdaIdeal_AdaRefIdeal (hAdaIdeal := hAdaIdeal) (hAdaRefIdeal := hAdaRefIdeal)
    ∧ preserves_Conv_ConvIdeal
    ∧ algebraic_ConvIdeal_ConvRefIdeal (hConvIdeal := hConvIdeal) (hConvRefIdeal := hConvRefIdeal)
    ∧ preserves_Qkv_QkvIdeal
    ∧ algebraic_QkvIdeal_QkvRefIdeal (hQkvIdeal := hQkvIdeal) (hQkvRefIdeal := hQkvRefIdeal)
-- ==== Pre_finite_scores.lean ====
abbrev S9216x8x128 : Shape := ⟨3, ![9216, 8, 128]⟩
abbrev S9216x8x64 : Shape := ⟨3, ![9216, 8, 64]⟩
abbrev S9216x64 : Shape := ⟨2, ![9216, 64]⟩
abbrev S_ : Shape := ⟨0, ![]⟩

class Facts : Prop where
  bcast_S_S9216x8x128 : S_.BroadcastsInDim S9216x8x128 (![] : Fin 0 → Fin S9216x8x128.rank)
  reducesTo_S9216x8x128_S_d0_1_2 : S9216x8x128.ReducesTo [0, 1, 2] S_
  h_S_ : 0 < S_.numel
  bcast_S_S9216x8x64 : S_.BroadcastsInDim S9216x8x64 (![] : Fin 0 → Fin S9216x8x64.rank)
  reducesTo_S9216x8x64_S_d0_1_2 : S9216x8x64.ReducesTo [0, 1, 2] S_
  bcast_S_S9216x64 : S_.BroadcastsInDim S9216x64 (![] : Fin 0 → Fin S9216x64.rank)
  reducesTo_S9216x64_S_d0_1 : S9216x64.ReducesTo [0, 1] S_

variable [Facts]

def fn_part1 {F : FTy → Type} [FloatOps F] (main_v13 : IVec S_ 1) (main_v16 : IVec S9216x64 1) : IVec S_ 1 :=
  let main_c_5 : IVec S_ 1 := constantI S_ 1 1#1
  let main_v17 : IVec S_ 1 := (fun x v => Host.reduce IntOp.andi x v reducesTo_S9216x64_S_d0_1 h_S_) main_v16 main_c_5
  let main_v18 : IVec S_ 1 := andi main_v13 main_v17
  main_v18

def fn {F : FTy → Type} [FloatOps F] (main_arg0 : FVec F S9216x8x128 .f32) (main_arg1 : FVec F S9216x8x64 .f32) (main_arg2 : FVec F S9216x8x128 .f32) (main_arg3 : FVec F S9216x64 .f32) (main_arg4 : FVec F S9216x8x128 .f32) : IVec S_ 1 :=
  let main_v0 : FVec F S9216x8x128 .f32 := Host.absf main_arg0
  let main_cst : FVec F S_ .f32 := constant S_ .f32 0x7F800000#32
  let main_v1 : FVec F S9216x8x128 .f32 := broadcastInDim S9216x8x128 ![] bcast_S_S9216x8x128 main_cst
  let main_v2 : IVec S9216x8x128 1 := cmpf .olt main_v0 main_v1
  let main_c : IVec S_ 1 := constantI S_ 1 1#1
  let main_v3 : IVec S_ 1 := (fun x v => Host.reduce IntOp.andi x v reducesTo_S9216x8x128_S_d0_1_2 h_S_) main_v2 main_c
  let main_v4 : FVec F S9216x8x64 .f32 := Host.absf main_arg1
  let main_cst_0 : FVec F S_ .f32 := constant S_ .f32 0x7F800000#32
  let main_v5 : FVec F S9216x8x64 .f32 := broadcastInDim S9216x8x64 ![] bcast_S_S9216x8x64 main_cst_0
  let main_v6 : IVec S9216x8x64 1 := cmpf .olt main_v4 main_v5
  let main_c_1 : IVec S_ 1 := constantI S_ 1 1#1
  let main_v7 : IVec S_ 1 := (fun x v => Host.reduce IntOp.andi x v reducesTo_S9216x8x64_S_d0_1_2 h_S_) main_v6 main_c_1
  let main_v8 : IVec S_ 1 := andi main_v3 main_v7
  let main_v9 : FVec F S9216x8x128 .f32 := Host.absf main_arg2
  let main_cst_2 : FVec F S_ .f32 := constant S_ .f32 0x7F800000#32
  let main_v10 : FVec F S9216x8x128 .f32 := broadcastInDim S9216x8x128 ![] bcast_S_S9216x8x128 main_cst_2
  let main_v11 : IVec S9216x8x128 1 := cmpf .olt main_v9 main_v10
  let main_c_3 : IVec S_ 1 := constantI S_ 1 1#1
  let main_v12 : IVec S_ 1 := (fun x v => Host.reduce IntOp.andi x v reducesTo_S9216x8x128_S_d0_1_2 h_S_) main_v11 main_c_3
  let main_v13 : IVec S_ 1 := andi main_v8 main_v12
  let main_v14 : FVec F S9216x64 .f32 := Host.absf main_arg3
  let main_cst_4 : FVec F S_ .f32 := constant S_ .f32 0x7F800000#32
  let main_v15 : FVec F S9216x64 .f32 := broadcastInDim S9216x64 ![] bcast_S_S9216x64 main_cst_4
  let main_v16 : IVec S9216x64 1 := cmpf .olt main_v14 main_v15
  fn_part1 (F := F) main_v13 main_v16
-- ==== Attn.lean ====
abbrev S9216x8x128 : Shape := ⟨3, ![9216, 8, 128]⟩
abbrev S9216x8x64 : Shape := ⟨3, ![9216, 8, 64]⟩
abbrev S9216x64 : Shape := ⟨2, ![9216, 64]⟩
abbrev S_ : Shape := ⟨0, ![]⟩
abbrev S9216x8x256 : Shape := ⟨3, ![9216, 8, 256]⟩
abbrev S9216x2048 : Shape := ⟨2, ![9216, 2048]⟩
abbrev S9216x1x64 : Shape := ⟨3, ![9216, 1, 64]⟩
abbrev S9216x1024 : Shape := ⟨2, ![9216, 1024]⟩
abbrev S512x1024 : Shape := ⟨2, ![512, 1024]⟩
abbrev S2048x1024 : Shape := ⟨2, ![2048, 1024]⟩
abbrev S512x512 : Shape := ⟨2, ![512, 512]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1024x256 : Shape := ⟨2, ![1024, 256]⟩
abbrev S512x128 : Shape := ⟨2, ![512, 128]⟩
abbrev S256 : Shape := ⟨1, ![256]⟩
abbrev S256x1 : Shape := ⟨2, ![256, 1]⟩
abbrev S256x128 : Shape := ⟨2, ![256, 128]⟩

abbrev nBuf : Space → Nat
  | .hbm => 30
  | .vmem => 12
  | .smem => 0
  | _ => 0

abbrev bufTy : (tb : Table) → Fin (tcTables nBuf tb) → BufTy
  | .hbm, ⟨0, _⟩ => ⟨S9216x8x128, .f32⟩
  | .hbm, ⟨1, _⟩ => ⟨S9216x8x64, .f32⟩
  | .hbm, ⟨2, _⟩ => ⟨S9216x8x128, .f32⟩
  | .hbm, ⟨3, _⟩ => ⟨S9216x64, .f32⟩
  | .hbm, ⟨4, _⟩ => ⟨S9216x8x128, .f32⟩
  | .hbm, ⟨5, _⟩ => ⟨S_, .f32⟩
  | .hbm, ⟨6, _⟩ => ⟨S9216x8x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S9216x8x128, .f32⟩
  | .hbm, ⟨13, _⟩ => ⟨S9216x8x128, .f32⟩
  | .hbm, ⟨14, _⟩ => ⟨S9216x8x64, .f32⟩
  | .hbm, ⟨15, _⟩ => ⟨S9216x8x64, .f32⟩
  | .hbm, ⟨16, _⟩ => ⟨S9216x8x256, .f32⟩
  | .hbm, ⟨17, _⟩ => ⟨S9216x2048, .f32⟩
  | .hbm, ⟨18, _⟩ => ⟨S9216x2048, .bf16⟩
  | .hbm, ⟨19, _⟩ => ⟨S9216x1x64, .f32⟩
  | .hbm, ⟨20, _⟩ => ⟨S9216x8x64, .f32⟩
  | .hbm, ⟨21, _⟩ => ⟨S9216x8x256, .f32⟩
  | .hbm, ⟨22, _⟩ => ⟨S9216x2048, .f32⟩
  | .hbm, ⟨23, _⟩ => ⟨S9216x2048, .bf16⟩
  | .hbm, ⟨24, _⟩ => ⟨S_, .f32⟩
  | .hbm, ⟨25, _⟩ => ⟨S9216x8x128, .f32⟩
  | .hbm, ⟨26, _⟩ => ⟨S9216x8x256, .f32⟩
  | .hbm, ⟨27, _⟩ => ⟨S9216x2048, .f32⟩
  | .hbm, ⟨28, _⟩ => ⟨S9216x2048, .bf16⟩
  | .hbm, ⟨29, _⟩ => ⟨S9216x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | _, _ => ⟨S9216x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg0 c8_i32
  let c0_i32_6 : BitVec 32 := 0#32
  let v19 : BitVec 1 := Scalar.cmpi .ne v18 c0_i32_6
  let v20 : BitVec 1 := Scalar.andi v17 v19
  let v6 : BitVec 32 := Scalar.divsi arg0 c8_i32
  let c1_i32 : BitVec 32 := 1#32
  let v21 : BitVec 32 := Scalar.subi v6 c1_i32
  let v22 : BitVec 32 := Scalar.select v20 v21 v6
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32 : BitVec 32 := 256#32
  let v33 : BitVec 32 := Scalar.muli v32 c256_i32
  v33
def k0_off1 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg0 c8_i32
  let c0_i32_6 : BitVec 32 := 0#32
  let v19 : BitVec 1 := Scalar.cmpi .ne v18 c0_i32_6
  let v20 : BitVec 1 := Scalar.andi v17 v19
  let v6 : BitVec 32 := Scalar.divsi arg0 c8_i32
  let c1_i32 : BitVec 32 := 1#32
  let v21 : BitVec 32 := Scalar.subi v6 c1_i32
  let v22 : BitVec 32 := Scalar.select v20 v21 v6
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32 : BitVec 32 := 256#32
  let v33 : BitVec 32 := Scalar.muli v32 c256_i32
  let v34 : BitVec 32 := v33
  let v37 : Index := Scalar.indexCast v34
  let c0_13 : Index := 0#32
  ![v37.toNat, 0]
def k0_off2 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg0 c8_i32
  let c0_i32_6 : BitVec 32 := 0#32
  let v19 : BitVec 1 := Scalar.cmpi .ne v18 c0_i32_6
  let v20 : BitVec 1 := Scalar.andi v17 v19
  let v6 : BitVec 32 := Scalar.divsi arg0 c8_i32
  let c1_i32 : BitVec 32 := 1#32
  let v21 : BitVec 32 := Scalar.subi v6 c1_i32
  let v22 : BitVec 32 := Scalar.select v20 v21 v6
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32 : BitVec 32 := 256#32
  let v33 : BitVec 32 := Scalar.muli v32 c256_i32
  let v34 : BitVec 32 := v33
  let v94 : Index := Scalar.indexCast v34
  let c256_33 : Index := 256#32
  ![v94.toNat, 256]
def k0_off3 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg0 c8_i32
  let c0_i32_6 : BitVec 32 := 0#32
  let v19 : BitVec 1 := Scalar.cmpi .ne v18 c0_i32_6
  let v20 : BitVec 1 := Scalar.andi v17 v19
  let v6 : BitVec 32 := Scalar.divsi arg0 c8_i32
  let c1_i32 : BitVec 32 := 1#32
  let v21 : BitVec 32 := Scalar.subi v6 c1_i32
  let v22 : BitVec 32 := Scalar.select v20 v21 v6
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32 : BitVec 32 := 256#32
  let v33 : BitVec 32 := Scalar.muli v32 c256_i32
  let v34 : BitVec 32 := v33
  let v151 : Index := Scalar.indexCast v34
  let c512_54 : Index := 512#32
  ![v151.toNat, 512]
def k0_off4 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c8_i32 : BitVec 32 := 8#32
  let c0_i32_4 : BitVec 32 := 0#32
  let v12 : BitVec 1 := Scalar.cmpi .sgt c8_i32 c0_i32_4
  let v13 : BitVec 32 := Scalar.extui v12
  let c0_i32_5 : BitVec 32 := 0#32
  let v14 : BitVec 1 := Scalar.cmpi .slt c8_i32 c0_i32_5
  let v15 : BitVec 32 := Scalar.extui v14
  let v16 : BitVec 32 := Scalar.subi v13 v15
  let v17 : BitVec 1 := Scalar.cmpi .ne v11 v16
  let v18 : BitVec 32 := Scalar.remsi arg0 c8_i32
  let c0_i32_6 : BitVec 32 := 0#32
  let v19 : BitVec 1 := Scalar.cmpi .ne v18 c0_i32_6
  let v20 : BitVec 1 := Scalar.andi v17 v19
  let v6 : BitVec 32 := Scalar.divsi arg0 c8_i32
  let c1_i32 : BitVec 32 := 1#32
  let v21 : BitVec 32 := Scalar.subi v6 c1_i32
  let v22 : BitVec 32 := Scalar.select v20 v21 v6
  let c2_i32 : BitVec 32 := 2#32
  let c0_i32_7 : BitVec 32 := 0#32
  let v23 : BitVec 1 := Scalar.cmpi .eq c2_i32 c0_i32_7
  let c1_i32_8 : BitVec 32 := 1#32
  let v24 : BitVec 32 := Scalar.select v23 c1_i32_8 c2_i32
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32 : BitVec 32 := 256#32
  let v33 : BitVec 32 := Scalar.muli v32 c256_i32
  let v34 : BitVec 32 := v33
  let v208 : Index := Scalar.indexCast v34
  let c768_76 : Index := 768#32
  ![v208.toNat, 768]
def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi arg0 c8_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi arg0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.select v0 v18 c3_i32
  let c4_i32 : BitVec 32 := 4#32
  let v20 : BitVec 32 := Scalar.divsi arg0 c4_i32
  let c0_i32_5 : BitVec 32 := 0#32
  let v21 : BitVec 1 := Scalar.cmpi .sgt arg0 c0_i32_5
  let v22 : BitVec 32 := Scalar.extui v21
  let c0_i32_6 : BitVec 32 := 0#32
  let v23 : BitVec 1 := Scalar.cmpi .slt arg0 c0_i32_6
  let v24 : BitVec 32 := Scalar.extui v23
  let v25 : BitVec 32 := Scalar.subi v22 v24
  let c0_i32_7 : BitVec 32 := 0#32
  let v26 : BitVec 1 := Scalar.cmpi .sgt c4_i32 c0_i32_7
  let v27 : BitVec 32 := Scalar.extui v26
  let c0_i32_8 : BitVec 32 := 0#32
  let v28 : BitVec 1 := Scalar.cmpi .slt c4_i32 c0_i32_8
  let v29 : BitVec 32 := Scalar.extui v28
  let v30 : BitVec 32 := Scalar.subi v27 v29
  let v31 : BitVec 1 := Scalar.cmpi .ne v25 v30
  let v32 : BitVec 32 := Scalar.remsi arg0 c4_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let c0_i32_11 : BitVec 32 := 0#32
  let v37 : BitVec 1 := Scalar.cmpi .eq c2_i32 c0_i32_11
  let c1_i32_12 : BitVec 32 := 1#32
  let v38 : BitVec 32 := Scalar.select v37 c1_i32_12 c2_i32
  let v39 : BitVec 32 := Scalar.remsi v36 v38
  let c0_i32_13 : BitVec 32 := 0#32
  let v40 : BitVec 1 := Scalar.cmpi .ne v39 c0_i32_13
  let c0_i32_14 : BitVec 32 := 0#32
  let v41 : BitVec 1 := Scalar.cmpi .slt v39 c0_i32_14
  let c0_i32_15 : BitVec 32 := 0#32
  let v42 : BitVec 1 := Scalar.cmpi .slt v38 c0_i32_15
  let v43 : BitVec 1 := Scalar.xori v41 v42
  let v44 : BitVec 1 := Scalar.andi v43 v40
  let v45 : BitVec 32 := Scalar.addi v39 v38
  let v46 : BitVec 32 := Scalar.select v44 v45 v39
  let c2_i32_16 : BitVec 32 := 2#32
  let c0_i32_17 : BitVec 32 := 0#32
  let v47 : BitVec 1 := Scalar.cmpi .eq c2_i32_16 c0_i32_17
  let c1_i32_18 : BitVec 32 := 1#32
  let v48 : BitVec 32 := Scalar.select v47 c1_i32_18 c2_i32_16
  let v49 : BitVec 32 := Scalar.remsi v1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.select v0 v46 v56
  let c4_i32_22 : BitVec 32 := 4#32
  let v58 : BitVec 32 := Scalar.muli v19 c4_i32_22
  let c4_i32_23 : BitVec 32 := 4#32
  let c0_i32_24 : BitVec 32 := 0#32
  let v59 : BitVec 1 := Scalar.cmpi .eq c4_i32_23 c0_i32_24
  let c1_i32_25 : BitVec 32 := 1#32
  let v60 : BitVec 32 := Scalar.select v59 c1_i32_25 c4_i32_23
  let v61 : BitVec 32 := Scalar.remsi arg0 v60
  let c0_i32_26 : BitVec 32 := 0#32
  let v62 : BitVec 1 := Scalar.cmpi .ne v61 c0_i32_26
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let v66 : BitVec 1 := Scalar.andi v65 v62
  let v67 : BitVec 32 := Scalar.addi v61 v60
  let v68 : BitVec 32 := Scalar.select v66 v67 v61
  let v69 : BitVec 32 := Scalar.addi v58 v68
  let c2_i32_29 : BitVec 32 := 2#32
  let v70 : BitVec 32 := Scalar.divsi v1 c2_i32_29
  let c0_i32_30 : BitVec 32 := 0#32
  let v71 : BitVec 1 := Scalar.cmpi .sgt v1 c0_i32_30
  let v72 : BitVec 32 := Scalar.extui v71
  let c0_i32_31 : BitVec 32 := 0#32
  let v73 : BitVec 1 := Scalar.cmpi .slt v1 c0_i32_31
  let v74 : BitVec 32 := Scalar.extui v73
  let v75 : BitVec 32 := Scalar.subi v72 v74
  let c0_i32_32 : BitVec 32 := 0#32
  let v76 : BitVec 1 := Scalar.cmpi .sgt c2_i32_29 c0_i32_32
  let v77 : BitVec 32 := Scalar.extui v76
  let c0_i32_33 : BitVec 32 := 0#32
  let v78 : BitVec 1 := Scalar.cmpi .slt c2_i32_29 c0_i32_33
  let v79 : BitVec 32 := Scalar.extui v78
  let v80 : BitVec 32 := Scalar.subi v77 v79
  let v81 : BitVec 1 := Scalar.cmpi .ne v75 v80
  let v82 : BitVec 32 := Scalar.remsi v1 c2_i32_29
  let c0_i32_34 : BitVec 32 := 0#32
  let v83 : BitVec 1 := Scalar.cmpi .ne v82 c0_i32_34
  let v84 : BitVec 1 := Scalar.andi v81 v83
  let c1_i32_35 : BitVec 32 := 1#32
  let v85 : BitVec 32 := Scalar.subi v70 c1_i32_35
  let v86 : BitVec 32 := Scalar.select v84 v85 v70
  let c16_i32 : BitVec 32 := 16#32
  let v87 : BitVec 32 := Scalar.addi c16_i32 v86
  let v88 : BitVec 32 := Scalar.select v0 v69 v87
  let c2_i32_36 : BitVec 32 := 2#32
  let v89 : BitVec 32 := Scalar.divsi v19 c2_i32_36
  let c0_i32_37 : BitVec 32 := 0#32
  let v90 : BitVec 1 := Scalar.cmpi .sgt v19 c0_i32_37
  let v91 : BitVec 32 := Scalar.extui v90
  let c0_i32_38 : BitVec 32 := 0#32
  let v92 : BitVec 1 := Scalar.cmpi .slt v19 c0_i32_38
  let v93 : BitVec 32 := Scalar.extui v92
  let v94 : BitVec 32 := Scalar.subi v91 v93
  let c0_i32_39 : BitVec 32 := 0#32
  let v95 : BitVec 1 := Scalar.cmpi .sgt c2_i32_36 c0_i32_39
  let v96 : BitVec 32 := Scalar.extui v95
  let c0_i32_40 : BitVec 32 := 0#32
  let v97 : BitVec 1 := Scalar.cmpi .slt c2_i32_36 c0_i32_40
  let v98 : BitVec 32 := Scalar.extui v97
  let v99 : BitVec 32 := Scalar.subi v96 v98
  let v100 : BitVec 1 := Scalar.cmpi .ne v94 v99
  let v101 : BitVec 32 := Scalar.remsi v19 c2_i32_36
  let c0_i32_41 : BitVec 32 := 0#32
  let v102 : BitVec 1 := Scalar.cmpi .ne v101 c0_i32_41
  let v103 : BitVec 1 := Scalar.andi v100 v102
  let c1_i32_42 : BitVec 32 := 1#32
  let v104 : BitVec 32 := Scalar.subi v89 c1_i32_42
  let v105 : BitVec 32 := Scalar.select v103 v104 v89
  let c16_i32_43 : BitVec 32 := 16#32
  let v106 : BitVec 32 := Scalar.addi c16_i32_43 v105
  let c2_i32_44 : BitVec 32 := 2#32
  let v107 : BitVec 32 := Scalar.divsi v1 c2_i32_44
  let c0_i32_45 : BitVec 32 := 0#32
  let v108 : BitVec 1 := Scalar.cmpi .sgt v1 c0_i32_45
  let v109 : BitVec 32 := Scalar.extui v108
  let c0_i32_46 : BitVec 32 := 0#32
  let v110 : BitVec 1 := Scalar.cmpi .slt v1 c0_i32_46
  let v111 : BitVec 32 := Scalar.extui v110
  let v112 : BitVec 32 := Scalar.subi v109 v111
  let c0_i32_47 : BitVec 32 := 0#32
  let v113 : BitVec 1 := Scalar.cmpi .sgt c2_i32_44 c0_i32_47
  let v114 : BitVec 32 := Scalar.extui v113
  let c0_i32_48 : BitVec 32 := 0#32
  let v115 : BitVec 1 := Scalar.cmpi .slt c2_i32_44 c0_i32_48
  let v116 : BitVec 32 := Scalar.extui v115
  let v117 : BitVec 32 := Scalar.subi v114 v116
  let v118 : BitVec 1 := Scalar.cmpi .ne v112 v117
  let v119 : BitVec 32 := Scalar.remsi v1 c2_i32_44
  let c0_i32_49 : BitVec 32 := 0#32
  let v120 : BitVec 1 := Scalar.cmpi .ne v119 c0_i32_49
  let v121 : BitVec 1 := Scalar.andi v118 v120
  let c1_i32_50 : BitVec 32 := 1#32
  let v122 : BitVec 32 := Scalar.subi v107 c1_i32_50
  let v123 : BitVec 32 := Scalar.select v121 v122 v107
  let c16_i32_51 : BitVec 32 := 16#32
  let v124 : BitVec 32 := Scalar.addi c16_i32_51 v123
  let v125 : BitVec 32 := Scalar.select v0 v106 v124
  let c32_i32_52 : BitVec 32 := 32#32
  let v126 : BitVec 1 := Scalar.cmpi .slt arg0 c32_i32_52
  let c32_i32_53 : BitVec 32 := 32#32
  let v127 : BitVec 32 := Scalar.subi arg0 c32_i32_53
  let c8_i32_54 : BitVec 32 := 8#32
  let v128 : BitVec 32 := Scalar.divsi arg0 c8_i32_54
  let c0_i32_55 : BitVec 32 := 0#32
  let v129 : BitVec 1 := Scalar.cmpi .sgt arg0 c0_i32_55
  let v130 : BitVec 32 := Scalar.extui v129
  let c0_i32_56 : BitVec 32 := 0#32
  let v131 : BitVec 1 := Scalar.cmpi .slt arg0 c0_i32_56
  let v132 : BitVec 32 := Scalar.extui v131
  let v133 : BitVec 32 := Scalar.subi v130 v132
  let c0_i32_57 : BitVec 32 := 0#32
  let v134 : BitVec 1 := Scalar.cmpi .sgt c8_i32_54 c0_i32_57
  let v135 : BitVec 32 := Scalar.extui v134
  let c0_i32_58 : BitVec 32 := 0#32
  let v136 : BitVec 1 := Scalar.cmpi .slt c8_i32_54 c0_i32_58
  let v137 : BitVec 32 := Scalar.extui v136
  let v138 : BitVec 32 := Scalar.subi v135 v137
  let v139 : BitVec 1 := Scalar.cmpi .ne v133 v138
  let v140 : BitVec 32 := Scalar.remsi arg0 c8_i32_54
  let c0_i32_59 : BitVec 32 := 0#32
  let v141 : BitVec 1 := Scalar.cmpi .ne v140 c0_i32_59
  let v142 : BitVec 1 := Scalar.andi v139 v141
  let c1_i32_60 : BitVec 32 := 1#32
  let v143 : BitVec 32 := Scalar.subi v128 c1_i32_60
  let v144 : BitVec 32 := Scalar.select v142 v143 v128
  let c3_i32_61 : BitVec 32 := 3#32
  let v145 : BitVec 32 := Scalar.select v126 v144 c3_i32_61
  let c4_i32_62 : BitVec 32 := 4#32
  let v146 : BitVec 32 := Scalar.divsi arg0 c4_i32_62
  let c0_i32_63 : BitVec 32 := 0#32
  let v147 : BitVec 1 := Scalar.cmpi .sgt arg0 c0_i32_63
  let v148 : BitVec 32 := Scalar.extui v147
  let c0_i32_64 : BitVec 32 := 0#32
  let v149 : BitVec 1 := Scalar.cmpi .slt arg0 c0_i32_64
  let v150 : BitVec 32 := Scalar.extui v149
  let v151 : BitVec 32 := Scalar.subi v148 v150
  let c0_i32_65 : BitVec 32 := 0#32
  let v152 : BitVec 1 := Scalar.cmpi .sgt c4_i32_62 c0_i32_65
  let v153 : BitVec 32 := Scalar.extui v152
  let c0_i32_66 : BitVec 32 := 0#32
  let v154 : BitVec 1 := Scalar.cmpi .slt c4_i32_62 c0_i32_66
  let v155 : BitVec 32 := Scalar.extui v154
  let v156 : BitVec 32 := Scalar.subi v153 v155
  let v157 : BitVec 1 := Scalar.cmpi .ne v151 v156
  let v158 : BitVec 32 := Scalar.remsi arg0 c4_i32_62
  let c0_i32_67 : BitVec 32 := 0#32
  let v159 : BitVec 1 := Scalar.cmpi .ne v158 c0_i32_67
  let v160 : BitVec 1 := Scalar.andi v157 v159
  let c1_i32_68 : BitVec 32 := 1#32
  let v161 : BitVec 32 := Scalar.subi v146 c1_i32_68
  let v162 : BitVec 32 := Scalar.select v160 v161 v146
  let c2_i32_69 : BitVec 32 := 2#32
  let c0_i32_70 : BitVec 32 := 0#32
  let v163 : BitVec 1 := Scalar.cmpi .eq c2_i32_69 c0_i32_70
  let c1_i32_71 : BitVec 32 := 1#32
  let v164 : BitVec 32 := Scalar.select v163 c1_i32_71 c2_i32_69
  let v165 : BitVec 32 := Scalar.remsi v162 v164
  let c0_i32_72 : BitVec 32 := 0#32
  let v166 : BitVec 1 := Scalar.cmpi .ne v165 c0_i32_72
  let c0_i32_73 : BitVec 32 := 0#32
  let v167 : BitVec 1 := Scalar.cmpi .slt v165 c0_i32_73
  let c0_i32_74 : BitVec 32 := 0#32
  let v168 : BitVec 1 := Scalar.cmpi .slt v164 c0_i32_74
  let v169 : BitVec 1 := Scalar.xori v167 v168
  let v170 : BitVec 1 := Scalar.andi v169 v166
  let v171 : BitVec 32 := Scalar.addi v165 v164
  let v172 : BitVec 32 := Scalar.select v170 v171 v165
  let c2_i32_75 : BitVec 32 := 2#32
  let c0_i32_76 : BitVec 32 := 0#32
  let v173 : BitVec 1 := Scalar.cmpi .eq c2_i32_75 c0_i32_76
  let c1_i32_77 : BitVec 32 := 1#32
  let v174 : BitVec 32 := Scalar.select v173 c1_i32_77 c2_i32_75
  let v175 : BitVec 32 := Scalar.remsi v127 v174
  let c0_i32_78 : BitVec 32 := 0#32
  let v176 : BitVec 1 := Scalar.cmpi .ne v175 c0_i32_78
  let c0_i32_79 : BitVec 32 := 0#32
  let v177 : BitVec 1 := Scalar.cmpi .slt v175 c0_i32_79
  let c0_i32_80 : BitVec 32 := 0#32
  let v178 : BitVec 1 := Scalar.cmpi .slt v174 c0_i32_80
  let v179 : BitVec 1 := Scalar.xori v177 v178
  let v180 : BitVec 1 := Scalar.andi v179 v176
  let v181 : BitVec 32 := Scalar.addi v175 v174
  let v182 : BitVec 32 := Scalar.select v180 v181 v175
  let v183 : BitVec 32 := Scalar.select v126 v172 v182
  let c4_i32_81 : BitVec 32 := 4#32
  let v184 : BitVec 32 := Scalar.muli v145 c4_i32_81
  let c4_i32_82 : BitVec 32 := 4#32
  let c0_i32_83 : BitVec 32 := 0#32
  let v185 : BitVec 1 := Scalar.cmpi .eq c4_i32_82 c0_i32_83
  let c1_i32_84 : BitVec 32 := 1#32
  let v186 : BitVec 32 := Scalar.select v185 c1_i32_84 c4_i32_82
  let v187 : BitVec 32 := Scalar.remsi arg0 v186
  let c0_i32_85 : BitVec 32 := 0#32
  let v188 : BitVec 1 := Scalar.cmpi .ne v187 c0_i32_85
  let c0_i32_86 : BitVec 32 := 0#32
  let v189 : BitVec 1 := Scalar.cmpi .slt v187 c0_i32_86
  let c0_i32_87 : BitVec 32 := 0#32
  let v190 : BitVec 1 := Scalar.cmpi .slt v186 c0_i32_87
  let v191 : BitVec 1 := Scalar.xori v189 v190
  let v192 : BitVec 1 := Scalar.andi v191 v188
  let v193 : BitVec 32 := Scalar.addi v187 v186
  let v194 : BitVec 32 := Scalar.select v192 v193 v187
  let v195 : BitVec 32 := Scalar.addi v184 v194
  let c2_i32_88 : BitVec 32 := 2#32
  let v196 : BitVec 32 := Scalar.divsi v127 c2_i32_88
  let c0_i32_89 : BitVec 32 := 0#32
  let v197 : BitVec 1 := Scalar.cmpi .sgt v127 c0_i32_89
  let v198 : BitVec 32 := Scalar.extui v197
  let c0_i32_90 : BitVec 32 := 0#32
  let v199 : BitVec 1 := Scalar.cmpi .slt v127 c0_i32_90
  let v200 : BitVec 32 := Scalar.extui v199
  let v201 : BitVec 32 := Scalar.subi v198 v200
  let c0_i32_91 : BitVec 32 := 0#32
  let v202 : BitVec 1 := Scalar.cmpi .sgt c2_i32_88 c0_i32_91
  let v203 : BitVec 32 := Scalar.extui v202
  let c0_i32_92 : BitVec 32 := 0#32
  let v204 : BitVec 1 := Scalar.cmpi .slt c2_i32_88 c0_i32_92
  let v205 : BitVec 32 := Scalar.extui v204
  let v206 : BitVec 32 := Scalar.subi v203 v205
  let v207 : BitVec 1 := Scalar.cmpi .ne v201 v206
  let v208 : BitVec 32 := Scalar.remsi v127 c2_i32_88
  let c0_i32_93 : BitVec 32 := 0#32
  let v209 : BitVec 1 := Scalar.cmpi .ne v208 c0_i32_93
  let v210 : BitVec 1 := Scalar.andi v207 v209
  let c1_i32_94 : BitVec 32 := 1#32
  let v211 : BitVec 32 := Scalar.subi v196 c1_i32_94
  let v212 : BitVec 32 := Scalar.select v210 v211 v196
  let c16_i32_95 : BitVec 32 := 16#32
  let v213 : BitVec 32 := Scalar.addi c16_i32_95 v212
  let v214 : BitVec 32 := Scalar.select v126 v195 v213
  let c2_i32_96 : BitVec 32 := 2#32
  let v215 : BitVec 32 := Scalar.divsi v145 c2_i32_96
  let c0_i32_97 : BitVec 32 := 0#32
  let v216 : BitVec 1 := Scalar.cmpi .sgt v145 c0_i32_97
  let v217 : BitVec 32 := Scalar.extui v216
  let c0_i32_98 : BitVec 32 := 0#32
  let v218 : BitVec 1 := Scalar.cmpi .slt v145 c0_i32_98
  let v219 : BitVec 32 := Scalar.extui v218
  let v220 : BitVec 32 := Scalar.subi v217 v219
  let c0_i32_99 : BitVec 32 := 0#32
  let v221 : BitVec 1 := Scalar.cmpi .sgt c2_i32_96 c0_i32_99
  let v222 : BitVec 32 := Scalar.extui v221
  let c0_i32_100 : BitVec 32 := 0#32
  let v223 : BitVec 1 := Scalar.cmpi .slt c2_i32_96 c0_i32_100
  let v224 : BitVec 32 := Scalar.extui v223
  let v225 : BitVec 32 := Scalar.subi v222 v224
  let v226 : BitVec 1 := Scalar.cmpi .ne v220 v225
  let v227 : BitVec 32 := Scalar.remsi v145 c2_i32_96
  let c0_i32_101 : BitVec 32 := 0#32
  let v228 : BitVec 1 := Scalar.cmpi .ne v227 c0_i32_101
  let v229 : BitVec 1 := Scalar.andi v226 v228
  let c1_i32_102 : BitVec 32 := 1#32
  let v230 : BitVec 32 := Scalar.subi v215 c1_i32_102
  let v231 : BitVec 32 := Scalar.select v229 v230 v215
  let c16_i32_103 : BitVec 32 := 16#32
  let v232 : BitVec 32 := Scalar.addi c16_i32_103 v231
  let c2_i32_104 : BitVec 32 := 2#32
  let v233 : BitVec 32 := Scalar.divsi v127 c2_i32_104
  let c0_i32_105 : BitVec 32 := 0#32
  let v234 : BitVec 1 := Scalar.cmpi .sgt v127 c0_i32_105
  let v235 : BitVec 32 := Scalar.extui v234
  let c0_i32_106 : BitVec 32 := 0#32
  let v236 : BitVec 1 := Scalar.cmpi .slt v127 c0_i32_106
  let v237 : BitVec 32 := Scalar.extui v236
  let v238 : BitVec 32 := Scalar.subi v235 v237
  let c0_i32_107 : BitVec 32 := 0#32
  let v239 : BitVec 1 := Scalar.cmpi .sgt c2_i32_104 c0_i32_107
  let v240 : BitVec 32 := Scalar.extui v239
  let c0_i32_108 : BitVec 32 := 0#32
  let v241 : BitVec 1 := Scalar.cmpi .slt c2_i32_104 c0_i32_108
  let v242 : BitVec 32 := Scalar.extui v241
  let v243 : BitVec 32 := Scalar.subi v240 v242
  let v244 : BitVec 1 := Scalar.cmpi .ne v238 v243
  let v245 : BitVec 32 := Scalar.remsi v127 c2_i32_104
  let c0_i32_109 : BitVec 32 := 0#32
  let v246 : BitVec 1 := Scalar.cmpi .ne v245 c0_i32_109
  let v247 : BitVec 1 := Scalar.andi v244 v246
  let c1_i32_110 : BitVec 32 := 1#32
  let v248 : BitVec 32 := Scalar.subi v233 c1_i32_110
  let v249 : BitVec 32 := Scalar.select v247 v248 v233
  let c16_i32_111 : BitVec 32 := 16#32
  let v250 : BitVec 32 := Scalar.addi c16_i32_111 v249
  let v251 : BitVec 32 := Scalar.select v126 v232 v250
  let c0_i32_112 : BitVec 32 := 0#32
  ![v88.toNat, v183.toNat]

def cc0_transform_1 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi arg0 c8_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi arg0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.select v0 v18 c3_i32
  let c4_i32 : BitVec 32 := 4#32
  let v20 : BitVec 32 := Scalar.divsi arg0 c4_i32
  let c0_i32_5 : BitVec 32 := 0#32
  let v21 : BitVec 1 := Scalar.cmpi .sgt arg0 c0_i32_5
  let v22 : BitVec 32 := Scalar.extui v21
  let c0_i32_6 : BitVec 32 := 0#32
  let v23 : BitVec 1 := Scalar.cmpi .slt arg0 c0_i32_6
  let v24 : BitVec 32 := Scalar.extui v23
  let v25 : BitVec 32 := Scalar.subi v22 v24
  let c0_i32_7 : BitVec 32 := 0#32
  let v26 : BitVec 1 := Scalar.cmpi .sgt c4_i32 c0_i32_7
  let v27 : BitVec 32 := Scalar.extui v26
  let c0_i32_8 : BitVec 32 := 0#32
  let v28 : BitVec 1 := Scalar.cmpi .slt c4_i32 c0_i32_8
  let v29 : BitVec 32 := Scalar.extui v28
  let v30 : BitVec 32 := Scalar.subi v27 v29
  let v31 : BitVec 1 := Scalar.cmpi .ne v25 v30
  let v32 : BitVec 32 := Scalar.remsi arg0 c4_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let c0_i32_11 : BitVec 32 := 0#32
  let v37 : BitVec 1 := Scalar.cmpi .eq c2_i32 c0_i32_11
  let c1_i32_12 : BitVec 32 := 1#32
  let v38 : BitVec 32 := Scalar.select v37 c1_i32_12 c2_i32
  let v39 : BitVec 32 := Scalar.remsi v36 v38
  let c0_i32_13 : BitVec 32 := 0#32
  let v40 : BitVec 1 := Scalar.cmpi .ne v39 c0_i32_13
  let c0_i32_14 : BitVec 32 := 0#32
  let v41 : BitVec 1 := Scalar.cmpi .slt v39 c0_i32_14
  let c0_i32_15 : BitVec 32 := 0#32
  let v42 : BitVec 1 := Scalar.cmpi .slt v38 c0_i32_15
  let v43 : BitVec 1 := Scalar.xori v41 v42
  let v44 : BitVec 1 := Scalar.andi v43 v40
  let v45 : BitVec 32 := Scalar.addi v39 v38
  let v46 : BitVec 32 := Scalar.select v44 v45 v39
  let c2_i32_16 : BitVec 32 := 2#32
  let c0_i32_17 : BitVec 32 := 0#32
  let v47 : BitVec 1 := Scalar.cmpi .eq c2_i32_16 c0_i32_17
  let c1_i32_18 : BitVec 32 := 1#32
  let v48 : BitVec 32 := Scalar.select v47 c1_i32_18 c2_i32_16
  let v49 : BitVec 32 := Scalar.remsi v1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.select v0 v46 v56
  let c4_i32_22 : BitVec 32 := 4#32
  let v58 : BitVec 32 := Scalar.muli v19 c4_i32_22
  let c4_i32_23 : BitVec 32 := 4#32
  let c0_i32_24 : BitVec 32 := 0#32
  let v59 : BitVec 1 := Scalar.cmpi .eq c4_i32_23 c0_i32_24
  let c1_i32_25 : BitVec 32 := 1#32
  let v60 : BitVec 32 := Scalar.select v59 c1_i32_25 c4_i32_23
  let v61 : BitVec 32 := Scalar.remsi arg0 v60
  let c0_i32_26 : BitVec 32 := 0#32
  let v62 : BitVec 1 := Scalar.cmpi .ne v61 c0_i32_26
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let v66 : BitVec 1 := Scalar.andi v65 v62
  let v67 : BitVec 32 := Scalar.addi v61 v60
  let v68 : BitVec 32 := Scalar.select v66 v67 v61
  let v69 : BitVec 32 := Scalar.addi v58 v68
  let c2_i32_29 : BitVec 32 := 2#32
  let v70 : BitVec 32 := Scalar.divsi v1 c2_i32_29
  let c0_i32_30 : BitVec 32 := 0#32
  let v71 : BitVec 1 := Scalar.cmpi .sgt v1 c0_i32_30
  let v72 : BitVec 32 := Scalar.extui v71
  let c0_i32_31 : BitVec 32 := 0#32
  let v73 : BitVec 1 := Scalar.cmpi .slt v1 c0_i32_31
  let v74 : BitVec 32 := Scalar.extui v73
  let v75 : BitVec 32 := Scalar.subi v72 v74
  let c0_i32_32 : BitVec 32 := 0#32
  let v76 : BitVec 1 := Scalar.cmpi .sgt c2_i32_29 c0_i32_32
  let v77 : BitVec 32 := Scalar.extui v76
  let c0_i32_33 : BitVec 32 := 0#32
  let v78 : BitVec 1 := Scalar.cmpi .slt c2_i32_29 c0_i32_33
  let v79 : BitVec 32 := Scalar.extui v78
  let v80 : BitVec 32 := Scalar.subi v77 v79
  let v81 : BitVec 1 := Scalar.cmpi .ne v75 v80
  let v82 : BitVec 32 := Scalar.remsi v1 c2_i32_29
  let c0_i32_34 : BitVec 32 := 0#32
  let v83 : BitVec 1 := Scalar.cmpi .ne v82 c0_i32_34
  let v84 : BitVec 1 := Scalar.andi v81 v83
  let c1_i32_35 : BitVec 32 := 1#32
  let v85 : BitVec 32 := Scalar.subi v70 c1_i32_35
  let v86 : BitVec 32 := Scalar.select v84 v85 v70
  let c16_i32 : BitVec 32 := 16#32
  let v87 : BitVec 32 := Scalar.addi c16_i32 v86
  let v88 : BitVec 32 := Scalar.select v0 v69 v87
  let c2_i32_36 : BitVec 32 := 2#32
  let v89 : BitVec 32 := Scalar.divsi v19 c2_i32_36
  let c0_i32_37 : BitVec 32 := 0#32
  let v90 : BitVec 1 := Scalar.cmpi .sgt v19 c0_i32_37
  let v91 : BitVec 32 := Scalar.extui v90
  let c0_i32_38 : BitVec 32 := 0#32
  let v92 : BitVec 1 := Scalar.cmpi .slt v19 c0_i32_38
  let v93 : BitVec 32 := Scalar.extui v92
  let v94 : BitVec 32 := Scalar.subi v91 v93
  let c0_i32_39 : BitVec 32 := 0#32
  let v95 : BitVec 1 := Scalar.cmpi .sgt c2_i32_36 c0_i32_39
  let v96 : BitVec 32 := Scalar.extui v95
  let c0_i32_40 : BitVec 32 := 0#32
  let v97 : BitVec 1 := Scalar.cmpi .slt c2_i32_36 c0_i32_40
  let v98 : BitVec 32 := Scalar.extui v97
  let v99 : BitVec 32 := Scalar.subi v96 v98
  let v100 : BitVec 1 := Scalar.cmpi .ne v94 v99
  let v101 : BitVec 32 := Scalar.remsi v19 c2_i32_36
  let c0_i32_41 : BitVec 32 := 0#32
  let v102 : BitVec 1 := Scalar.cmpi .ne v101 c0_i32_41
  let v103 : BitVec 1 := Scalar.andi v100 v102
  let c1_i32_42 : BitVec 32 := 1#32
  let v104 : BitVec 32 := Scalar.subi v89 c1_i32_42
  let v105 : BitVec 32 := Scalar.select v103 v104 v89
  let c16_i32_43 : BitVec 32 := 16#32
  let v106 : BitVec 32 := Scalar.addi c16_i32_43 v105
  let c2_i32_44 : BitVec 32 := 2#32
  let v107 : BitVec 32 := Scalar.divsi v1 c2_i32_44
  let c0_i32_45 : BitVec 32 := 0#32
  let v108 : BitVec 1 := Scalar.cmpi .sgt v1 c0_i32_45
  let v109 : BitVec 32 := Scalar.extui v108
  let c0_i32_46 : BitVec 32 := 0#32
  let v110 : BitVec 1 := Scalar.cmpi .slt v1 c0_i32_46
  let v111 : BitVec 32 := Scalar.extui v110
  let v112 : BitVec 32 := Scalar.subi v109 v111
  let c0_i32_47 : BitVec 32 := 0#32
  let v113 : BitVec 1 := Scalar.cmpi .sgt c2_i32_44 c0_i32_47
  let v114 : BitVec 32 := Scalar.extui v113
  let c0_i32_48 : BitVec 32 := 0#32
  let v115 : BitVec 1 := Scalar.cmpi .slt c2_i32_44 c0_i32_48
  let v116 : BitVec 32 := Scalar.extui v115
  let v117 : BitVec 32 := Scalar.subi v114 v116
  let v118 : BitVec 1 := Scalar.cmpi .ne v112 v117
  let v119 : BitVec 32 := Scalar.remsi v1 c2_i32_44
  let c0_i32_49 : BitVec 32 := 0#32
  let v120 : BitVec 1 := Scalar.cmpi .ne v119 c0_i32_49
  let v121 : BitVec 1 := Scalar.andi v118 v120
  let c1_i32_50 : BitVec 32 := 1#32
  let v122 : BitVec 32 := Scalar.subi v107 c1_i32_50
  let v123 : BitVec 32 := Scalar.select v121 v122 v107
  let c16_i32_51 : BitVec 32 := 16#32
  let v124 : BitVec 32 := Scalar.addi c16_i32_51 v123
  let v125 : BitVec 32 := Scalar.select v0 v106 v124
  let c32_i32_52 : BitVec 32 := 32#32
  let v126 : BitVec 1 := Scalar.cmpi .slt arg0 c32_i32_52
  let c1_i32_53 : BitVec 32 := 1#32
  let v127 : BitVec 32 := Scalar.select v126 v57 c1_i32_53
  let c0_i32_54 : BitVec 32 := 0#32
  ![v19.toNat, v127.toNat]

def cc0_transform_2 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi arg0 c8_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi arg0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.select v0 v18 c3_i32
  let c4_i32 : BitVec 32 := 4#32
  let v20 : BitVec 32 := Scalar.divsi arg0 c4_i32
  let c0_i32_5 : BitVec 32 := 0#32
  let v21 : BitVec 1 := Scalar.cmpi .sgt arg0 c0_i32_5
  let v22 : BitVec 32 := Scalar.extui v21
  let c0_i32_6 : BitVec 32 := 0#32
  let v23 : BitVec 1 := Scalar.cmpi .slt arg0 c0_i32_6
  let v24 : BitVec 32 := Scalar.extui v23
  let v25 : BitVec 32 := Scalar.subi v22 v24
  let c0_i32_7 : BitVec 32 := 0#32
  let v26 : BitVec 1 := Scalar.cmpi .sgt c4_i32 c0_i32_7
  let v27 : BitVec 32 := Scalar.extui v26
  let c0_i32_8 : BitVec 32 := 0#32
  let v28 : BitVec 1 := Scalar.cmpi .slt c4_i32 c0_i32_8
  let v29 : BitVec 32 := Scalar.extui v28
  let v30 : BitVec 32 := Scalar.subi v27 v29
  let v31 : BitVec 1 := Scalar.cmpi .ne v25 v30
  let v32 : BitVec 32 := Scalar.remsi arg0 c4_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let c0_i32_11 : BitVec 32 := 0#32
  let v37 : BitVec 1 := Scalar.cmpi .eq c2_i32 c0_i32_11
  let c1_i32_12 : BitVec 32 := 1#32
  let v38 : BitVec 32 := Scalar.select v37 c1_i32_12 c2_i32
  let v39 : BitVec 32 := Scalar.remsi v36 v38
  let c0_i32_13 : BitVec 32 := 0#32
  let v40 : BitVec 1 := Scalar.cmpi .ne v39 c0_i32_13
  let c0_i32_14 : BitVec 32 := 0#32
  let v41 : BitVec 1 := Scalar.cmpi .slt v39 c0_i32_14
  let c0_i32_15 : BitVec 32 := 0#32
  let v42 : BitVec 1 := Scalar.cmpi .slt v38 c0_i32_15
  let v43 : BitVec 1 := Scalar.xori v41 v42
  let v44 : BitVec 1 := Scalar.andi v43 v40
  let v45 : BitVec 32 := Scalar.addi v39 v38
  let v46 : BitVec 32 := Scalar.select v44 v45 v39
  let c2_i32_16 : BitVec 32 := 2#32
  let c0_i32_17 : BitVec 32 := 0#32
  let v47 : BitVec 1 := Scalar.cmpi .eq c2_i32_16 c0_i32_17
  let c1_i32_18 : BitVec 32 := 1#32
  let v48 : BitVec 32 := Scalar.select v47 c1_i32_18 c2_i32_16
  let v49 : BitVec 32 := Scalar.remsi v1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.select v0 v46 v56
  let c4_i32_22 : BitVec 32 := 4#32
  let v58 : BitVec 32 := Scalar.muli v19 c4_i32_22
  let c4_i32_23 : BitVec 32 := 4#32
  let c0_i32_24 : BitVec 32 := 0#32
  let v59 : BitVec 1 := Scalar.cmpi .eq c4_i32_23 c0_i32_24
  let c1_i32_25 : BitVec 32 := 1#32
  let v60 : BitVec 32 := Scalar.select v59 c1_i32_25 c4_i32_23
  let v61 : BitVec 32 := Scalar.remsi arg0 v60
  let c0_i32_26 : BitVec 32 := 0#32
  let v62 : BitVec 1 := Scalar.cmpi .ne v61 c0_i32_26
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let v66 : BitVec 1 := Scalar.andi v65 v62
  let v67 : BitVec 32 := Scalar.addi v61 v60
  let v68 : BitVec 32 := Scalar.select v66 v67 v61
  let v69 : BitVec 32 := Scalar.addi v58 v68
  let c2_i32_29 : BitVec 32 := 2#32
  let v70 : BitVec 32 := Scalar.divsi v1 c2_i32_29
  let c0_i32_30 : BitVec 32 := 0#32
  let v71 : BitVec 1 := Scalar.cmpi .sgt v1 c0_i32_30
  let v72 : BitVec 32 := Scalar.extui v71
  let c0_i32_31 : BitVec 32 := 0#32
  let v73 : BitVec 1 := Scalar.cmpi .slt v1 c0_i32_31
  let v74 : BitVec 32 := Scalar.extui v73
  let v75 : BitVec 32 := Scalar.subi v72 v74
  let c0_i32_32 : BitVec 32 := 0#32
  let v76 : BitVec 1 := Scalar.cmpi .sgt c2_i32_29 c0_i32_32
  let v77 : BitVec 32 := Scalar.extui v76
  let c0_i32_33 : BitVec 32 := 0#32
  let v78 : BitVec 1 := Scalar.cmpi .slt c2_i32_29 c0_i32_33
  let v79 : BitVec 32 := Scalar.extui v78
  let v80 : BitVec 32 := Scalar.subi v77 v79
  let v81 : BitVec 1 := Scalar.cmpi .ne v75 v80
  let v82 : BitVec 32 := Scalar.remsi v1 c2_i32_29
  let c0_i32_34 : BitVec 32 := 0#32
  let v83 : BitVec 1 := Scalar.cmpi .ne v82 c0_i32_34
  let v84 : BitVec 1 := Scalar.andi v81 v83
  let c1_i32_35 : BitVec 32 := 1#32
  let v85 : BitVec 32 := Scalar.subi v70 c1_i32_35
  let v86 : BitVec 32 := Scalar.select v84 v85 v70
  let c16_i32 : BitVec 32 := 16#32
  let v87 : BitVec 32 := Scalar.addi c16_i32 v86
  let v88 : BitVec 32 := Scalar.select v0 v69 v87
  let c2_i32_36 : BitVec 32 := 2#32
  let v89 : BitVec 32 := Scalar.divsi v19 c2_i32_36
  let c0_i32_37 : BitVec 32 := 0#32
  let v90 : BitVec 1 := Scalar.cmpi .sgt v19 c0_i32_37
  let v91 : BitVec 32 := Scalar.extui v90
  let c0_i32_38 : BitVec 32 := 0#32
  let v92 : BitVec 1 := Scalar.cmpi .slt v19 c0_i32_38
  let v93 : BitVec 32 := Scalar.extui v92
  let v94 : BitVec 32 := Scalar.subi v91 v93
  let c0_i32_39 : BitVec 32 := 0#32
  let v95 : BitVec 1 := Scalar.cmpi .sgt c2_i32_36 c0_i32_39
  let v96 : BitVec 32 := Scalar.extui v95
  let c0_i32_40 : BitVec 32 := 0#32
  let v97 : BitVec 1 := Scalar.cmpi .slt c2_i32_36 c0_i32_40
  let v98 : BitVec 32 := Scalar.extui v97
  let v99 : BitVec 32 := Scalar.subi v96 v98
  let v100 : BitVec 1 := Scalar.cmpi .ne v94 v99
  let v101 : BitVec 32 := Scalar.remsi v19 c2_i32_36
  let c0_i32_41 : BitVec 32 := 0#32
  let v102 : BitVec 1 := Scalar.cmpi .ne v101 c0_i32_41
  let v103 : BitVec 1 := Scalar.andi v100 v102
  let c1_i32_42 : BitVec 32 := 1#32
  let v104 : BitVec 32 := Scalar.subi v89 c1_i32_42
  let v105 : BitVec 32 := Scalar.select v103 v104 v89
  let c16_i32_43 : BitVec 32 := 16#32
  let v106 : BitVec 32 := Scalar.addi c16_i32_43 v105
  let c2_i32_44 : BitVec 32 := 2#32
  let v107 : BitVec 32 := Scalar.divsi v1 c2_i32_44
  let c0_i32_45 : BitVec 32 := 0#32
  let v108 : BitVec 1 := Scalar.cmpi .sgt v1 c0_i32_45
  let v109 : BitVec 32 := Scalar.extui v108
  let c0_i32_46 : BitVec 32 := 0#32
  let v110 : BitVec 1 := Scalar.cmpi .slt v1 c0_i32_46
  let v111 : BitVec 32 := Scalar.extui v110
  let v112 : BitVec 32 := Scalar.subi v109 v111
  let c0_i32_47 : BitVec 32 := 0#32
  let v113 : BitVec 1 := Scalar.cmpi .sgt c2_i32_44 c0_i32_47
  let v114 : BitVec 32 := Scalar.extui v113
  let c0_i32_48 : BitVec 32 := 0#32
  let v115 : BitVec 1 := Scalar.cmpi .slt c2_i32_44 c0_i32_48
  let v116 : BitVec 32 := Scalar.extui v115
  let v117 : BitVec 32 := Scalar.subi v114 v116
  let v118 : BitVec 1 := Scalar.cmpi .ne v112 v117
  let v119 : BitVec 32 := Scalar.remsi v1 c2_i32_44
  let c0_i32_49 : BitVec 32 := 0#32
  let v120 : BitVec 1 := Scalar.cmpi .ne v119 c0_i32_49
  let v121 : BitVec 1 := Scalar.andi v118 v120
  let c1_i32_50 : BitVec 32 := 1#32
  let v122 : BitVec 32 := Scalar.subi v107 c1_i32_50
  let v123 : BitVec 32 := Scalar.select v121 v122 v107
  let c16_i32_51 : BitVec 32 := 16#32
  let v124 : BitVec 32 := Scalar.addi c16_i32_51 v123
  let v125 : BitVec 32 := Scalar.select v0 v106 v124
  let c32_i32_52 : BitVec 32 := 32#32
  let v126 : BitVec 1 := Scalar.cmpi .slt arg0 c32_i32_52
  let c32_i32_53 : BitVec 32 := 32#32
  let v127 : BitVec 32 := Scalar.subi arg0 c32_i32_53
  let c8_i32_54 : BitVec 32 := 8#32
  let v128 : BitVec 32 := Scalar.divsi arg0 c8_i32_54
  let c0_i32_55 : BitVec 32 := 0#32
  let v129 : BitVec 1 := Scalar.cmpi .sgt arg0 c0_i32_55
  let v130 : BitVec 32 := Scalar.extui v129
  let c0_i32_56 : BitVec 32 := 0#32
  let v131 : BitVec 1 := Scalar.cmpi .slt arg0 c0_i32_56
  let v132 : BitVec 32 := Scalar.extui v131
  let v133 : BitVec 32 := Scalar.subi v130 v132
  let c0_i32_57 : BitVec 32 := 0#32
  let v134 : BitVec 1 := Scalar.cmpi .sgt c8_i32_54 c0_i32_57
  let v135 : BitVec 32 := Scalar.extui v134
  let c0_i32_58 : BitVec 32 := 0#32
  let v136 : BitVec 1 := Scalar.cmpi .slt c8_i32_54 c0_i32_58
  let v137 : BitVec 32 := Scalar.extui v136
  let v138 : BitVec 32 := Scalar.subi v135 v137
  let v139 : BitVec 1 := Scalar.cmpi .ne v133 v138
  let v140 : BitVec 32 := Scalar.remsi arg0 c8_i32_54
  let c0_i32_59 : BitVec 32 := 0#32
  let v141 : BitVec 1 := Scalar.cmpi .ne v140 c0_i32_59
  let v142 : BitVec 1 := Scalar.andi v139 v141
  let c1_i32_60 : BitVec 32 := 1#32
  let v143 : BitVec 32 := Scalar.subi v128 c1_i32_60
  let v144 : BitVec 32 := Scalar.select v142 v143 v128
  let c3_i32_61 : BitVec 32 := 3#32
  let v145 : BitVec 32 := Scalar.select v126 v144 c3_i32_61
  let c4_i32_62 : BitVec 32 := 4#32
  let v146 : BitVec 32 := Scalar.divsi arg0 c4_i32_62
  let c0_i32_63 : BitVec 32 := 0#32
  let v147 : BitVec 1 := Scalar.cmpi .sgt arg0 c0_i32_63
  let v148 : BitVec 32 := Scalar.extui v147
  let c0_i32_64 : BitVec 32 := 0#32
  let v149 : BitVec 1 := Scalar.cmpi .slt arg0 c0_i32_64
  let v150 : BitVec 32 := Scalar.extui v149
  let v151 : BitVec 32 := Scalar.subi v148 v150
  let c0_i32_65 : BitVec 32 := 0#32
  let v152 : BitVec 1 := Scalar.cmpi .sgt c4_i32_62 c0_i32_65
  let v153 : BitVec 32 := Scalar.extui v152
  let c0_i32_66 : BitVec 32 := 0#32
  let v154 : BitVec 1 := Scalar.cmpi .slt c4_i32_62 c0_i32_66
  let v155 : BitVec 32 := Scalar.extui v154
  let v156 : BitVec 32 := Scalar.subi v153 v155
  let v157 : BitVec 1 := Scalar.cmpi .ne v151 v156
  let v158 : BitVec 32 := Scalar.remsi arg0 c4_i32_62
  let c0_i32_67 : BitVec 32 := 0#32
  let v159 : BitVec 1 := Scalar.cmpi .ne v158 c0_i32_67
  let v160 : BitVec 1 := Scalar.andi v157 v159
  let c1_i32_68 : BitVec 32 := 1#32
  let v161 : BitVec 32 := Scalar.subi v146 c1_i32_68
  let v162 : BitVec 32 := Scalar.select v160 v161 v146
  let c2_i32_69 : BitVec 32 := 2#32
  let c0_i32_70 : BitVec 32 := 0#32
  let v163 : BitVec 1 := Scalar.cmpi .eq c2_i32_69 c0_i32_70
  let c1_i32_71 : BitVec 32 := 1#32
  let v164 : BitVec 32 := Scalar.select v163 c1_i32_71 c2_i32_69
  let v165 : BitVec 32 := Scalar.remsi v162 v164
  let c0_i32_72 : BitVec 32 := 0#32
  let v166 : BitVec 1 := Scalar.cmpi .ne v165 c0_i32_72
  let c0_i32_73 : BitVec 32 := 0#32
  let v167 : BitVec 1 := Scalar.cmpi .slt v165 c0_i32_73
  let c0_i32_74 : BitVec 32 := 0#32
  let v168 : BitVec 1 := Scalar.cmpi .slt v164 c0_i32_74
  let v169 : BitVec 1 := Scalar.xori v167 v168
  let v170 : BitVec 1 := Scalar.andi v169 v166
  let v171 : BitVec 32 := Scalar.addi v165 v164
  let v172 : BitVec 32 := Scalar.select v170 v171 v165
  let c2_i32_75 : BitVec 32 := 2#32
  let c0_i32_76 : BitVec 32 := 0#32
  let v173 : BitVec 1 := Scalar.cmpi .eq c2_i32_75 c0_i32_76
  let c1_i32_77 : BitVec 32 := 1#32
  let v174 : BitVec 32 := Scalar.select v173 c1_i32_77 c2_i32_75
  let v175 : BitVec 32 := Scalar.remsi v127 v174
  let c0_i32_78 : BitVec 32 := 0#32
  let v176 : BitVec 1 := Scalar.cmpi .ne v175 c0_i32_78
  let c0_i32_79 : BitVec 32 := 0#32
  let v177 : BitVec 1 := Scalar.cmpi .slt v175 c0_i32_79
  let c0_i32_80 : BitVec 32 := 0#32
  let v178 : BitVec 1 := Scalar.cmpi .slt v174 c0_i32_80
  let v179 : BitVec 1 := Scalar.xori v177 v178
  let v180 : BitVec 1 := Scalar.andi v179 v176
  let v181 : BitVec 32 := Scalar.addi v175 v174
  let v182 : BitVec 32 := Scalar.select v180 v181 v175
  let v183 : BitVec 32 := Scalar.select v126 v172 v182
  let c4_i32_81 : BitVec 32 := 4#32
  let v184 : BitVec 32 := Scalar.muli v145 c4_i32_81
  let c4_i32_82 : BitVec 32 := 4#32
  let c0_i32_83 : BitVec 32 := 0#32
  let v185 : BitVec 1 := Scalar.cmpi .eq c4_i32_82 c0_i32_83
  let c1_i32_84 : BitVec 32 := 1#32
  let v186 : BitVec 32 := Scalar.select v185 c1_i32_84 c4_i32_82
  let v187 : BitVec 32 := Scalar.remsi arg0 v186
  let c0_i32_85 : BitVec 32 := 0#32
  let v188 : BitVec 1 := Scalar.cmpi .ne v187 c0_i32_85
  let c0_i32_86 : BitVec 32 := 0#32
  let v189 : BitVec 1 := Scalar.cmpi .slt v187 c0_i32_86
  let c0_i32_87 : BitVec 32 := 0#32
  let v190 : BitVec 1 := Scalar.cmpi .slt v186 c0_i32_87
  let v191 : BitVec 1 := Scalar.xori v189 v190
  let v192 : BitVec 1 := Scalar.andi v191 v188
  let v193 : BitVec 32 := Scalar.addi v187 v186
  let v194 : BitVec 32 := Scalar.select v192 v193 v187
  let v195 : BitVec 32 := Scalar.addi v184 v194
  let c2_i32_88 : BitVec 32 := 2#32
  let v196 : BitVec 32 := Scalar.divsi v127 c2_i32_88
  let c0_i32_89 : BitVec 32 := 0#32
  let v197 : BitVec 1 := Scalar.cmpi .sgt v127 c0_i32_89
  let v198 : BitVec 32 := Scalar.extui v197
  let c0_i32_90 : BitVec 32 := 0#32
  let v199 : BitVec 1 := Scalar.cmpi .slt v127 c0_i32_90
  let v200 : BitVec 32 := Scalar.extui v199
  let v201 : BitVec 32 := Scalar.subi v198 v200
  let c0_i32_91 : BitVec 32 := 0#32
  let v202 : BitVec 1 := Scalar.cmpi .sgt c2_i32_88 c0_i32_91
  let v203 : BitVec 32 := Scalar.extui v202
  let c0_i32_92 : BitVec 32 := 0#32
  let v204 : BitVec 1 := Scalar.cmpi .slt c2_i32_88 c0_i32_92
  let v205 : BitVec 32 := Scalar.extui v204
  let v206 : BitVec 32 := Scalar.subi v203 v205
  let v207 : BitVec 1 := Scalar.cmpi .ne v201 v206
  let v208 : BitVec 32 := Scalar.remsi v127 c2_i32_88
  let c0_i32_93 : BitVec 32 := 0#32
  let v209 : BitVec 1 := Scalar.cmpi .ne v208 c0_i32_93
  let v210 : BitVec 1 := Scalar.andi v207 v209
  let c1_i32_94 : BitVec 32 := 1#32
  let v211 : BitVec 32 := Scalar.subi v196 c1_i32_94
  let v212 : BitVec 32 := Scalar.select v210 v211 v196
  let c16_i32_95 : BitVec 32 := 16#32
  let v213 : BitVec 32 := Scalar.addi c16_i32_95 v212
  let v214 : BitVec 32 := Scalar.select v126 v195 v213
  let c2_i32_96 : BitVec 32 := 2#32
  let v215 : BitVec 32 := Scalar.divsi v145 c2_i32_96
  let c0_i32_97 : BitVec 32 := 0#32
  let v216 : BitVec 1 := Scalar.cmpi .sgt v145 c0_i32_97
  let v217 : BitVec 32 := Scalar.extui v216
  let c0_i32_98 : BitVec 32 := 0#32
  let v218 : BitVec 1 := Scalar.cmpi .slt v145 c0_i32_98
  let v219 : BitVec 32 := Scalar.extui v218
  let v220 : BitVec 32 := Scalar.subi v217 v219
  let c0_i32_99 : BitVec 32 := 0#32
  let v221 : BitVec 1 := Scalar.cmpi .sgt c2_i32_96 c0_i32_99
  let v222 : BitVec 32 := Scalar.extui v221
  let c0_i32_100 : BitVec 32 := 0#32
  let v223 : BitVec 1 := Scalar.cmpi .slt c2_i32_96 c0_i32_100
  let v224 : BitVec 32 := Scalar.extui v223
  let v225 : BitVec 32 := Scalar.subi v222 v224
  let v226 : BitVec 1 := Scalar.cmpi .ne v220 v225
  let v227 : BitVec 32 := Scalar.remsi v145 c2_i32_96
  let c0_i32_101 : BitVec 32 := 0#32
  let v228 : BitVec 1 := Scalar.cmpi .ne v227 c0_i32_101
  let v229 : BitVec 1 := Scalar.andi v226 v228
  let c1_i32_102 : BitVec 32 := 1#32
  let v230 : BitVec 32 := Scalar.subi v215 c1_i32_102
  let v231 : BitVec 32 := Scalar.select v229 v230 v215
  let c16_i32_103 : BitVec 32 := 16#32
  let v232 : BitVec 32 := Scalar.addi c16_i32_103 v231
  let c2_i32_104 : BitVec 32 := 2#32
  let v233 : BitVec 32 := Scalar.divsi v127 c2_i32_104
  let c0_i32_105 : BitVec 32 := 0#32
  let v234 : BitVec 1 := Scalar.cmpi .sgt v127 c0_i32_105
  let v235 : BitVec 32 := Scalar.extui v234
  let c0_i32_106 : BitVec 32 := 0#32
  let v236 : BitVec 1 := Scalar.cmpi .slt v127 c0_i32_106
  let v237 : BitVec 32 := Scalar.extui v236
  let v238 : BitVec 32 := Scalar.subi v235 v237
  let c0_i32_107 : BitVec 32 := 0#32
  let v239 : BitVec 1 := Scalar.cmpi .sgt c2_i32_104 c0_i32_107
  let v240 : BitVec 32 := Scalar.extui v239
  let c0_i32_108 : BitVec 32 := 0#32
  let v241 : BitVec 1 := Scalar.cmpi .slt c2_i32_104 c0_i32_108
  let v242 : BitVec 32 := Scalar.extui v241
  let v243 : BitVec 32 := Scalar.subi v240 v242
  let v244 : BitVec 1 := Scalar.cmpi .ne v238 v243
  let v245 : BitVec 32 := Scalar.remsi v127 c2_i32_104
  let c0_i32_109 : BitVec 32 := 0#32
  let v246 : BitVec 1 := Scalar.cmpi .ne v245 c0_i32_109
  let v247 : BitVec 1 := Scalar.andi v244 v246
  let c1_i32_110 : BitVec 32 := 1#32
  let v248 : BitVec 32 := Scalar.subi v233 c1_i32_110
  let v249 : BitVec 32 := Scalar.select v247 v248 v233
  let c16_i32_111 : BitVec 32 := 16#32
  let v250 : BitVec 32 := Scalar.addi c16_i32_111 v249
  let v251 : BitVec 32 := Scalar.select v126 v232 v250
  let c0_i32_112 : BitVec 32 := 0#32
  ![v125.toNat, v183.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi arg0 c8_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi arg0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.select v0 v18 c3_i32
  let c4_i32 : BitVec 32 := 4#32
  let v20 : BitVec 32 := Scalar.divsi arg0 c4_i32
  let c0_i32_5 : BitVec 32 := 0#32
  let v21 : BitVec 1 := Scalar.cmpi .sgt arg0 c0_i32_5
  let v22 : BitVec 32 := Scalar.extui v21
  let c0_i32_6 : BitVec 32 := 0#32
  let v23 : BitVec 1 := Scalar.cmpi .slt arg0 c0_i32_6
  let v24 : BitVec 32 := Scalar.extui v23
  let v25 : BitVec 32 := Scalar.subi v22 v24
  let c0_i32_7 : BitVec 32 := 0#32
  let v26 : BitVec 1 := Scalar.cmpi .sgt c4_i32 c0_i32_7
  let v27 : BitVec 32 := Scalar.extui v26
  let c0_i32_8 : BitVec 32 := 0#32
  let v28 : BitVec 1 := Scalar.cmpi .slt c4_i32 c0_i32_8
  let v29 : BitVec 32 := Scalar.extui v28
  let v30 : BitVec 32 := Scalar.subi v27 v29
  let v31 : BitVec 1 := Scalar.cmpi .ne v25 v30
  let v32 : BitVec 32 := Scalar.remsi arg0 c4_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let c0_i32_11 : BitVec 32 := 0#32
  let v37 : BitVec 1 := Scalar.cmpi .eq c2_i32 c0_i32_11
  let c1_i32_12 : BitVec 32 := 1#32
  let v38 : BitVec 32 := Scalar.select v37 c1_i32_12 c2_i32
  let v39 : BitVec 32 := Scalar.remsi v36 v38
  let c0_i32_13 : BitVec 32 := 0#32
  let v40 : BitVec 1 := Scalar.cmpi .ne v39 c0_i32_13
  let c0_i32_14 : BitVec 32 := 0#32
  let v41 : BitVec 1 := Scalar.cmpi .slt v39 c0_i32_14
  let c0_i32_15 : BitVec 32 := 0#32
  let v42 : BitVec 1 := Scalar.cmpi .slt v38 c0_i32_15
  let v43 : BitVec 1 := Scalar.xori v41 v42
  let v44 : BitVec 1 := Scalar.andi v43 v40
  let v45 : BitVec 32 := Scalar.addi v39 v38
  let v46 : BitVec 32 := Scalar.select v44 v45 v39
  let c2_i32_16 : BitVec 32 := 2#32
  let c0_i32_17 : BitVec 32 := 0#32
  let v47 : BitVec 1 := Scalar.cmpi .eq c2_i32_16 c0_i32_17
  let c1_i32_18 : BitVec 32 := 1#32
  let v48 : BitVec 32 := Scalar.select v47 c1_i32_18 c2_i32_16
  let v49 : BitVec 32 := Scalar.remsi v1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.select v0 v46 v56
  let c4_i32_22 : BitVec 32 := 4#32
  let v58 : BitVec 32 := Scalar.muli v19 c4_i32_22
  let c4_i32_23 : BitVec 32 := 4#32
  let c0_i32_24 : BitVec 32 := 0#32
  let v59 : BitVec 1 := Scalar.cmpi .eq c4_i32_23 c0_i32_24
  let c1_i32_25 : BitVec 32 := 1#32
  let v60 : BitVec 32 := Scalar.select v59 c1_i32_25 c4_i32_23
  let v61 : BitVec 32 := Scalar.remsi arg0 v60
  let c0_i32_26 : BitVec 32 := 0#32
  let v62 : BitVec 1 := Scalar.cmpi .ne v61 c0_i32_26
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let v66 : BitVec 1 := Scalar.andi v65 v62
  let v67 : BitVec 32 := Scalar.addi v61 v60
  let v68 : BitVec 32 := Scalar.select v66 v67 v61
  let v69 : BitVec 32 := Scalar.addi v58 v68
  let c2_i32_29 : BitVec 32 := 2#32
  let v70 : BitVec 32 := Scalar.divsi v1 c2_i32_29
  let c0_i32_30 : BitVec 32 := 0#32
  let v71 : BitVec 1 := Scalar.cmpi .sgt v1 c0_i32_30
  let v72 : BitVec 32 := Scalar.extui v71
  let c0_i32_31 : BitVec 32 := 0#32
  let v73 : BitVec 1 := Scalar.cmpi .slt v1 c0_i32_31
  let v74 : BitVec 32 := Scalar.extui v73
  let v75 : BitVec 32 := Scalar.subi v72 v74
  let c0_i32_32 : BitVec 32 := 0#32
  let v76 : BitVec 1 := Scalar.cmpi .sgt c2_i32_29 c0_i32_32
  let v77 : BitVec 32 := Scalar.extui v76
  let c0_i32_33 : BitVec 32 := 0#32
  let v78 : BitVec 1 := Scalar.cmpi .slt c2_i32_29 c0_i32_33
  let v79 : BitVec 32 := Scalar.extui v78
  let v80 : BitVec 32 := Scalar.subi v77 v79
  let v81 : BitVec 1 := Scalar.cmpi .ne v75 v80
  let v82 : BitVec 32 := Scalar.remsi v1 c2_i32_29
  let c0_i32_34 : BitVec 32 := 0#32
  let v83 : BitVec 1 := Scalar.cmpi .ne v82 c0_i32_34
  let v84 : BitVec 1 := Scalar.andi v81 v83
  let c1_i32_35 : BitVec 32 := 1#32
  let v85 : BitVec 32 := Scalar.subi v70 c1_i32_35
  let v86 : BitVec 32 := Scalar.select v84 v85 v70
  let c16_i32 : BitVec 32 := 16#32
  let v87 : BitVec 32 := Scalar.addi c16_i32 v86
  let v88 : BitVec 32 := Scalar.select v0 v69 v87
  let c2_i32_36 : BitVec 32 := 2#32
  let v89 : BitVec 32 := Scalar.divsi v19 c2_i32_36
  let c0_i32_37 : BitVec 32 := 0#32
  let v90 : BitVec 1 := Scalar.cmpi .sgt v19 c0_i32_37
  let v91 : BitVec 32 := Scalar.extui v90
  let c0_i32_38 : BitVec 32 := 0#32
  let v92 : BitVec 1 := Scalar.cmpi .slt v19 c0_i32_38
  let v93 : BitVec 32 := Scalar.extui v92
  let v94 : BitVec 32 := Scalar.subi v91 v93
  let c0_i32_39 : BitVec 32 := 0#32
  let v95 : BitVec 1 := Scalar.cmpi .sgt c2_i32_36 c0_i32_39
  let v96 : BitVec 32 := Scalar.extui v95
  let c0_i32_40 : BitVec 32 := 0#32
  let v97 : BitVec 1 := Scalar.cmpi .slt c2_i32_36 c0_i32_40
  let v98 : BitVec 32 := Scalar.extui v97
  let v99 : BitVec 32 := Scalar.subi v96 v98
  let v100 : BitVec 1 := Scalar.cmpi .ne v94 v99
  let v101 : BitVec 32 := Scalar.remsi v19 c2_i32_36
  let c0_i32_41 : BitVec 32 := 0#32
  let v102 : BitVec 1 := Scalar.cmpi .ne v101 c0_i32_41
  let v103 : BitVec 1 := Scalar.andi v100 v102
  let c1_i32_42 : BitVec 32 := 1#32
  let v104 : BitVec 32 := Scalar.subi v89 c1_i32_42
  let v105 : BitVec 32 := Scalar.select v103 v104 v89
  let c16_i32_43 : BitVec 32 := 16#32
  let v106 : BitVec 32 := Scalar.addi c16_i32_43 v105
  let c2_i32_44 : BitVec 32 := 2#32
  let v107 : BitVec 32 := Scalar.divsi v1 c2_i32_44
  let c0_i32_45 : BitVec 32 := 0#32
  let v108 : BitVec 1 := Scalar.cmpi .sgt v1 c0_i32_45
  let v109 : BitVec 32 := Scalar.extui v108
  let c0_i32_46 : BitVec 32 := 0#32
  let v110 : BitVec 1 := Scalar.cmpi .slt v1 c0_i32_46
  let v111 : BitVec 32 := Scalar.extui v110
  let v112 : BitVec 32 := Scalar.subi v109 v111
  let c0_i32_47 : BitVec 32 := 0#32
  let v113 : BitVec 1 := Scalar.cmpi .sgt c2_i32_44 c0_i32_47
  let v114 : BitVec 32 := Scalar.extui v113
  let c0_i32_48 : BitVec 32 := 0#32
  let v115 : BitVec 1 := Scalar.cmpi .slt c2_i32_44 c0_i32_48
  let v116 : BitVec 32 := Scalar.extui v115
  let v117 : BitVec 32 := Scalar.subi v114 v116
  let v118 : BitVec 1 := Scalar.cmpi .ne v112 v117
  let v119 : BitVec 32 := Scalar.remsi v1 c2_i32_44
  let c0_i32_49 : BitVec 32 := 0#32
  let v120 : BitVec 1 := Scalar.cmpi .ne v119 c0_i32_49
  let v121 : BitVec 1 := Scalar.andi v118 v120
  let c1_i32_50 : BitVec 32 := 1#32
  let v122 : BitVec 32 := Scalar.subi v107 c1_i32_50
  let v123 : BitVec 32 := Scalar.select v121 v122 v107
  let c16_i32_51 : BitVec 32 := 16#32
  let v124 : BitVec 32 := Scalar.addi c16_i32_51 v123
  let v125 : BitVec 32 := Scalar.select v0 v106 v124
  let c32_i32_52 : BitVec 32 := 32#32
  let v126 : BitVec 1 := Scalar.cmpi .slt arg0 c32_i32_52
  let c1_i32_53 : BitVec 32 := 1#32
  let v127 : BitVec 32 := Scalar.select v126 v57 c1_i32_53
  let c0_i32_54 : BitVec 32 := 0#32
  ![v19.toNat, v127.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi arg0 c8_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi arg0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.select v0 v18 c3_i32
  let c4_i32 : BitVec 32 := 4#32
  let v20 : BitVec 32 := Scalar.divsi arg0 c4_i32
  let c0_i32_5 : BitVec 32 := 0#32
  let v21 : BitVec 1 := Scalar.cmpi .sgt arg0 c0_i32_5
  let v22 : BitVec 32 := Scalar.extui v21
  let c0_i32_6 : BitVec 32 := 0#32
  let v23 : BitVec 1 := Scalar.cmpi .slt arg0 c0_i32_6
  let v24 : BitVec 32 := Scalar.extui v23
  let v25 : BitVec 32 := Scalar.subi v22 v24
  let c0_i32_7 : BitVec 32 := 0#32
  let v26 : BitVec 1 := Scalar.cmpi .sgt c4_i32 c0_i32_7
  let v27 : BitVec 32 := Scalar.extui v26
  let c0_i32_8 : BitVec 32 := 0#32
  let v28 : BitVec 1 := Scalar.cmpi .slt c4_i32 c0_i32_8
  let v29 : BitVec 32 := Scalar.extui v28
  let v30 : BitVec 32 := Scalar.subi v27 v29
  let v31 : BitVec 1 := Scalar.cmpi .ne v25 v30
  let v32 : BitVec 32 := Scalar.remsi arg0 c4_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let c0_i32_11 : BitVec 32 := 0#32
  let v37 : BitVec 1 := Scalar.cmpi .eq c2_i32 c0_i32_11
  let c1_i32_12 : BitVec 32 := 1#32
  let v38 : BitVec 32 := Scalar.select v37 c1_i32_12 c2_i32
  let v39 : BitVec 32 := Scalar.remsi v36 v38
  let c0_i32_13 : BitVec 32 := 0#32
  let v40 : BitVec 1 := Scalar.cmpi .ne v39 c0_i32_13
  let c0_i32_14 : BitVec 32 := 0#32
  let v41 : BitVec 1 := Scalar.cmpi .slt v39 c0_i32_14
  let c0_i32_15 : BitVec 32 := 0#32
  let v42 : BitVec 1 := Scalar.cmpi .slt v38 c0_i32_15
  let v43 : BitVec 1 := Scalar.xori v41 v42
  let v44 : BitVec 1 := Scalar.andi v43 v40
  let v45 : BitVec 32 := Scalar.addi v39 v38
  let v46 : BitVec 32 := Scalar.select v44 v45 v39
  let c2_i32_16 : BitVec 32 := 2#32
  let c0_i32_17 : BitVec 32 := 0#32
  let v47 : BitVec 1 := Scalar.cmpi .eq c2_i32_16 c0_i32_17
  let c1_i32_18 : BitVec 32 := 1#32
  let v48 : BitVec 32 := Scalar.select v47 c1_i32_18 c2_i32_16
  let v49 : BitVec 32 := Scalar.remsi v1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.select v0 v46 v56
  let c4_i32_22 : BitVec 32 := 4#32
  let v58 : BitVec 32 := Scalar.muli v19 c4_i32_22
  let c4_i32_23 : BitVec 32 := 4#32
  let c0_i32_24 : BitVec 32 := 0#32
  let v59 : BitVec 1 := Scalar.cmpi .eq c4_i32_23 c0_i32_24
  let c1_i32_25 : BitVec 32 := 1#32
  let v60 : BitVec 32 := Scalar.select v59 c1_i32_25 c4_i32_23
  let v61 : BitVec 32 := Scalar.remsi arg0 v60
  let c0_i32_26 : BitVec 32 := 0#32
  let v62 : BitVec 1 := Scalar.cmpi .ne v61 c0_i32_26
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let v66 : BitVec 1 := Scalar.andi v65 v62
  let v67 : BitVec 32 := Scalar.addi v61 v60
  let v68 : BitVec 32 := Scalar.select v66 v67 v61
  let v69 : BitVec 32 := Scalar.addi v58 v68
  let c2_i32_29 : BitVec 32 := 2#32
  let v70 : BitVec 32 := Scalar.divsi v1 c2_i32_29
  let c0_i32_30 : BitVec 32 := 0#32
  let v71 : BitVec 1 := Scalar.cmpi .sgt v1 c0_i32_30
  let v72 : BitVec 32 := Scalar.extui v71
  let c0_i32_31 : BitVec 32 := 0#32
  let v73 : BitVec 1 := Scalar.cmpi .slt v1 c0_i32_31
  let v74 : BitVec 32 := Scalar.extui v73
  let v75 : BitVec 32 := Scalar.subi v72 v74
  let c0_i32_32 : BitVec 32 := 0#32
  let v76 : BitVec 1 := Scalar.cmpi .sgt c2_i32_29 c0_i32_32
  let v77 : BitVec 32 := Scalar.extui v76
  let c0_i32_33 : BitVec 32 := 0#32
  let v78 : BitVec 1 := Scalar.cmpi .slt c2_i32_29 c0_i32_33
  let v79 : BitVec 32 := Scalar.extui v78
  let v80 : BitVec 32 := Scalar.subi v77 v79
  let v81 : BitVec 1 := Scalar.cmpi .ne v75 v80
  let v82 : BitVec 32 := Scalar.remsi v1 c2_i32_29
  let c0_i32_34 : BitVec 32 := 0#32
  let v83 : BitVec 1 := Scalar.cmpi .ne v82 c0_i32_34
  let v84 : BitVec 1 := Scalar.andi v81 v83
  let c1_i32_35 : BitVec 32 := 1#32
  let v85 : BitVec 32 := Scalar.subi v70 c1_i32_35
  let v86 : BitVec 32 := Scalar.select v84 v85 v70
  let c16_i32 : BitVec 32 := 16#32
  let v87 : BitVec 32 := Scalar.addi c16_i32 v86
  let v88 : BitVec 32 := Scalar.select v0 v69 v87
  let c2_i32_36 : BitVec 32 := 2#32
  let v89 : BitVec 32 := Scalar.divsi v19 c2_i32_36
  let c0_i32_37 : BitVec 32 := 0#32
  let v90 : BitVec 1 := Scalar.cmpi .sgt v19 c0_i32_37
  let v91 : BitVec 32 := Scalar.extui v90
  let c0_i32_38 : BitVec 32 := 0#32
  let v92 : BitVec 1 := Scalar.cmpi .slt v19 c0_i32_38
  let v93 : BitVec 32 := Scalar.extui v92
  let v94 : BitVec 32 := Scalar.subi v91 v93
  let c0_i32_39 : BitVec 32 := 0#32
  let v95 : BitVec 1 := Scalar.cmpi .sgt c2_i32_36 c0_i32_39
  let v96 : BitVec 32 := Scalar.extui v95
  let c0_i32_40 : BitVec 32 := 0#32
  let v97 : BitVec 1 := Scalar.cmpi .slt c2_i32_36 c0_i32_40
  let v98 : BitVec 32 := Scalar.extui v97
  let v99 : BitVec 32 := Scalar.subi v96 v98
  let v100 : BitVec 1 := Scalar.cmpi .ne v94 v99
  let v101 : BitVec 32 := Scalar.remsi v19 c2_i32_36
  let c0_i32_41 : BitVec 32 := 0#32
  let v102 : BitVec 1 := Scalar.cmpi .ne v101 c0_i32_41
  let v103 : BitVec 1 := Scalar.andi v100 v102
  let c1_i32_42 : BitVec 32 := 1#32
  let v104 : BitVec 32 := Scalar.subi v89 c1_i32_42
  let v105 : BitVec 32 := Scalar.select v103 v104 v89
  let c16_i32_43 : BitVec 32 := 16#32
  let v106 : BitVec 32 := Scalar.addi c16_i32_43 v105
  let c2_i32_44 : BitVec 32 := 2#32
  let v107 : BitVec 32 := Scalar.divsi v1 c2_i32_44
  let c0_i32_45 : BitVec 32 := 0#32
  let v108 : BitVec 1 := Scalar.cmpi .sgt v1 c0_i32_45
  let v109 : BitVec 32 := Scalar.extui v108
  let c0_i32_46 : BitVec 32 := 0#32
  let v110 : BitVec 1 := Scalar.cmpi .slt v1 c0_i32_46
  let v111 : BitVec 32 := Scalar.extui v110
  let v112 : BitVec 32 := Scalar.subi v109 v111
  let c0_i32_47 : BitVec 32 := 0#32
  let v113 : BitVec 1 := Scalar.cmpi .sgt c2_i32_44 c0_i32_47
  let v114 : BitVec 32 := Scalar.extui v113
  let c0_i32_48 : BitVec 32 := 0#32
  let v115 : BitVec 1 := Scalar.cmpi .slt c2_i32_44 c0_i32_48
  let v116 : BitVec 32 := Scalar.extui v115
  let v117 : BitVec 32 := Scalar.subi v114 v116
  let v118 : BitVec 1 := Scalar.cmpi .ne v112 v117
  let v119 : BitVec 32 := Scalar.remsi v1 c2_i32_44
  let c0_i32_49 : BitVec 32 := 0#32
  let v120 : BitVec 1 := Scalar.cmpi .ne v119 c0_i32_49
  let v121 : BitVec 1 := Scalar.andi v118 v120
  let c1_i32_50 : BitVec 32 := 1#32
  let v122 : BitVec 32 := Scalar.subi v107 c1_i32_50
  let v123 : BitVec 32 := Scalar.select v121 v122 v107
  let c16_i32_51 : BitVec 32 := 16#32
  let v124 : BitVec 32 := Scalar.addi c16_i32_51 v123
  let v125 : BitVec 32 := Scalar.select v0 v106 v124
  let c32_i32_52 : BitVec 32 := 32#32
  let v126 : BitVec 1 := Scalar.cmpi .slt arg0 c32_i32_52
  let c32_i32_53 : BitVec 32 := 32#32
  let v127 : BitVec 32 := Scalar.subi arg0 c32_i32_53
  let c8_i32_54 : BitVec 32 := 8#32
  let v128 : BitVec 32 := Scalar.divsi arg0 c8_i32_54
  let c0_i32_55 : BitVec 32 := 0#32
  let v129 : BitVec 1 := Scalar.cmpi .sgt arg0 c0_i32_55
  let v130 : BitVec 32 := Scalar.extui v129
  let c0_i32_56 : BitVec 32 := 0#32
  let v131 : BitVec 1 := Scalar.cmpi .slt arg0 c0_i32_56
  let v132 : BitVec 32 := Scalar.extui v131
  let v133 : BitVec 32 := Scalar.subi v130 v132
  let c0_i32_57 : BitVec 32 := 0#32
  let v134 : BitVec 1 := Scalar.cmpi .sgt c8_i32_54 c0_i32_57
  let v135 : BitVec 32 := Scalar.extui v134
  let c0_i32_58 : BitVec 32 := 0#32
  let v136 : BitVec 1 := Scalar.cmpi .slt c8_i32_54 c0_i32_58
  let v137 : BitVec 32 := Scalar.extui v136
  let v138 : BitVec 32 := Scalar.subi v135 v137
  let v139 : BitVec 1 := Scalar.cmpi .ne v133 v138
  let v140 : BitVec 32 := Scalar.remsi arg0 c8_i32_54
  let c0_i32_59 : BitVec 32 := 0#32
  let v141 : BitVec 1 := Scalar.cmpi .ne v140 c0_i32_59
  let v142 : BitVec 1 := Scalar.andi v139 v141
  let c1_i32_60 : BitVec 32 := 1#32
  let v143 : BitVec 32 := Scalar.subi v128 c1_i32_60
  let v144 : BitVec 32 := Scalar.select v142 v143 v128
  let c3_i32_61 : BitVec 32 := 3#32
  let v145 : BitVec 32 := Scalar.select v126 v144 c3_i32_61
  let c4_i32_62 : BitVec 32 := 4#32
  let v146 : BitVec 32 := Scalar.divsi arg0 c4_i32_62
  let c0_i32_63 : BitVec 32 := 0#32
  let v147 : BitVec 1 := Scalar.cmpi .sgt arg0 c0_i32_63
  let v148 : BitVec 32 := Scalar.extui v147
  let c0_i32_64 : BitVec 32 := 0#32
  let v149 : BitVec 1 := Scalar.cmpi .slt arg0 c0_i32_64
  let v150 : BitVec 32 := Scalar.extui v149
  let v151 : BitVec 32 := Scalar.subi v148 v150
  let c0_i32_65 : BitVec 32 := 0#32
  let v152 : BitVec 1 := Scalar.cmpi .sgt c4_i32_62 c0_i32_65
  let v153 : BitVec 32 := Scalar.extui v152
  let c0_i32_66 : BitVec 32 := 0#32
  let v154 : BitVec 1 := Scalar.cmpi .slt c4_i32_62 c0_i32_66
  let v155 : BitVec 32 := Scalar.extui v154
  let v156 : BitVec 32 := Scalar.subi v153 v155
  let v157 : BitVec 1 := Scalar.cmpi .ne v151 v156
  let v158 : BitVec 32 := Scalar.remsi arg0 c4_i32_62
  let c0_i32_67 : BitVec 32 := 0#32
  let v159 : BitVec 1 := Scalar.cmpi .ne v158 c0_i32_67
  let v160 : BitVec 1 := Scalar.andi v157 v159
  let c1_i32_68 : BitVec 32 := 1#32
  let v161 : BitVec 32 := Scalar.subi v146 c1_i32_68
  let v162 : BitVec 32 := Scalar.select v160 v161 v146
  let c2_i32_69 : BitVec 32 := 2#32
  let c0_i32_70 : BitVec 32 := 0#32
  let v163 : BitVec 1 := Scalar.cmpi .eq c2_i32_69 c0_i32_70
  let c1_i32_71 : BitVec 32 := 1#32
  let v164 : BitVec 32 := Scalar.select v163 c1_i32_71 c2_i32_69
  let v165 : BitVec 32 := Scalar.remsi v162 v164
  let c0_i32_72 : BitVec 32 := 0#32
  let v166 : BitVec 1 := Scalar.cmpi .ne v165 c0_i32_72
  let c0_i32_73 : BitVec 32 := 0#32
  let v167 : BitVec 1 := Scalar.cmpi .slt v165 c0_i32_73
  let c0_i32_74 : BitVec 32 := 0#32
  let v168 : BitVec 1 := Scalar.cmpi .slt v164 c0_i32_74
  let v169 : BitVec 1 := Scalar.xori v167 v168
  let v170 : BitVec 1 := Scalar.andi v169 v166
  let v171 : BitVec 32 := Scalar.addi v165 v164
  let v172 : BitVec 32 := Scalar.select v170 v171 v165
  let c2_i32_75 : BitVec 32 := 2#32
  let c0_i32_76 : BitVec 32 := 0#32
  let v173 : BitVec 1 := Scalar.cmpi .eq c2_i32_75 c0_i32_76
  let c1_i32_77 : BitVec 32 := 1#32
  let v174 : BitVec 32 := Scalar.select v173 c1_i32_77 c2_i32_75
  let v175 : BitVec 32 := Scalar.remsi v127 v174
  let c0_i32_78 : BitVec 32 := 0#32
  let v176 : BitVec 1 := Scalar.cmpi .ne v175 c0_i32_78
  let c0_i32_79 : BitVec 32 := 0#32
  let v177 : BitVec 1 := Scalar.cmpi .slt v175 c0_i32_79
  let c0_i32_80 : BitVec 32 := 0#32
  let v178 : BitVec 1 := Scalar.cmpi .slt v174 c0_i32_80
  let v179 : BitVec 1 := Scalar.xori v177 v178
  let v180 : BitVec 1 := Scalar.andi v179 v176
  let v181 : BitVec 32 := Scalar.addi v175 v174
  let v182 : BitVec 32 := Scalar.select v180 v181 v175
  let v183 : BitVec 32 := Scalar.select v126 v172 v182
  let c4_i32_81 : BitVec 32 := 4#32
  let v184 : BitVec 32 := Scalar.muli v145 c4_i32_81
  let c4_i32_82 : BitVec 32 := 4#32
  let c0_i32_83 : BitVec 32 := 0#32
  let v185 : BitVec 1 := Scalar.cmpi .eq c4_i32_82 c0_i32_83
  let c1_i32_84 : BitVec 32 := 1#32
  let v186 : BitVec 32 := Scalar.select v185 c1_i32_84 c4_i32_82
  let v187 : BitVec 32 := Scalar.remsi arg0 v186
  let c0_i32_85 : BitVec 32 := 0#32
  let v188 : BitVec 1 := Scalar.cmpi .ne v187 c0_i32_85
  let c0_i32_86 : BitVec 32 := 0#32
  let v189 : BitVec 1 := Scalar.cmpi .slt v187 c0_i32_86
  let c0_i32_87 : BitVec 32 := 0#32
  let v190 : BitVec 1 := Scalar.cmpi .slt v186 c0_i32_87
  let v191 : BitVec 1 := Scalar.xori v189 v190
  let v192 : BitVec 1 := Scalar.andi v191 v188
  let v193 : BitVec 32 := Scalar.addi v187 v186
  let v194 : BitVec 32 := Scalar.select v192 v193 v187
  let v195 : BitVec 32 := Scalar.addi v184 v194
  let c2_i32_88 : BitVec 32 := 2#32
  let v196 : BitVec 32 := Scalar.divsi v127 c2_i32_88
  let c0_i32_89 : BitVec 32 := 0#32
  let v197 : BitVec 1 := Scalar.cmpi .sgt v127 c0_i32_89
  let v198 : BitVec 32 := Scalar.extui v197
  let c0_i32_90 : BitVec 32 := 0#32
  let v199 : BitVec 1 := Scalar.cmpi .slt v127 c0_i32_90
  let v200 : BitVec 32 := Scalar.extui v199
  let v201 : BitVec 32 := Scalar.subi v198 v200
  let c0_i32_91 : BitVec 32 := 0#32
  let v202 : BitVec 1 := Scalar.cmpi .sgt c2_i32_88 c0_i32_91
  let v203 : BitVec 32 := Scalar.extui v202
  let c0_i32_92 : BitVec 32 := 0#32
  let v204 : BitVec 1 := Scalar.cmpi .slt c2_i32_88 c0_i32_92
  let v205 : BitVec 32 := Scalar.extui v204
  let v206 : BitVec 32 := Scalar.subi v203 v205
  let v207 : BitVec 1 := Scalar.cmpi .ne v201 v206
  let v208 : BitVec 32 := Scalar.remsi v127 c2_i32_88
  let c0_i32_93 : BitVec 32 := 0#32
  let v209 : BitVec 1 := Scalar.cmpi .ne v208 c0_i32_93
  let v210 : BitVec 1 := Scalar.andi v207 v209
  let c1_i32_94 : BitVec 32 := 1#32
  let v211 : BitVec 32 := Scalar.subi v196 c1_i32_94
  let v212 : BitVec 32 := Scalar.select v210 v211 v196
  let c16_i32_95 : BitVec 32 := 16#32
  let v213 : BitVec 32 := Scalar.addi c16_i32_95 v212
  let v214 : BitVec 32 := Scalar.select v126 v195 v213
  let c2_i32_96 : BitVec 32 := 2#32
  let v215 : BitVec 32 := Scalar.divsi v145 c2_i32_96
  let c0_i32_97 : BitVec 32 := 0#32
  let v216 : BitVec 1 := Scalar.cmpi .sgt v145 c0_i32_97
  let v217 : BitVec 32 := Scalar.extui v216
  let c0_i32_98 : BitVec 32 := 0#32
  let v218 : BitVec 1 := Scalar.cmpi .slt v145 c0_i32_98
  let v219 : BitVec 32 := Scalar.extui v218
  let v220 : BitVec 32 := Scalar.subi v217 v219
  let c0_i32_99 : BitVec 32 := 0#32
  let v221 : BitVec 1 := Scalar.cmpi .sgt c2_i32_96 c0_i32_99
  let v222 : BitVec 32 := Scalar.extui v221
  let c0_i32_100 : BitVec 32 := 0#32
  let v223 : BitVec 1 := Scalar.cmpi .slt c2_i32_96 c0_i32_100
  let v224 : BitVec 32 := Scalar.extui v223
  let v225 : BitVec 32 := Scalar.subi v222 v224
  let v226 : BitVec 1 := Scalar.cmpi .ne v220 v225
  let v227 : BitVec 32 := Scalar.remsi v145 c2_i32_96
  let c0_i32_101 : BitVec 32 := 0#32
  let v228 : BitVec 1 := Scalar.cmpi .ne v227 c0_i32_101
  let v229 : BitVec 1 := Scalar.andi v226 v228
  let c1_i32_102 : BitVec 32 := 1#32
  let v230 : BitVec 32 := Scalar.subi v215 c1_i32_102
  let v231 : BitVec 32 := Scalar.select v229 v230 v215
  let c16_i32_103 : BitVec 32 := 16#32
  let v232 : BitVec 32 := Scalar.addi c16_i32_103 v231
  let c2_i32_104 : BitVec 32 := 2#32
  let v233 : BitVec 32 := Scalar.divsi v127 c2_i32_104
  let c0_i32_105 : BitVec 32 := 0#32
  let v234 : BitVec 1 := Scalar.cmpi .sgt v127 c0_i32_105
  let v235 : BitVec 32 := Scalar.extui v234
  let c0_i32_106 : BitVec 32 := 0#32
  let v236 : BitVec 1 := Scalar.cmpi .slt v127 c0_i32_106
  let v237 : BitVec 32 := Scalar.extui v236
  let v238 : BitVec 32 := Scalar.subi v235 v237
  let c0_i32_107 : BitVec 32 := 0#32
  let v239 : BitVec 1 := Scalar.cmpi .sgt c2_i32_104 c0_i32_107
  let v240 : BitVec 32 := Scalar.extui v239
  let c0_i32_108 : BitVec 32 := 0#32
  let v241 : BitVec 1 := Scalar.cmpi .slt c2_i32_104 c0_i32_108
  let v242 : BitVec 32 := Scalar.extui v241
  let v243 : BitVec 32 := Scalar.subi v240 v242
  let v244 : BitVec 1 := Scalar.cmpi .ne v238 v243
  let v245 : BitVec 32 := Scalar.remsi v127 c2_i32_104
  let c0_i32_109 : BitVec 32 := 0#32
  let v246 : BitVec 1 := Scalar.cmpi .ne v245 c0_i32_109
  let v247 : BitVec 1 := Scalar.andi v244 v246
  let c1_i32_110 : BitVec 32 := 1#32
  let v248 : BitVec 32 := Scalar.subi v233 c1_i32_110
  let v249 : BitVec 32 := Scalar.select v247 v248 v233
  let c16_i32_111 : BitVec 32 := 16#32
  let v250 : BitVec 32 := Scalar.addi c16_i32_111 v249
  let v251 : BitVec 32 := Scalar.select v126 v232 v250
  let c0_i32_112 : BitVec 32 := 0#32
  ![v125.toNat, v183.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi arg0 c8_i32
  let c0_i32 : BitVec 32 := 0#32
  let v3 : BitVec 1 := Scalar.cmpi .sgt arg0 c0_i32
  let v4 : BitVec 32 := Scalar.extui v3
  let c0_i32_1 : BitVec 32 := 0#32
  let v5 : BitVec 1 := Scalar.cmpi .slt arg0 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi arg0 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.select v0 v18 c3_i32
  let c4_i32 : BitVec 32 := 4#32
  let v20 : BitVec 32 := Scalar.divsi arg0 c4_i32
  let c0_i32_5 : BitVec 32 := 0#32
  let v21 : BitVec 1 := Scalar.cmpi .sgt arg0 c0_i32_5
  let v22 : BitVec 32 := Scalar.extui v21
  let c0_i32_6 : BitVec 32 := 0#32
  let v23 : BitVec 1 := Scalar.cmpi .slt arg0 c0_i32_6
  let v24 : BitVec 32 := Scalar.extui v23
  let v25 : BitVec 32 := Scalar.subi v22 v24
  let c0_i32_7 : BitVec 32 := 0#32
  let v26 : BitVec 1 := Scalar.cmpi .sgt c4_i32 c0_i32_7
  let v27 : BitVec 32 := Scalar.extui v26
  let c0_i32_8 : BitVec 32 := 0#32
  let v28 : BitVec 1 := Scalar.cmpi .slt c4_i32 c0_i32_8
  let v29 : BitVec 32 := Scalar.extui v28
  let v30 : BitVec 32 := Scalar.subi v27 v29
  let v31 : BitVec 1 := Scalar.cmpi .ne v25 v30
  let v32 : BitVec 32 := Scalar.remsi arg0 c4_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let c0_i32_11 : BitVec 32 := 0#32
  let v37 : BitVec 1 := Scalar.cmpi .eq c2_i32 c0_i32_11
  let c1_i32_12 : BitVec 32 := 1#32
  let v38 : BitVec 32 := Scalar.select v37 c1_i32_12 c2_i32
  let v39 : BitVec 32 := Scalar.remsi v36 v38
  let c0_i32_13 : BitVec 32 := 0#32
  let v40 : BitVec 1 := Scalar.cmpi .ne v39 c0_i32_13
  let c0_i32_14 : BitVec 32 := 0#32
  let v41 : BitVec 1 := Scalar.cmpi .slt v39 c0_i32_14
  let c0_i32_15 : BitVec 32 := 0#32
  let v42 : BitVec 1 := Scalar.cmpi .slt v38 c0_i32_15
  let v43 : BitVec 1 := Scalar.xori v41 v42
  let v44 : BitVec 1 := Scalar.andi v43 v40
  let v45 : BitVec 32 := Scalar.addi v39 v38
  let v46 : BitVec 32 := Scalar.select v44 v45 v39
  let c2_i32_16 : BitVec 32 := 2#32
  let c0_i32_17 : BitVec 32 := 0#32
  let v47 : BitVec 1 := Scalar.cmpi .eq c2_i32_16 c0_i32_17
  let c1_i32_18 : BitVec 32 := 1#32
  let v48 : BitVec 32 := Scalar.select v47 c1_i32_18 c2_i32_16
  let v49 : BitVec 32 := Scalar.remsi v1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.select v0 v46 v56
  let c4_i32_22 : BitVec 32 := 4#32
  let v58 : BitVec 32 := Scalar.muli v19 c4_i32_22
  let c4_i32_23 : BitVec 32 := 4#32
  let c0_i32_24 : BitVec 32 := 0#32
  let v59 : BitVec 1 := Scalar.cmpi .eq c4_i32_23 c0_i32_24
  let c1_i32_25 : BitVec 32 := 1#32
  let v60 : BitVec 32 := Scalar.select v59 c1_i32_25 c4_i32_23
  let v61 : BitVec 32 := Scalar.remsi arg0 v60
  let c0_i32_26 : BitVec 32 := 0#32
  let v62 : BitVec 1 := Scalar.cmpi .ne v61 c0_i32_26
  let c0_i32_27 : BitVec 32 := 0#32
  let v63 : BitVec 1 := Scalar.cmpi .slt v61 c0_i32_27
  let c0_i32_28 : BitVec 32 := 0#32
  let v64 : BitVec 1 := Scalar.cmpi .slt v60 c0_i32_28
  let v65 : BitVec 1 := Scalar.xori v63 v64
  let v66 : BitVec 1 := Scalar.andi v65 v62
  let v67 : BitVec 32 := Scalar.addi v61 v60
  let v68 : BitVec 32 := Scalar.select v66 v67 v61
  let v69 : BitVec 32 := Scalar.addi v58 v68
  let c2_i32_29 : BitVec 32 := 2#32
  let v70 : BitVec 32 := Scalar.divsi v1 c2_i32_29
  let c0_i32_30 : BitVec 32 := 0#32
  let v71 : BitVec 1 := Scalar.cmpi .sgt v1 c0_i32_30
  let v72 : BitVec 32 := Scalar.extui v71
  let c0_i32_31 : BitVec 32 := 0#32
  let v73 : BitVec 1 := Scalar.cmpi .slt v1 c0_i32_31
  let v74 : BitVec 32 := Scalar.extui v73
  let v75 : BitVec 32 := Scalar.subi v72 v74
  let c0_i32_32 : BitVec 32 := 0#32
  let v76 : BitVec 1 := Scalar.cmpi .sgt c2_i32_29 c0_i32_32
  let v77 : BitVec 32 := Scalar.extui v76
  let c0_i32_33 : BitVec 32 := 0#32
  let v78 : BitVec 1 := Scalar.cmpi .slt c2_i32_29 c0_i32_33
  let v79 : BitVec 32 := Scalar.extui v78
  let v80 : BitVec 32 := Scalar.subi v77 v79
  let v81 : BitVec 1 := Scalar.cmpi .ne v75 v80
  let v82 : BitVec 32 := Scalar.remsi v1 c2_i32_29
  let c0_i32_34 : BitVec 32 := 0#32
  let v83 : BitVec 1 := Scalar.cmpi .ne v82 c0_i32_34
  let v84 : BitVec 1 := Scalar.andi v81 v83
  let c1_i32_35 : BitVec 32 := 1#32
  let v85 : BitVec 32 := Scalar.subi v70 c1_i32_35
  let v86 : BitVec 32 := Scalar.select v84 v85 v70
  let c16_i32 : BitVec 32 := 16#32
  let v87 : BitVec 32 := Scalar.addi c16_i32 v86
  let v88 : BitVec 32 := Scalar.select v0 v69 v87
  let c2_i32_36 : BitVec 32 := 2#32
  let v89 : BitVec 32 := Scalar.divsi v19 c2_i32_36
  let c0_i32_37 : BitVec 32 := 0#32
  let v90 : BitVec 1 := Scalar.cmpi .sgt v19 c0_i32_37
  let v91 : BitVec 32 := Scalar.extui v90
  let c0_i32_38 : BitVec 32 := 0#32
  let v92 : BitVec 1 := Scalar.cmpi .slt v19 c0_i32_38
  let v93 : BitVec 32 := Scalar.extui v92
  let v94 : BitVec 32 := Scalar.subi v91 v93
  let c0_i32_39 : BitVec 32 := 0#32
  let v95 : BitVec 1 := Scalar.cmpi .sgt c2_i32_36 c0_i32_39
  let v96 : BitVec 32 := Scalar.extui v95
  let c0_i32_40 : BitVec 32 := 0#32
  let v97 : BitVec 1 := Scalar.cmpi .slt c2_i32_36 c0_i32_40
  let v98 : BitVec 32 := Scalar.extui v97
  let v99 : BitVec 32 := Scalar.subi v96 v98
  let v100 : BitVec 1 := Scalar.cmpi .ne v94 v99
  let v101 : BitVec 32 := Scalar.remsi v19 c2_i32_36
  let c0_i32_41 : BitVec 32 := 0#32
  let v102 : BitVec 1 := Scalar.cmpi .ne v101 c0_i32_41
  let v103 : BitVec 1 := Scalar.andi v100 v102
  let c1_i32_42 : BitVec 32 := 1#32
  let v104 : BitVec 32 := Scalar.subi v89 c1_i32_42
  let v105 : BitVec 32 := Scalar.select v103 v104 v89
  let c16_i32_43 : BitVec 32 := 16#32
  let v106 : BitVec 32 := Scalar.addi c16_i32_43 v105
  let c2_i32_44 : BitVec 32 := 2#32
  let v107 : BitVec 32 := Scalar.divsi v1 c2_i32_44
  let c0_i32_45 : BitVec 32 := 0#32
  let v108 : BitVec 1 := Scalar.cmpi .sgt v1 c0_i32_45
  let v109 : BitVec 32 := Scalar.extui v108
  let c0_i32_46 : BitVec 32 := 0#32
  let v110 : BitVec 1 := Scalar.cmpi .slt v1 c0_i32_46
  let v111 : BitVec 32 := Scalar.extui v110
  let v112 : BitVec 32 := Scalar.subi v109 v111
  let c0_i32_47 : BitVec 32 := 0#32
  let v113 : BitVec 1 := Scalar.cmpi .sgt c2_i32_44 c0_i32_47
  let v114 : BitVec 32 := Scalar.extui v113
  let c0_i32_48 : BitVec 32 := 0#32
  let v115 : BitVec 1 := Scalar.cmpi .slt c2_i32_44 c0_i32_48
  let v116 : BitVec 32 := Scalar.extui v115
  let v117 : BitVec 32 := Scalar.subi v114 v116
  let v118 : BitVec 1 := Scalar.cmpi .ne v112 v117
  let v119 : BitVec 32 := Scalar.remsi v1 c2_i32_44
  let c0_i32_49 : BitVec 32 := 0#32
  let v120 : BitVec 1 := Scalar.cmpi .ne v119 c0_i32_49
  let v121 : BitVec 1 := Scalar.andi v118 v120
  let c1_i32_50 : BitVec 32 := 1#32
  let v122 : BitVec 32 := Scalar.subi v107 c1_i32_50
  let v123 : BitVec 32 := Scalar.select v121 v122 v107
  let c16_i32_51 : BitVec 32 := 16#32
  let v124 : BitVec 32 := Scalar.addi c16_i32_51 v123
  let v125 : BitVec 32 := Scalar.select v0 v106 v124
  let c32_i32_52 : BitVec 32 := 32#32
  let v126 : BitVec 1 := Scalar.cmpi .slt arg0 c32_i32_52
  let c32_i32_53 : BitVec 32 := 32#32
  let v127 : BitVec 32 := Scalar.subi arg0 c32_i32_53
  let c8_i32_54 : BitVec 32 := 8#32
  let v128 : BitVec 32 := Scalar.divsi arg0 c8_i32_54
  let c0_i32_55 : BitVec 32 := 0#32
  let v129 : BitVec 1 := Scalar.cmpi .sgt arg0 c0_i32_55
  let v130 : BitVec 32 := Scalar.extui v129
  let c0_i32_56 : BitVec 32 := 0#32
  let v131 : BitVec 1 := Scalar.cmpi .slt arg0 c0_i32_56
  let v132 : BitVec 32 := Scalar.extui v131
  let v133 : BitVec 32 := Scalar.subi v130 v132
  let c0_i32_57 : BitVec 32 := 0#32
  let v134 : BitVec 1 := Scalar.cmpi .sgt c8_i32_54 c0_i32_57
  let v135 : BitVec 32 := Scalar.extui v134
  let c0_i32_58 : BitVec 32 := 0#32
  let v136 : BitVec 1 := Scalar.cmpi .slt c8_i32_54 c0_i32_58
  let v137 : BitVec 32 := Scalar.extui v136
  let v138 : BitVec 32 := Scalar.subi v135 v137
  let v139 : BitVec 1 := Scalar.cmpi .ne v133 v138
  let v140 : BitVec 32 := Scalar.remsi arg0 c8_i32_54
  let c0_i32_59 : BitVec 32 := 0#32
  let v141 : BitVec 1 := Scalar.cmpi .ne v140 c0_i32_59
  let v142 : BitVec 1 := Scalar.andi v139 v141
  let c1_i32_60 : BitVec 32 := 1#32
  let v143 : BitVec 32 := Scalar.subi v128 c1_i32_60
  let v144 : BitVec 32 := Scalar.select v142 v143 v128
  let c3_i32_61 : BitVec 32 := 3#32
  let v145 : BitVec 32 := Scalar.select v126 v144 c3_i32_61
  let c4_i32_62 : BitVec 32 := 4#32
  let v146 : BitVec 32 := Scalar.divsi arg0 c4_i32_62
  let c0_i32_63 : BitVec 32 := 0#32
  let v147 : BitVec 1 := Scalar.cmpi .sgt arg0 c0_i32_63
  let v148 : BitVec 32 := Scalar.extui v147
  let c0_i32_64 : BitVec 32 := 0#32
  let v149 : BitVec 1 := Scalar.cmpi .slt arg0 c0_i32_64
  let v150 : BitVec 32 := Scalar.extui v149
  let v151 : BitVec 32 := Scalar.subi v148 v150
  let c0_i32_65 : BitVec 32 := 0#32
  let v152 : BitVec 1 := Scalar.cmpi .sgt c4_i32_62 c0_i32_65
  let v153 : BitVec 32 := Scalar.extui v152
  let c0_i32_66 : BitVec 32 := 0#32
  let v154 : BitVec 1 := Scalar.cmpi .slt c4_i32_62 c0_i32_66
  let v155 : BitVec 32 := Scalar.extui v154
  let v156 : BitVec 32 := Scalar.subi v153 v155
  let v157 : BitVec 1 := Scalar.cmpi .ne v151 v156
  let v158 : BitVec 32 := Scalar.remsi arg0 c4_i32_62
  let c0_i32_67 : BitVec 32 := 0#32
  let v159 : BitVec 1 := Scalar.cmpi .ne v158 c0_i32_67
  let v160 : BitVec 1 := Scalar.andi v157 v159
  let c1_i32_68 : BitVec 32 := 1#32
  let v161 : BitVec 32 := Scalar.subi v146 c1_i32_68
  let v162 : BitVec 32 := Scalar.select v160 v161 v146
  let c2_i32_69 : BitVec 32 := 2#32
  let c0_i32_70 : BitVec 32 := 0#32
  let v163 : BitVec 1 := Scalar.cmpi .eq c2_i32_69 c0_i32_70
  let c1_i32_71 : BitVec 32 := 1#32
  let v164 : BitVec 32 := Scalar.select v163 c1_i32_71 c2_i32_69
  let v165 : BitVec 32 := Scalar.remsi v162 v164
  let c0_i32_72 : BitVec 32 := 0#32
  let v166 : BitVec 1 := Scalar.cmpi .ne v165 c0_i32_72
  let c0_i32_73 : BitVec 32 := 0#32
  let v167 : BitVec 1 := Scalar.cmpi .slt v165 c0_i32_73
  let c0_i32_74 : BitVec 32 := 0#32
  let v168 : BitVec 1 := Scalar.cmpi .slt v164 c0_i32_74
  let v169 : BitVec 1 := Scalar.xori v167 v168
  let v170 : BitVec 1 := Scalar.andi v169 v166
  let v171 : BitVec 32 := Scalar.addi v165 v164
  let v172 : BitVec 32 := Scalar.select v170 v171 v165
  let c2_i32_75 : BitVec 32 := 2#32
  let c0_i32_76 : BitVec 32 := 0#32
  let v173 : BitVec 1 := Scalar.cmpi .eq c2_i32_75 c0_i32_76
  let c1_i32_77 : BitVec 32 := 1#32
  let v174 : BitVec 32 := Scalar.select v173 c1_i32_77 c2_i32_75
  let v175 : BitVec 32 := Scalar.remsi v127 v174
  let c0_i32_78 : BitVec 32 := 0#32
  let v176 : BitVec 1 := Scalar.cmpi .ne v175 c0_i32_78
  let c0_i32_79 : BitVec 32 := 0#32
  let v177 : BitVec 1 := Scalar.cmpi .slt v175 c0_i32_79
  let c0_i32_80 : BitVec 32 := 0#32
  let v178 : BitVec 1 := Scalar.cmpi .slt v174 c0_i32_80
  let v179 : BitVec 1 := Scalar.xori v177 v178
  let v180 : BitVec 1 := Scalar.andi v179 v176
  let v181 : BitVec 32 := Scalar.addi v175 v174
  let v182 : BitVec 32 := Scalar.select v180 v181 v175
  let v183 : BitVec 32 := Scalar.select v126 v172 v182
  let c4_i32_81 : BitVec 32 := 4#32
  let v184 : BitVec 32 := Scalar.muli v145 c4_i32_81
  let c4_i32_82 : BitVec 32 := 4#32
  let c0_i32_83 : BitVec 32 := 0#32
  let v185 : BitVec 1 := Scalar.cmpi .eq c4_i32_82 c0_i32_83
  let c1_i32_84 : BitVec 32 := 1#32
  let v186 : BitVec 32 := Scalar.select v185 c1_i32_84 c4_i32_82
  let v187 : BitVec 32 := Scalar.remsi arg0 v186
  let c0_i32_85 : BitVec 32 := 0#32
  let v188 : BitVec 1 := Scalar.cmpi .ne v187 c0_i32_85
  let c0_i32_86 : BitVec 32 := 0#32
  let v189 : BitVec 1 := Scalar.cmpi .slt v187 c0_i32_86
  let c0_i32_87 : BitVec 32 := 0#32
  let v190 : BitVec 1 := Scalar.cmpi .slt v186 c0_i32_87
  let v191 : BitVec 1 := Scalar.xori v189 v190
  let v192 : BitVec 1 := Scalar.andi v191 v188
  let v193 : BitVec 32 := Scalar.addi v187 v186
  let v194 : BitVec 32 := Scalar.select v192 v193 v187
  let v195 : BitVec 32 := Scalar.addi v184 v194
  let c2_i32_88 : BitVec 32 := 2#32
  let v196 : BitVec 32 := Scalar.divsi v127 c2_i32_88
  let c0_i32_89 : BitVec 32 := 0#32
  let v197 : BitVec 1 := Scalar.cmpi .sgt v127 c0_i32_89
  let v198 : BitVec 32 := Scalar.extui v197
  let c0_i32_90 : BitVec 32 := 0#32
  let v199 : BitVec 1 := Scalar.cmpi .slt v127 c0_i32_90
  let v200 : BitVec 32 := Scalar.extui v199
  let v201 : BitVec 32 := Scalar.subi v198 v200
  let c0_i32_91 : BitVec 32 := 0#32
  let v202 : BitVec 1 := Scalar.cmpi .sgt c2_i32_88 c0_i32_91
  let v203 : BitVec 32 := Scalar.extui v202
  let c0_i32_92 : BitVec 32 := 0#32
  let v204 : BitVec 1 := Scalar.cmpi .slt c2_i32_88 c0_i32_92
  let v205 : BitVec 32 := Scalar.extui v204
  let v206 : BitVec 32 := Scalar.subi v203 v205
  let v207 : BitVec 1 := Scalar.cmpi .ne v201 v206
  let v208 : BitVec 32 := Scalar.remsi v127 c2_i32_88
  let c0_i32_93 : BitVec 32 := 0#32
  let v209 : BitVec 1 := Scalar.cmpi .ne v208 c0_i32_93
  let v210 : BitVec 1 := Scalar.andi v207 v209
  let c1_i32_94 : BitVec 32 := 1#32
  let v211 : BitVec 32 := Scalar.subi v196 c1_i32_94
  let v212 : BitVec 32 := Scalar.select v210 v211 v196
  let c16_i32_95 : BitVec 32 := 16#32
  let v213 : BitVec 32 := Scalar.addi c16_i32_95 v212
  let v214 : BitVec 32 := Scalar.select v126 v195 v213
  let c2_i32_96 : BitVec 32 := 2#32
  let v215 : BitVec 32 := Scalar.divsi v145 c2_i32_96
  let c0_i32_97 : BitVec 32 := 0#32
  let v216 : BitVec 1 := Scalar.cmpi .sgt v145 c0_i32_97
  let v217 : BitVec 32 := Scalar.extui v216
  let c0_i32_98 : BitVec 32 := 0#32
  let v218 : BitVec 1 := Scalar.cmpi .slt v145 c0_i32_98
  let v219 : BitVec 32 := Scalar.extui v218
  let v220 : BitVec 32 := Scalar.subi v217 v219
  let c0_i32_99 : BitVec 32 := 0#32
  let v221 : BitVec 1 := Scalar.cmpi .sgt c2_i32_96 c0_i32_99
  let v222 : BitVec 32 := Scalar.extui v221
  let c0_i32_100 : BitVec 32 := 0#32
  let v223 : BitVec 1 := Scalar.cmpi .slt c2_i32_96 c0_i32_100
  let v224 : BitVec 32 := Scalar.extui v223
  let v225 : BitVec 32 := Scalar.subi v222 v224
  let v226 : BitVec 1 := Scalar.cmpi .ne v220 v225
  let v227 : BitVec 32 := Scalar.remsi v145 c2_i32_96
  let c0_i32_101 : BitVec 32 := 0#32
  let v228 : BitVec 1 := Scalar.cmpi .ne v227 c0_i32_101
  let v229 : BitVec 1 := Scalar.andi v226 v228
  let c1_i32_102 : BitVec 32 := 1#32
  let v230 : BitVec 32 := Scalar.subi v215 c1_i32_102
  let v231 : BitVec 32 := Scalar.select v229 v230 v215
  let c16_i32_103 : BitVec 32 := 16#32
  let v232 : BitVec 32 := Scalar.addi c16_i32_103 v231
  let c2_i32_104 : BitVec 32 := 2#32
  let v233 : BitVec 32 := Scalar.divsi v127 c2_i32_104
  let c0_i32_105 : BitVec 32 := 0#32
  let v234 : BitVec 1 := Scalar.cmpi .sgt v127 c0_i32_105
  let v235 : BitVec 32 := Scalar.extui v234
  let c0_i32_106 : BitVec 32 := 0#32
  let v236 : BitVec 1 := Scalar.cmpi .slt v127 c0_i32_106
  let v237 : BitVec 32 := Scalar.extui v236
  let v238 : BitVec 32 := Scalar.subi v235 v237
  let c0_i32_107 : BitVec 32 := 0#32
  let v239 : BitVec 1 := Scalar.cmpi .sgt c2_i32_104 c0_i32_107
  let v240 : BitVec 32 := Scalar.extui v239
  let c0_i32_108 : BitVec 32 := 0#32
  let v241 : BitVec 1 := Scalar.cmpi .slt c2_i32_104 c0_i32_108
  let v242 : BitVec 32 := Scalar.extui v241
  let v243 : BitVec 32 := Scalar.subi v240 v242
  let v244 : BitVec 1 := Scalar.cmpi .ne v238 v243
  let v245 : BitVec 32 := Scalar.remsi v127 c2_i32_104
  let c0_i32_109 : BitVec 32 := 0#32
  let v246 : BitVec 1 := Scalar.cmpi .ne v245 c0_i32_109
  let v247 : BitVec 1 := Scalar.andi v244 v246
  let c1_i32_110 : BitVec 32 := 1#32
  let v248 : BitVec 32 := Scalar.subi v233 c1_i32_110
  let v249 : BitVec 32 := Scalar.select v247 v248 v233
  let c16_i32_111 : BitVec 32 := 16#32
  let v250 : BitVec 32 := Scalar.addi c16_i32_111 v249
  let v251 : BitVec 32 := Scalar.select v126 v232 v250
  let c0_i32_112 : BitVec 32 := 0#32
  ![v88.toNat, v183.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnRefIdeal.lean ====
abbrev S9216x8x128 : Shape := ⟨3, ![9216, 8, 128]⟩
abbrev S9216x8x64 : Shape := ⟨3, ![9216, 8, 64]⟩
abbrev S9216x64 : Shape := ⟨2, ![9216, 64]⟩
abbrev S8192x8x128 : Shape := ⟨3, ![8192, 8, 128]⟩
abbrev S4x2048x8x128 : Shape := ⟨4, ![4, 2048, 8, 128]⟩
abbrev S8192x8x64 : Shape := ⟨3, ![8192, 8, 64]⟩
abbrev S4x2048x8x64 : Shape := ⟨4, ![4, 2048, 8, 64]⟩
abbrev S1024x8x128 : Shape := ⟨3, ![1024, 8, 128]⟩
abbrev S4x256x8x128 : Shape := ⟨4, ![4, 256, 8, 128]⟩
abbrev S4x2304x8x128 : Shape := ⟨4, ![4, 2304, 8, 128]⟩
abbrev S1024x64 : Shape := ⟨2, ![1024, 64]⟩
abbrev S4x256x64 : Shape := ⟨3, ![4, 256, 64]⟩
abbrev S8192x64 : Shape := ⟨2, ![8192, 64]⟩
abbrev S4x2048x64 : Shape := ⟨3, ![4, 2048, 64]⟩
abbrev S4x2304x64 : Shape := ⟨3, ![4, 2304, 64]⟩
abbrev S4x8x2048x2304 : Shape := ⟨4, ![4, 8, 2048, 2304]⟩
abbrev S4x2304x2048x8 : Shape := ⟨4, ![4, 2304, 2048, 8]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S1024x8x64 : Shape := ⟨3, ![1024, 8, 64]⟩
abbrev S4x256x8x64 : Shape := ⟨4, ![4, 256, 8, 64]⟩
abbrev S4x8x256x256 : Shape := ⟨4, ![4, 8, 256, 256]⟩
abbrev S4x256x256x8 : Shape := ⟨4, ![4, 256, 256, 8]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S8192x1024 : Shape := ⟨2, ![8192, 1024]⟩
abbrev S1024x1024 : Shape := ⟨2, ![1024, 1024]⟩
abbrev S9216x1024 : Shape := ⟨2, ![9216, 1024]⟩

abbrev nBuf : Space → Nat
  | .hbm => 86
  | .vmem => 0
  | .smem => 0
  | _ => 0

abbrev bufTy : (tb : Table) → Fin (tcTables nBuf tb) → BufTy
  | .hbm, ⟨0, _⟩ => ⟨S9216x8x128, .f32⟩
  | .hbm, ⟨1, _⟩ => ⟨S9216x8x64, .f32⟩
  | .hbm, ⟨2, _⟩ => ⟨S9216x8x128, .f32⟩
  | .hbm, ⟨3, _⟩ => ⟨S9216x64, .f32⟩
  | .hbm, ⟨4, _⟩ => ⟨S9216x8x128, .f32⟩
  | .hbm, ⟨5, _⟩ => ⟨S8192x8x128, .f32⟩
  | .hbm, ⟨6, _⟩ => ⟨S4x2048x8x128, .f32⟩
  | .hbm, ⟨7, _⟩ => ⟨S8192x8x64, .f32⟩
  | .hbm, ⟨8, _⟩ => ⟨S4x2048x8x64, .f32⟩
  | .hbm, ⟨9, _⟩ => ⟨S1024x8x128, .f32⟩
  | .hbm, ⟨10, _⟩ => ⟨S4x256x8x128, .f32⟩
  | .hbm, ⟨11, _⟩ => ⟨S8192x8x128, .f32⟩
  | .hbm, ⟨12, _⟩ => ⟨S4x2048x8x128, .f32⟩
  | .hbm, ⟨13, _⟩ => ⟨S4x2304x8x128, .f32⟩
  | .hbm, ⟨14, _⟩ => ⟨S1024x64, .f32⟩
  | .hbm, ⟨15, _⟩ => ⟨S4x256x64, .f32⟩
  | .hbm, ⟨16, _⟩ => ⟨S8192x64, .f32⟩
  | .hbm, ⟨17, _⟩ => ⟨S4x2048x64, .f32⟩
  | .hbm, ⟨18, _⟩ => ⟨S4x2304x64, .f32⟩
  | .hbm, ⟨19, _⟩ => ⟨S1024x8x128, .f32⟩
  | .hbm, ⟨20, _⟩ => ⟨S4x256x8x128, .f32⟩
  | .hbm, ⟨21, _⟩ => ⟨S8192x8x128, .f32⟩
  | .hbm, ⟨22, _⟩ => ⟨S4x2048x8x128, .f32⟩
  | .hbm, ⟨23, _⟩ => ⟨S4x2304x8x128, .f32⟩
  | .hbm, ⟨24, _⟩ => ⟨S4x8x2048x2304, .f32⟩
  | .hbm, ⟨25, _⟩ => ⟨S4x2304x2048x8, .f32⟩
  | .hbm, ⟨26, _⟩ => ⟨S4x8x2048x2304, .f32⟩
  | .hbm, ⟨27, _⟩ => ⟨S4x8x2048x2304, .f32⟩
  | .hbm, ⟨28, _⟩ => ⟨S_, .f32⟩
  | .hbm, ⟨29, _⟩ => ⟨S_, .f32⟩
  | .hbm, ⟨30, _⟩ => ⟨S4x8x2048x2304, .f32⟩
  | .hbm, ⟨31, _⟩ => ⟨S4x8x2048x2304, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048x1, .f32⟩
  | .hbm, ⟨38, _⟩ => ⟨S4x8x2048x2304, .f32⟩
  | .hbm, ⟨39, _⟩ => ⟨S4x8x2048x2304, .f32⟩
  | .hbm, ⟨40, _⟩ => ⟨S4x8x2048x2304, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S4x8x2048x2304, .f32⟩
  | .hbm, ⟨45, _⟩ => ⟨S4x8x2048x2304, .f32⟩
  | .hbm, ⟨46, _⟩ => ⟨S4x8x128x2048, .f32⟩
  | .hbm, ⟨47, _⟩ => ⟨S4x2048x8x128, .f32⟩
  | .hbm, ⟨48, _⟩ => ⟨S1024x8x128, .f32⟩
  | .hbm, ⟨49, _⟩ => ⟨S4x256x8x128, .f32⟩
  | .hbm, ⟨50, _⟩ => ⟨S1024x8x64, .f32⟩
  | .hbm, ⟨51, _⟩ => ⟨S4x256x8x64, .f32⟩
  | .hbm, ⟨52, _⟩ => ⟨S1024x8x128, .f32⟩
  | .hbm, ⟨53, _⟩ => ⟨S4x256x8x128, .f32⟩
  | .hbm, ⟨54, _⟩ => ⟨S1024x64, .f32⟩
  | .hbm, ⟨55, _⟩ => ⟨S4x256x64, .f32⟩
  | .hbm, ⟨56, _⟩ => ⟨S1024x8x128, .f32⟩
  | .hbm, ⟨57, _⟩ => ⟨S4x256x8x128, .f32⟩
  | .hbm, ⟨58, _⟩ => ⟨S4x8x256x256, .f32⟩
  | .hbm, ⟨59, _⟩ => ⟨S4x256x256x8, .f32⟩
  | .hbm, ⟨60, _⟩ => ⟨S4x8x256x256, .f32⟩
  | .hbm, ⟨61, _⟩ => ⟨S4x8x256x256, .f32⟩
  | .hbm, ⟨62, _⟩ => ⟨S_, .f32⟩
  | .hbm, ⟨63, _⟩ => ⟨S_, .f32⟩
  | .hbm, ⟨64, _⟩ => ⟨S4x8x256x256, .f32⟩
  | .hbm, ⟨65, _⟩ => ⟨S4x8x256x256, .f32⟩
  | .hbm, ⟨66, _⟩ => ⟨S_, .f32⟩
  | .hbm, ⟨67, _⟩ => ⟨S4x8x256, .f32⟩
  | .hbm, ⟨68, _⟩ => ⟨S_, .f32⟩
  | .hbm, ⟨69, _⟩ => ⟨S4x8x256, .f32⟩
  | .hbm, ⟨70, _⟩ => ⟨S4x8x256, .f32⟩
  | .hbm, ⟨71, _⟩ => ⟨S4x8x256x1, .f32⟩
  | .hbm, ⟨72, _⟩ => ⟨S4x8x256x256, .f32⟩
  | .hbm, ⟨73, _⟩ => ⟨S4x8x256x256, .f32⟩
  | .hbm, ⟨74, _⟩ => ⟨S4x8x256x256, .f32⟩
  | .hbm, ⟨75, _⟩ => ⟨S_, .f32⟩
  | .hbm, ⟨76, _⟩ => ⟨S4x8x256, .f32⟩
  | .hbm, ⟨77, _⟩ => ⟨S4x8x256x1, .f32⟩
  | .hbm, ⟨78, _⟩ => ⟨S4x8x256x256, .f32⟩
  | .hbm, ⟨79, _⟩ => ⟨S4x8x256x256, .f32⟩
  | .hbm, ⟨80, _⟩ => ⟨S4x8x128x256, .f32⟩
  | .hbm, ⟨81, _⟩ => ⟨S4x256x8x128, .f32⟩
  | .hbm, ⟨82, _⟩ => ⟨S8192x1024, .f32⟩
  | .hbm, ⟨83, _⟩ => ⟨S1024x1024, .f32⟩
  | .hbm, ⟨84, _⟩ => ⟨S9216x1024, .f32⟩
  | .hbm, ⟨85, _⟩ => ⟨S9216x1024, .bf16⟩
  | _, _ => ⟨S9216x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== InProj.lean ====
abbrev S9216x2048 : Shape := ⟨2, ![9216, 2048]⟩
abbrev S2048 : Shape := ⟨1, ![2048]⟩
abbrev S4x8x1x12288 : Shape := ⟨4, ![4, 8, 1, 12288]⟩
abbrev S4x2048x2880 : Shape := ⟨3, ![4, 2048, 2880]⟩
abbrev S64 : Shape := ⟨1, ![64]⟩
abbrev S4x2048x256 : Shape := ⟨3, ![4, 2048, 256]⟩
abbrev S4x2048x64 : Shape := ⟨3, ![4, 2048, 64]⟩
abbrev S4x2048x512 : Shape := ⟨3, ![4, 2048, 512]⟩
abbrev S_ : Shape := ⟨0, ![]⟩
abbrev S64x1 : Shape := ⟨2, ![64, 1]⟩
abbrev S4x2048x128 : Shape := ⟨3, ![4, 2048, 128]⟩
abbrev S4x2048x1024 : Shape := ⟨3, ![4, 2048, 1024]⟩
abbrev S1x2048 : Shape := ⟨2, ![1, 2048]⟩
abbrev S9216x3072 : Shape := ⟨2, ![9216, 3072]⟩
abbrev S9216x512 : Shape := ⟨2, ![9216, 512]⟩
abbrev S1024x2048 : Shape := ⟨2, ![1024, 2048]⟩
abbrev S1x1x1x2048 : Shape := ⟨4, ![1, 1, 1, 2048]⟩
abbrev S1x2048x1024 : Shape := ⟨3, ![1, 2048, 1024]⟩
abbrev S1024x1024 : Shape := ⟨2, ![1024, 1024]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩

abbrev nBuf : Space → Nat
  | .hbm => 25
  | .vmem => 15
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S4x8x1x12288, .f32⟩
  | .hbm, ⟨3, _⟩ => ⟨S4x2048x2880, .f32⟩
  | .hbm, ⟨4, _⟩ => ⟨S64, .i32⟩
  | .hbm, ⟨5, _⟩ => ⟨S4x2048x256, .f32⟩
  | .hbm, ⟨6, _⟩ => ⟨S4x2048x64, .f32⟩
  | .hbm, ⟨7, _⟩ => ⟨S4x2048x512, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S4x2048x64, .f32⟩
  | .hbm, ⟨17, _⟩ => ⟨S_, .f32⟩
  | .hbm, ⟨18, _⟩ => ⟨S4x2048x128, .f32⟩
  | .hbm, ⟨19, _⟩ => ⟨S4x2048x1024, .f32⟩
  | .hbm, ⟨20, _⟩ => ⟨S4x2048x1024, .bf16⟩
  | .hbm, ⟨21, _⟩ => ⟨S4x2048x2880, .bf16⟩
  | .hbm, ⟨22, _⟩ => ⟨S1x2048, .f32⟩
  | .hbm, ⟨23, _⟩ => ⟨S9216x3072, .bf16⟩
  | .hbm, ⟨24, _⟩ => ⟨S9216x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x512, .f32⟩
  | .local _ .vmem, ⟨13, _⟩ => ⟨S1024x512, .f32⟩
  | .local _ .vmem, ⟨14, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![9, 3], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c1_i32_6 : BitVec 32 := 1#32
  let c0_i32_7 : BitVec 32 := 0#32
  ![c0_i32_4.toNat, v17.toNat, c0_i32_5.toNat, c1_i32_6.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjRefIdeal.lean ====
abbrev S9216x2048 : Shape := ⟨2, ![9216, 2048]⟩
abbrev S2048 : Shape := ⟨1, ![2048]⟩
abbrev S4x8x1x12288 : Shape := ⟨4, ![4, 8, 1, 12288]⟩
abbrev S4x2048x2880 : Shape := ⟨3, ![4, 2048, 2880]⟩
abbrev S1x8x1x12288 : Shape := ⟨4, ![1, 8, 1, 12288]⟩
abbrev S8x12288 : Shape := ⟨2, ![8, 12288]⟩
abbrev S8x2048 : Shape := ⟨2, ![8, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1024x2048 : Shape := ⟨2, ![1024, 2048]⟩
abbrev S1x2048x2880 : Shape := ⟨3, ![1, 2048, 2880]⟩
abbrev S2048x2880 : Shape := ⟨2, ![2048, 2880]⟩
abbrev S9216x2880 : Shape := ⟨2, ![9216, 2880]⟩
abbrev S9216x832 : Shape := ⟨2, ![9216, 832]⟩
abbrev S9216x256 : Shape := ⟨2, ![9216, 256]⟩
abbrev S9216x64 : Shape := ⟨2, ![9216, 64]⟩
abbrev S9216x512 : Shape := ⟨2, ![9216, 512]⟩
abbrev S9216x2x2x16 : Shape := ⟨4, ![9216, 2, 2, 16]⟩
abbrev S9216x2x1x16 : Shape := ⟨4, ![9216, 2, 1, 16]⟩
abbrev S9216x128 : Shape := ⟨2, ![9216, 128]⟩
abbrev S9216x3072 : Shape := ⟨2, ![9216, 3072]⟩

abbrev nBuf : Space → Nat
  | .hbm => 68
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S4x8x1x12288, .f32⟩
  | .hbm, ⟨3, _⟩ => ⟨S4x2048x2880, .f32⟩
  | .hbm, ⟨4, _⟩ => ⟨S1x8x1x12288, .f32⟩
  | .hbm, ⟨5, _⟩ => ⟨S8x12288, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S9216x2048, .f32⟩
  | .hbm, ⟨13, _⟩ => ⟨S_, .f32⟩
  | .hbm, ⟨14, _⟩ => ⟨S9216, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S_, .f32⟩
  | .hbm, ⟨20, _⟩ => ⟨S9216x1, .f32⟩
  | .hbm, ⟨21, _⟩ => ⟨S9216x1, .f32⟩
  | .hbm, ⟨22, _⟩ => ⟨S9216x1, .f32⟩
  | .hbm, ⟨23, _⟩ => ⟨S9216x2048, .f32⟩
  | .hbm, ⟨24, _⟩ => ⟨S9216x2048, .f32⟩
  | .hbm, ⟨25, _⟩ => ⟨S1x2048, .f32⟩
  | .hbm, ⟨26, _⟩ => ⟨S9216x2048, .f32⟩
  | .hbm, ⟨27, _⟩ => ⟨S9216x2048, .f32⟩
  | .hbm, ⟨28, _⟩ => ⟨S4x2048, .f32⟩
  | .hbm, ⟨29, _⟩ => ⟨S4x1x2048, .f32⟩
  | .hbm, ⟨30, _⟩ => ⟨S4x2048x2048, .f32⟩
  | .hbm, ⟨31, _⟩ => ⟨S8192x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S1024x2048, .f32⟩
  | .hbm, ⟨36, _⟩ => ⟨S9216x2048, .f32⟩
  | .hbm, ⟨37, _⟩ => ⟨S_, .f32⟩
  | .hbm, ⟨38, _⟩ => ⟨S9216x2048, .f32⟩
  | .hbm, ⟨39, _⟩ => ⟨S9216x2048, .f32⟩
  | .hbm, ⟨40, _⟩ => ⟨S9216x2048, .f32⟩
  | .hbm, ⟨41, _⟩ => ⟨S4x2048, .f32⟩
  | .hbm, ⟨42, _⟩ => ⟨S4x1x2048, .f32⟩
  | .hbm, ⟨43, _⟩ => ⟨S4x2048x2048, .f32⟩
  | .hbm, ⟨44, _⟩ => ⟨S8192x2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S1024x2048, .f32⟩
  | .hbm, ⟨49, _⟩ => ⟨S9216x2048, .f32⟩
  | .hbm, ⟨50, _⟩ => ⟨S9216x2048, .f32⟩
  | .hbm, ⟨51, _⟩ => ⟨S1x2048x2880, .f32⟩
  | .hbm, ⟨52, _⟩ => ⟨S2048x2880, .f32⟩
  | .hbm, ⟨53, _⟩ => ⟨S9216x2880, .f32⟩
  | .hbm, ⟨54, _⟩ => ⟨S9216x832, .f32⟩
  | .hbm, ⟨55, _⟩ => ⟨S9216x256, .f32⟩
  | .hbm, ⟨56, _⟩ => ⟨S9216x64, .f32⟩
  | .hbm, ⟨57, _⟩ => ⟨S9216x512, .f32⟩
  | .hbm, ⟨58, _⟩ => ⟨S9216x2x2x16, .f32⟩
  | .hbm, ⟨59, _⟩ => ⟨S9216x2x1x16, .f32⟩
  | .hbm, ⟨60, _⟩ => ⟨S9216x2x1x16, .f32⟩
  | .hbm, ⟨61, _⟩ => ⟨S9216x2x2x16, .f32⟩
  | .hbm, ⟨62, _⟩ => ⟨S9216x64, .f32⟩
  | .hbm, ⟨63, _⟩ => ⟨S_, .f32⟩
  | .hbm, ⟨64, _⟩ => ⟨S9216x128, .f32⟩
  | .hbm, ⟨65, _⟩ => ⟨S9216x2048, .f32⟩
  | .hbm, ⟨66, _⟩ => ⟨S9216x3072, .f32⟩
  | .hbm, ⟨67, _⟩ => ⟨S9216x3072, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_3 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩

abbrev nD : Nat := 1
abbrev τ : Topo := Topo.v7x

variable {F : FTy → Type} [FloatOps F]
-- ==== Up.lean ====
abbrev S9216x2048 : Shape := ⟨2, ![9216, 2048]⟩
abbrev S4x2048x5632 : Shape := ⟨3, ![4, 2048, 5632]⟩
abbrev S9216x5632 : Shape := ⟨2, ![9216, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S4x2048x5632, .f32⟩
  | .hbm, ⟨2, _⟩ => ⟨S4x2048x5632, .f32⟩
  | .hbm, ⟨3, _⟩ => ⟨S9216x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S9216x2048 : Shape := ⟨2, ![9216, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S9216x5632 : Shape := ⟨2, ![9216, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S4x2048x5632, .f32⟩
  | .hbm, ⟨2, _⟩ => ⟨S4x2048x5632, .f32⟩
  | .hbm, ⟨3, _⟩ => ⟨S9216x2048, .f32⟩
  | .hbm, ⟨4, _⟩ => ⟨S1x2048x5632, .f32⟩
  | .hbm, ⟨5, _⟩ => ⟨S2048x5632, .f32⟩
  | .hbm, ⟨6, _⟩ => ⟨S9216x5632, .f32⟩
  | .hbm, ⟨7, _⟩ => ⟨S9216x5632, .f32⟩
  | .hbm, ⟨8, _⟩ => ⟨S9216x5632, .f32⟩
  | .hbm, ⟨9, _⟩ => ⟨S_, .f32⟩
  | .hbm, ⟨10, _⟩ => ⟨S9216x5632, .f32⟩
  | .hbm, ⟨11, _⟩ => ⟨S9216x5632, .f32⟩
  | .hbm, ⟨12, _⟩ => ⟨S_, .f32⟩
  | .hbm, ⟨13, _⟩ => ⟨S9216x5632, .f32⟩
  | .hbm, ⟨14, _⟩ => ⟨S9216x5632, .f32⟩
  | .hbm, ⟨15, _⟩ => ⟨S9216x5632, .f32⟩
  | .hbm, ⟨16, _⟩ => ⟨S1x2048x5632, .f32⟩
  | .hbm, ⟨17, _⟩ => ⟨S2048x5632, .f32⟩
  | .hbm, ⟨18, _⟩ => ⟨S9216x5632, .f32⟩
  | .hbm, ⟨19, _⟩ => ⟨S9216x5632, .f32⟩
  | .hbm, ⟨20, _⟩ => ⟨S9216x5632, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S9216x5632 : Shape := ⟨2, ![9216, 5632]⟩
abbrev S4x5632x2048 : Shape := ⟨3, ![4, 5632, 2048]⟩
abbrev S9216x2048 : Shape := ⟨2, ![9216, 2048]⟩
abbrev S4x8x1x12288 : Shape := ⟨4, ![4, 8, 1, 12288]⟩
abbrev S512x5632 : Shape := ⟨2, ![512, 5632]⟩
abbrev S1x5632x512 : Shape := ⟨3, ![1, 5632, 512]⟩
abbrev S512x512 : Shape := ⟨2, ![512, 512]⟩
abbrev S1x1x1x512 : Shape := ⟨4, ![1, 1, 1, 512]⟩
abbrev S5632x512 : Shape := ⟨2, ![5632, 512]⟩
abbrev S1x512x512 : Shape := ⟨3, ![1, 512, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S9216x5632, .bf16⟩
  | .hbm, ⟨1, _⟩ => ⟨S4x5632x2048, .f32⟩
  | .hbm, ⟨2, _⟩ => ⟨S9216x2048, .f32⟩
  | .hbm, ⟨3, _⟩ => ⟨S4x8x1x12288, .f32⟩
  | .hbm, ⟨4, _⟩ => ⟨S9216x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S1x1x1x512, .f32⟩
  | .local _ .vmem, ⟨7, _⟩ => ⟨S1x1x1x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c20_i32 : BitVec 32 := 20#32
  let v18 : BitVec 32 := Scalar.addi c20_i32 arg0
  let c0_i32_5 : BitVec 32 := 0#32
  let c0_i32_6 : BitVec 32 := 0#32
  let c0_i32_7 : BitVec 32 := 0#32
  ![c0_i32_5.toNat, v17.toNat, c0_i32_6.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S9216x5632 : Shape := ⟨2, ![9216, 5632]⟩
abbrev S4x5632x2048 : Shape := ⟨3, ![4, 5632, 2048]⟩
abbrev S9216x2048 : Shape := ⟨2, ![9216, 2048]⟩
abbrev S4x8x1x12288 : Shape := ⟨4, ![4, 8, 1, 12288]⟩
abbrev S1x8x1x12288 : Shape := ⟨4, ![1, 8, 1, 12288]⟩
abbrev S8x12288 : Shape := ⟨2, ![8, 12288]⟩
abbrev S8x2048 : Shape := ⟨2, ![8, 2048]⟩
abbrev S4x2048 : Shape := ⟨2, ![4, 2048]⟩
abbrev S4x1x2048 : Shape := ⟨3, ![4, 1, 2048]⟩
abbrev S4x2048x2048 : Shape := ⟨3, ![4, 2048, 2048]⟩
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1x5632x2048 : Shape := ⟨3, ![1, 5632, 2048]⟩
abbrev S5632x2048 : Shape := ⟨2, ![5632, 2048]⟩

abbrev nBuf : Space → Nat
  | .hbm => 27
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S4x5632x2048, .f32⟩
  | .hbm, ⟨2, _⟩ => ⟨S9216x2048, .f32⟩
  | .hbm, ⟨3, _⟩ => ⟨S4x8x1x12288, .f32⟩
  | .hbm, ⟨4, _⟩ => ⟨S1x8x1x12288, .f32⟩
  | .hbm, ⟨5, _⟩ => ⟨S8x12288, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x2048, .f32⟩
  | .hbm, ⟨13, _⟩ => ⟨S4x1x2048, .f32⟩
  | .hbm, ⟨14, _⟩ => ⟨S4x2048x2048, .f32⟩
  | .hbm, ⟨15, _⟩ => ⟨S8192x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1024x2048, .f32⟩
  | .hbm, ⟨20, _⟩ => ⟨S9216x2048, .f32⟩
  | .hbm, ⟨21, _⟩ => ⟨S9216x5632, .f32⟩
  | .hbm, ⟨22, _⟩ => ⟨S1x5632x2048, .f32⟩
  | .hbm, ⟨23, _⟩ => ⟨S5632x2048, .f32⟩
  | .hbm, ⟨24, _⟩ => ⟨S9216x2048, .f32⟩
  | .hbm, ⟨25, _⟩ => ⟨S9216x2048, .f32⟩
  | .hbm, ⟨26, _⟩ => ⟨S9216x2048, .f32⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Merge.lean ====
abbrev S9216x512 : Shape := ⟨2, ![9216, 512]⟩
abbrev S9216x1024 : Shape := ⟨2, ![9216, 1024]⟩
abbrev S1024 : Shape := ⟨1, ![1024]⟩
abbrev S4x2048x2048 : Shape := ⟨3, ![4, 2048, 2048]⟩
abbrev S9216x2048 : Shape := ⟨2, ![9216, 2048]⟩
abbrev S2048 : Shape := ⟨1, ![2048]⟩
abbrev S4x8x1x12288 : Shape := ⟨4, ![4, 8, 1, 12288]⟩
abbrev S1x1024 : Shape := ⟨2, ![1, 1024]⟩
abbrev S1x2048 : Shape := ⟨2, ![1, 2048]⟩
abbrev S512x512 : Shape := ⟨2, ![512, 512]⟩
abbrev S512x1024 : Shape := ⟨2, ![512, 1024]⟩
abbrev S1x2048x2048 : Shape := ⟨3, ![1, 2048, 2048]⟩
abbrev S512x2048 : Shape := ⟨2, ![512, 2048]⟩
abbrev S1x1x1x2048 : Shape := ⟨4, ![1, 1, 1, 2048]⟩
abbrev S256x512 : Shape := ⟨2, ![256, 512]⟩
abbrev S1x512x2048 : Shape := ⟨3, ![1, 512, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x1024x2048 : Shape := ⟨3, ![1, 1024, 2048]⟩
abbrev S1024x2048 : Shape := ⟨2, ![1024, 2048]⟩

abbrev nBuf : Space → Nat
  | .hbm => 13
  | .vmem => 21
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S9216x512, .bf16⟩
  | .hbm, ⟨3, _⟩ => ⟨S1024, .f32⟩
  | .hbm, ⟨4, _⟩ => ⟨S4x2048x2048, .f32⟩
  | .hbm, ⟨5, _⟩ => ⟨S9216x2048, .f32⟩
  | .hbm, ⟨6, _⟩ => ⟨S2048, .f32⟩
  | .hbm, ⟨7, _⟩ => ⟨S4x8x1x12288, .f32⟩
  | .hbm, ⟨8, _⟩ => ⟨S4x2048x2048, .bf16⟩
  | .hbm, ⟨9, _⟩ => ⟨S1x1024, .f32⟩
  | .hbm, ⟨10, _⟩ => ⟨S1x2048, .f32⟩
  | .hbm, ⟨11, _⟩ => ⟨S9216x2048, .f32⟩
  | .hbm, ⟨12, _⟩ => ⟨S9216x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1x2048x2048, .bf16⟩
  | .local _ .vmem, ⟨8, _⟩ => ⟨S512x2048, .f32⟩
  | .local _ .vmem, ⟨9, _⟩ => ⟨S512x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S1x2048, .f32⟩
  | .local _ .vmem, ⟨13, _⟩ => ⟨S1x1x1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c2_i32 : BitVec 32 := 2#32
  let c0_i32_7 : BitVec 32 := 0#32
  ![c0_i32_5.toNat, v17.toNat, c0_i32_6.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c3_i32 : BitVec 32 := 3#32
  let c0_i32_7 : BitVec 32 := 0#32
  ![c0_i32_5.toNat, v17.toNat, c0_i32_6.toNat, c3_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c4_i32_7 : BitVec 32 := 4#32
  let c0_i32_8 : BitVec 32 := 0#32
  ![c0_i32_5.toNat, v17.toNat, c0_i32_6.toNat, c4_i32_7.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S9216x512 : Shape := ⟨2, ![9216, 512]⟩
abbrev S9216x1024 : Shape := ⟨2, ![9216, 1024]⟩
abbrev S1024 : Shape := ⟨1, ![1024]⟩
abbrev S4x2048x2048 : Shape := ⟨3, ![4, 2048, 2048]⟩
abbrev S9216x2048 : Shape := ⟨2, ![9216, 2048]⟩
abbrev S2048 : Shape := ⟨1, ![2048]⟩
abbrev S4x8x1x12288 : Shape := ⟨4, ![4, 8, 1, 12288]⟩
abbrev S1x8x1x12288 : Shape := ⟨4, ![1, 8, 1, 12288]⟩
abbrev S8x12288 : Shape := ⟨2, ![8, 12288]⟩
abbrev S8x2048 : Shape := ⟨2, ![8, 2048]⟩
abbrev S_ : Shape := ⟨0, ![]⟩
abbrev S9216 : Shape := ⟨1, ![9216]⟩
abbrev S9216x1 : Shape := ⟨2, ![9216, 1]⟩
abbrev S1x1024 : Shape := ⟨2, ![1, 1024]⟩
abbrev S4x2048 : Shape := ⟨2, ![4, 2048]⟩
abbrev S4x1x2048 : Shape := ⟨3, ![4, 1, 2048]⟩
abbrev S8192x2048 : Shape := ⟨2, ![8192, 2048]⟩
abbrev S1x2048 : Shape := ⟨2, ![1, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 90
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S9216x512, .bf16⟩
  | .hbm, ⟨3, _⟩ => ⟨S1024, .f32⟩
  | .hbm, ⟨4, _⟩ => ⟨S4x2048x2048, .f32⟩
  | .hbm, ⟨5, _⟩ => ⟨S9216x2048, .f32⟩
  | .hbm, ⟨6, _⟩ => ⟨S2048, .f32⟩
  | .hbm, ⟨7, _⟩ => ⟨S4x8x1x12288, .f32⟩
  | .hbm, ⟨8, _⟩ => ⟨S1x8x1x12288, .f32⟩
  | .hbm, ⟨9, _⟩ => ⟨S8x12288, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S9216x512, .f32⟩
  | .hbm, ⟨17, _⟩ => ⟨S9216x1024, .f32⟩
  | .hbm, ⟨18, _⟩ => ⟨S9216x1024, .f32⟩
  | .hbm, ⟨19, _⟩ => ⟨S_, .f32⟩
  | .hbm, ⟨20, _⟩ => ⟨S9216, .f32⟩
  | .hbm, ⟨21, _⟩ => ⟨S9216x1, .f32⟩
  | .hbm, ⟨22, _⟩ => ⟨S_, .f32⟩
  | .hbm, ⟨23, _⟩ => ⟨S9216x1, .f32⟩
  | .hbm, ⟨24, _⟩ => ⟨S9216x1, .f32⟩
  | .hbm, ⟨25, _⟩ => ⟨S_, .f32⟩
  | .hbm, ⟨26, _⟩ => ⟨S9216x1, .f32⟩
  | .hbm, ⟨27, _⟩ => ⟨S9216x1, .f32⟩
  | .hbm, ⟨28, _⟩ => ⟨S9216x1, .f32⟩
  | .hbm, ⟨29, _⟩ => ⟨S9216x1024, .f32⟩
  | .hbm, ⟨30, _⟩ => ⟨S9216x1024, .f32⟩
  | .hbm, ⟨31, _⟩ => ⟨S1x1024, .f32⟩
  | .hbm, ⟨32, _⟩ => ⟨S9216x1024, .f32⟩
  | .hbm, ⟨33, _⟩ => ⟨S9216x1024, .f32⟩
  | .hbm, ⟨34, _⟩ => ⟨S9216x512, .f32⟩
  | .hbm, ⟨35, _⟩ => ⟨S9216x2048, .f32⟩
  | .hbm, ⟨36, _⟩ => ⟨S4x2048, .f32⟩
  | .hbm, ⟨37, _⟩ => ⟨S4x1x2048, .f32⟩
  | .hbm, ⟨38, _⟩ => ⟨S4x2048x2048, .f32⟩
  | .hbm, ⟨39, _⟩ => ⟨S8192x2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S1024x2048, .f32⟩
  | .hbm, ⟨44, _⟩ => ⟨S9216x2048, .f32⟩
  | .hbm, ⟨45, _⟩ => ⟨S1x2048x2048, .f32⟩
  | .hbm, ⟨46, _⟩ => ⟨S2048x2048, .f32⟩
  | .hbm, ⟨47, _⟩ => ⟨S9216x2048, .f32⟩
  | .hbm, ⟨48, _⟩ => ⟨S9216x2048, .f32⟩
  | .hbm, ⟨49, _⟩ => ⟨S9216x2048, .f32⟩
  | .hbm, ⟨50, _⟩ => ⟨S9216x2048, .f32⟩
  | .hbm, ⟨51, _⟩ => ⟨S_, .f32⟩
  | .hbm, ⟨52, _⟩ => ⟨S9216, .f32⟩
  | .hbm, ⟨53, _⟩ => ⟨S9216x1, .f32⟩
  | .hbm, ⟨54, _⟩ => ⟨S_, .f32⟩
  | .hbm, ⟨55, _⟩ => ⟨S9216x1, .f32⟩
  | .hbm, ⟨56, _⟩ => ⟨S9216x1, .f32⟩
  | .hbm, ⟨57, _⟩ => ⟨S_, .f32⟩
  | .hbm, ⟨58, _⟩ => ⟨S9216x1, .f32⟩
  | .hbm, ⟨59, _⟩ => ⟨S9216x1, .f32⟩
  | .hbm, ⟨60, _⟩ => ⟨S9216x1, .f32⟩
  | .hbm, ⟨61, _⟩ => ⟨S9216x2048, .f32⟩
  | .hbm, ⟨62, _⟩ => ⟨S9216x2048, .f32⟩
  | .hbm, ⟨63, _⟩ => ⟨S1x2048, .f32⟩
  | .hbm, ⟨64, _⟩ => ⟨S9216x2048, .f32⟩
  | .hbm, ⟨65, _⟩ => ⟨S9216x2048, .f32⟩
  | .hbm, ⟨66, _⟩ => ⟨S4x2048, .f32⟩
  | .hbm, ⟨67, _⟩ => ⟨S4x1x2048, .f32⟩
  | .hbm, ⟨68, _⟩ => ⟨S4x2048x2048, .f32⟩
  | .hbm, ⟨69, _⟩ => ⟨S8192x2048, .f32⟩
  | .hbm, ⟨70, _⟩ => ⟨S1x2048, .f32⟩
  | .hbm, ⟨71, _⟩ => ⟨S2048, .f32⟩
  | .hbm, ⟨72, _⟩ => ⟨S1x2048, .f32⟩
  | .hbm, ⟨73, _⟩ => ⟨S1024x2048, .f32⟩
  | .hbm, ⟨74, _⟩ => ⟨S9216x2048, .f32⟩
  | .hbm, ⟨75, _⟩ => ⟨S_, .f32⟩
  | .hbm, ⟨76, _⟩ => ⟨S9216x2048, .f32⟩
  | .hbm, ⟨77, _⟩ => ⟨S9216x2048, .f32⟩
  | .hbm, ⟨78, _⟩ => ⟨S9216x2048, .f32⟩
  | .hbm, ⟨79, _⟩ => ⟨S4x2048, .f32⟩
  | .hbm, ⟨80, _⟩ => ⟨S4x1x2048, .f32⟩
  | .hbm, ⟨81, _⟩ => ⟨S4x2048x2048, .f32⟩
  | .hbm, ⟨82, _⟩ => ⟨S8192x2048, .f32⟩
  | .hbm, ⟨83, _⟩ => ⟨S1x2048, .f32⟩
  | .hbm, ⟨84, _⟩ => ⟨S2048, .f32⟩
  | .hbm, ⟨85, _⟩ => ⟨S1x2048, .f32⟩
  | .hbm, ⟨86, _⟩ => ⟨S1024x2048, .f32⟩
  | .hbm, ⟨87, _⟩ => ⟨S9216x2048, .f32⟩
  | .hbm, ⟨88, _⟩ => ⟨S9216x2048, .f32⟩
  | .hbm, ⟨89, _⟩ => ⟨S9216x2048, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== Fin.lean ====
abbrev S9216x2048 : Shape := ⟨2, ![9216, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinRefIdeal.lean ====
abbrev S9216x2048 : Shape := ⟨2, ![9216, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Ada.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S4x12288x4 : Shape := ⟨3, ![4, 12288, 4]⟩
abbrev S4x4x12288 : Shape := ⟨3, ![4, 4, 12288]⟩
abbrev S4x1x12288 : Shape := ⟨3, ![4, 1, 12288]⟩
abbrev S4x3x12288 : Shape := ⟨3, ![4, 3, 12288]⟩
abbrev S4x8x12288 : Shape := ⟨3, ![4, 8, 12288]⟩

abbrev nBuf : Space → Nat
  | .hbm => 33
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x12288x4, .f32⟩
  | .hbm, ⟨14, _⟩ => ⟨S4x4x12288, .f32⟩
  | .hbm, ⟨15, _⟩ => ⟨S4x1x12288, .f32⟩
  | .hbm, ⟨16, _⟩ => ⟨S4x4x12288, .f32⟩
  | .hbm, ⟨17, _⟩ => ⟨S4x4x12288, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S4x12288, .f32⟩
  | .hbm, ⟨28, _⟩ => ⟨S4x12288, .f32⟩
  | .hbm, ⟨29, _⟩ => ⟨S4x1x12288, .f32⟩
  | .hbm, ⟨30, _⟩ => ⟨S4x3x12288, .f32⟩
  | .hbm, ⟨31, _⟩ => ⟨S4x1x12288, .f32⟩
  | .hbm, ⟨32, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Conv.lean ====
abbrev S9216x3072 : Shape := ⟨2, ![9216, 3072]⟩
abbrev S3x512 : Shape := ⟨2, ![3, 512]⟩
abbrev S512 : Shape := ⟨1, ![512]⟩
abbrev S1x512 : Shape := ⟨2, ![1, 512]⟩
abbrev S9216x512 : Shape := ⟨2, ![9216, 512]⟩
abbrev S256x512 : Shape := ⟨2, ![256, 512]⟩
abbrev S16x512 : Shape := ⟨2, ![16, 512]⟩
abbrev S272x512 : Shape := ⟨2, ![272, 512]⟩
abbrev S256 : Shape := ⟨1, ![256]⟩
abbrev S256x1 : Shape := ⟨2, ![256, 1]⟩

abbrev nBuf : Space → Nat
  | .hbm => 5
  | .vmem => 19
  | .smem => 0
  | _ => 0

abbrev bufTy : (tb : Table) → Fin (tcTables nBuf tb) → BufTy
  | .hbm, ⟨0, _⟩ => ⟨S9216x3072, .bf16⟩
  | .hbm, ⟨1, _⟩ => ⟨S3x512, .f32⟩
  | .hbm, ⟨2, _⟩ => ⟨S512, .f32⟩
  | .hbm, ⟨3, _⟩ => ⟨S1x512, .f32⟩
  | .hbm, ⟨4, _⟩ => ⟨S9216x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S3x512, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | .local _ .vmem, ⟨18, _⟩ => ⟨S272x512, .f32⟩
  | _, _ => ⟨S9216x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c2_i32 : BitVec 32 := 2#32
  let c0_i32 : BitVec 32 := 0#32
  ![v2.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvRefIdeal.lean ====
abbrev S9216x3072 : Shape := ⟨2, ![9216, 3072]⟩
abbrev S3x512 : Shape := ⟨2, ![3, 512]⟩
abbrev S512 : Shape := ⟨1, ![512]⟩
abbrev S9216x1536 : Shape := ⟨2, ![9216, 1536]⟩
abbrev S9216x512 : Shape := ⟨2, ![9216, 512]⟩
abbrev S8192x512 : Shape := ⟨2, ![8192, 512]⟩
abbrev S4x2048x512 : Shape := ⟨3, ![4, 2048, 512]⟩
abbrev S_ : Shape := ⟨0, ![]⟩
abbrev S4x1x512 : Shape := ⟨3, ![4, 1, 512]⟩
abbrev S4x2047x512 : Shape := ⟨3, ![4, 2047, 512]⟩
abbrev S1x512 : Shape := ⟨2, ![1, 512]⟩
abbrev S1x1x512 : Shape := ⟨3, ![1, 1, 512]⟩
abbrev S1024x512 : Shape := ⟨2, ![1024, 512]⟩
abbrev S4x256x512 : Shape := ⟨3, ![4, 256, 512]⟩
abbrev S4x255x512 : Shape := ⟨3, ![4, 255, 512]⟩
abbrev S9216 : Shape := ⟨1, ![9216]⟩
abbrev S9216x1 : Shape := ⟨2, ![9216, 1]⟩

abbrev nBuf : Space → Nat
  | .hbm => 80
  | .vmem => 0
  | .smem => 0
  | _ => 0

abbrev bufTy : (tb : Table) → Fin (tcTables nBuf tb) → BufTy
  | .hbm, ⟨0, _⟩ => ⟨S9216x3072, .bf16⟩
  | .hbm, ⟨1, _⟩ => ⟨S3x512, .f32⟩
  | .hbm, ⟨2, _⟩ => ⟨S512, .f32⟩
  | .hbm, ⟨3, _⟩ => ⟨S9216x1536, .bf16⟩
  | .hbm, ⟨4, _⟩ => ⟨S9216x1536, .f32⟩
  | .hbm, ⟨5, _⟩ => ⟨S9216x512, .f32⟩
  | .hbm, ⟨6, _⟩ => ⟨S9216x512, .f32⟩
  | .hbm, ⟨7, _⟩ => ⟨S9216x512, .f32⟩
  | .hbm, ⟨8, _⟩ => ⟨S9216x512, .f32⟩
  | .hbm, ⟨9, _⟩ => ⟨S8192x512, .f32⟩
  | .hbm, ⟨10, _⟩ => ⟨S4x2048x512, .f32⟩
  | .hbm, ⟨11, _⟩ => ⟨S_, .f32⟩
  | .hbm, ⟨12, _⟩ => ⟨S4x1x512, .f32⟩
  | .hbm, ⟨13, _⟩ => ⟨S4x2047x512, .f32⟩
  | .hbm, ⟨14, _⟩ => ⟨S4x2048x512, .f32⟩
  | .hbm, ⟨15, _⟩ => ⟨S4x2047x512, .f32⟩
  | .hbm, ⟨16, _⟩ => ⟨S4x2048x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S4x2048x512, .f32⟩
  | .hbm, ⟨21, _⟩ => ⟨S4x2048x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x2048x512, .f32⟩
  | .hbm, ⟨26, _⟩ => ⟨S4x2048x512, .f32⟩
  | .hbm, ⟨27, _⟩ => ⟨S4x2048x512, .f32⟩
  | .hbm, ⟨28, _⟩ => ⟨S1x512, .f32⟩
  | .hbm, ⟨29, _⟩ => ⟨S512, .f32⟩
  | .hbm, ⟨30, _⟩ => ⟨S1x1x512, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S8192x512, .f32⟩
  | .hbm, ⟨35, _⟩ => ⟨S1024x512, .f32⟩
  | .hbm, ⟨36, _⟩ => ⟨S4x256x512, .f32⟩
  | .hbm, ⟨37, _⟩ => ⟨S_, .f32⟩
  | .hbm, ⟨38, _⟩ => ⟨S4x1x512, .f32⟩
  | .hbm, ⟨39, _⟩ => ⟨S4x255x512, .f32⟩
  | .hbm, ⟨40, _⟩ => ⟨S4x256x512, .f32⟩
  | .hbm, ⟨41, _⟩ => ⟨S4x255x512, .f32⟩
  | .hbm, ⟨42, _⟩ => ⟨S4x256x512, .f32⟩
  | .hbm, ⟨43, _⟩ => ⟨S1x512, .f32⟩
  | .hbm, ⟨44, _⟩ => ⟨S512, .f32⟩
  | .hbm, ⟨45, _⟩ => ⟨S1x1x512, .f32⟩
  | .hbm, ⟨46, _⟩ => ⟨S4x256x512, .f32⟩
  | .hbm, ⟨47, _⟩ => ⟨S4x256x512, .f32⟩
  | .hbm, ⟨48, _⟩ => ⟨S1x512, .f32⟩
  | .hbm, ⟨49, _⟩ => ⟨S512, .f32⟩
  | .hbm, ⟨50, _⟩ => ⟨S1x1x512, .f32⟩
  | .hbm, ⟨51, _⟩ => ⟨S4x256x512, .f32⟩
  | .hbm, ⟨52, _⟩ => ⟨S4x256x512, .f32⟩
  | .hbm, ⟨53, _⟩ => ⟨S4x256x512, .f32⟩
  | .hbm, ⟨54, _⟩ => ⟨S1x512, .f32⟩
  | .hbm, ⟨55, _⟩ => ⟨S512, .f32⟩
  | .hbm, ⟨56, _⟩ => ⟨S1x1x512, .f32⟩
  | .hbm, ⟨57, _⟩ => ⟨S4x256x512, .f32⟩
  | .hbm, ⟨58, _⟩ => ⟨S4x256x512, .f32⟩
  | .hbm, ⟨59, _⟩ => ⟨S4x256x512, .f32⟩
  | .hbm, ⟨60, _⟩ => ⟨S1024x512, .f32⟩
  | .hbm, ⟨61, _⟩ => ⟨S9216x512, .f32⟩
  | .hbm, ⟨62, _⟩ => ⟨S9216x512, .f32⟩
  | .hbm, ⟨63, _⟩ => ⟨S9216x512, .f32⟩
  | .hbm, ⟨64, _⟩ => ⟨S_, .f32⟩
  | .hbm, ⟨65, _⟩ => ⟨S9216, .f32⟩
  | .hbm, ⟨66, _⟩ => ⟨S9216x1, .f32⟩
  | .hbm, ⟨67, _⟩ => ⟨S_, .f32⟩
  | .hbm, ⟨68, _⟩ => ⟨S9216x1, .f32⟩
  | .hbm, ⟨69, _⟩ => ⟨S9216x1, .f32⟩
  | .hbm, ⟨70, _⟩ => ⟨S_, .f32⟩
  | .hbm, ⟨71, _⟩ => ⟨S9216x1, .f32⟩
  | .hbm, ⟨72, _⟩ => ⟨S9216x1, .f32⟩
  | .hbm, ⟨73, _⟩ => ⟨S9216x1, .f32⟩
  | .hbm, ⟨74, _⟩ => ⟨S9216x512, .f32⟩
  | .hbm, ⟨75, _⟩ => ⟨S9216x512, .f32⟩
  | .hbm, ⟨76, _⟩ => ⟨S1x512, .f32⟩
  | .hbm, ⟨77, _⟩ => ⟨S9216x512, .f32⟩
  | .hbm, ⟨78, _⟩ => ⟨S9216x512, .f32⟩
  | .hbm, ⟨79, _⟩ => ⟨S9216x512, .bf16⟩
  | _, _ => ⟨S9216x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_1 : Ref sig .tc := ⟨.hbm, 64, rfl⟩
abbrev main_v59 : Ref sig .tc := ⟨.hbm, 65, rfl⟩
abbrev main_v60 : Ref sig .tc := ⟨.hbm, 66, rfl⟩
abbrev main_cst_2 : Ref sig .tc := ⟨.hbm, 67, rfl⟩
abbrev main_v61 : Ref sig .tc := ⟨.hbm, 68, rfl⟩
abbrev main_v62 : Ref sig .tc := ⟨.hbm, 69, rfl⟩
abbrev main_cst_3 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩

abbrev nD : Nat := 1
abbrev τ : Topo := Topo.v7x

variable {F : FTy → Type} [FloatOps F]
-- ==== Qkv.lean ====
abbrev S9216x512 : Shape := ⟨2, ![9216, 512]⟩
abbrev S9216x256 : Shape := ⟨2, ![9216, 256]⟩
abbrev S9216x64 : Shape := ⟨2, ![9216, 64]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S64 : Shape := ⟨1, ![64]⟩
abbrev S_ : Shape := ⟨0, ![]⟩
abbrev S9216x1536 : Shape := ⟨2, ![9216, 1536]⟩
abbrev S9216x2x2x16 : Shape := ⟨4, ![9216, 2, 2, 16]⟩
abbrev S9216x2x1x16 : Shape := ⟨4, ![9216, 2, 1, 16]⟩
abbrev S9216x128 : Shape := ⟨2, ![9216, 128]⟩
abbrev S9216x3072 : Shape := ⟨2, ![9216, 3072]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S512x64 : Shape := ⟨2, ![512, 64]⟩
abbrev S2560x64 : Shape := ⟨2, ![2560, 64]⟩
abbrev S2560x128 : Shape := ⟨2, ![2560, 128]⟩
abbrev S512x8x192 : Shape := ⟨3, ![512, 8, 192]⟩
abbrev S512x8x64 : Shape := ⟨3, ![512, 8, 64]⟩
abbrev S64x1 : Shape := ⟨2, ![64, 1]⟩
abbrev S512x8x256 : Shape := ⟨3, ![512, 8, 256]⟩
abbrev S512x2048 : Shape := ⟨2, ![512, 2048]⟩
abbrev S256x8x256 : Shape := ⟨3, ![256, 8, 256]⟩
abbrev S256x8x128 : Shape := ⟨3, ![256, 8, 128]⟩
abbrev S256x1024 : Shape := ⟨2, ![256, 1024]⟩
abbrev S1x512 : Shape := ⟨2, ![1, 512]⟩
abbrev S1x256 : Shape := ⟨2, ![1, 256]⟩
abbrev S9216x2048 : Shape := ⟨2, ![9216, 2048]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩

abbrev nBuf : Space → Nat
  | .hbm => 93
  | .vmem => 20
  | .smem => 0
  | _ => 0

abbrev bufTy : (tb : Table) → Fin (tcTables nBuf tb) → BufTy
  | .hbm, ⟨0, _⟩ => ⟨S9216x512, .bf16⟩
  | .hbm, ⟨1, _⟩ => ⟨S9216x256, .bf16⟩
  | .hbm, ⟨2, _⟩ => ⟨S9216x64, .bf16⟩
  | .hbm, ⟨3, _⟩ => ⟨S512, .f32⟩
  | .hbm, ⟨4, _⟩ => ⟨S256, .f32⟩
  | .hbm, ⟨5, _⟩ => ⟨S512x1536, .f32⟩
  | .hbm, ⟨6, _⟩ => ⟨S256x2048, .f32⟩
  | .hbm, ⟨7, _⟩ => ⟨S64, .i32⟩
  | .hbm, ⟨8, _⟩ => ⟨S_, .bf16⟩
  | .hbm, ⟨9, _⟩ => ⟨S9216x1536, .bf16⟩
  | .hbm, ⟨10, _⟩ => ⟨S_, .bf16⟩
  | .hbm, ⟨11, _⟩ => ⟨S9216x512, .bf16⟩
  | .hbm, ⟨12, _⟩ => ⟨S9216x2x2x16, .bf16⟩
  | .hbm, ⟨13, _⟩ => ⟨S9216x2x1x16, .bf16⟩
  | .hbm, ⟨14, _⟩ => ⟨S9216x2x1x16, .bf16⟩
  | .hbm, ⟨15, _⟩ => ⟨S9216x2x2x16, .bf16⟩
  | .hbm, ⟨16, _⟩ => ⟨S9216x64, .bf16⟩
  | .hbm, ⟨17, _⟩ => ⟨S_, .bf16⟩
  | .hbm, ⟨18, _⟩ => ⟨S9216x128, .bf16⟩
  | .hbm, ⟨19, _⟩ => ⟨S9216x3072, .bf16⟩
  | .hbm, ⟨20, _⟩ => ⟨S32, .f32⟩
  | .hbm, ⟨21, _⟩ => ⟨S32x64, .f32⟩
  | .hbm, ⟨22, _⟩ => ⟨S2048, .f32⟩
  | .hbm, ⟨23, _⟩ => ⟨S64, .f32⟩
  | .hbm, ⟨24, _⟩ => ⟨S1x64, .f32⟩
  | .hbm, ⟨25, _⟩ => ⟨S32x64, .f32⟩
  | .hbm, ⟨26, _⟩ => ⟨S2048, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x1, .f32⟩
  | .hbm, ⟨41, _⟩ => ⟨S1x16, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S2048x16, .f32⟩
  | .hbm, ⟨49, _⟩ => ⟨S2048x64, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x64, .f32⟩
  | .hbm, ⟨57, _⟩ => ⟨S_, .f32⟩
  | .hbm, ⟨58, _⟩ => ⟨S512x64, .f32⟩
  | .hbm, ⟨59, _⟩ => ⟨S2560x64, .f32⟩
  | .hbm, ⟨60, _⟩ => ⟨S_, .f32⟩
  | .hbm, ⟨61, _⟩ => ⟨S512x64, .f32⟩
  | .hbm, ⟨62, _⟩ => ⟨S2560x64, .f32⟩
  | .hbm, ⟨63, _⟩ => ⟨S_, .f32⟩
  | .hbm, ⟨64, _⟩ => ⟨S2560x64, .f32⟩
  | .hbm, ⟨65, _⟩ => ⟨S2560x128, .f32⟩
  | .hbm, ⟨66, _⟩ => ⟨S2560x128, .f32⟩
  | .hbm, ⟨67, _⟩ => ⟨S512x8x192, .f32⟩
  | .hbm, ⟨68, _⟩ => ⟨S512x8x64, .f32⟩
  | .hbm, ⟨69, _⟩ => ⟨S_, .i32⟩
  | .hbm, ⟨70, _⟩ => ⟨S64, .i32⟩
  | .hbm, ⟨71, _⟩ => ⟨S64, .i1⟩
  | .hbm, ⟨72, _⟩ => ⟨S_, .i32⟩
  | .hbm, ⟨73, _⟩ => ⟨S64, .i32⟩
  | .hbm, ⟨74, _⟩ => ⟨S64, .i32⟩
  | .hbm, ⟨75, _⟩ => ⟨S64, .i32⟩
  | .hbm, ⟨76, _⟩ => ⟨S64x1, .i32⟩
  | .hbm, ⟨77, _⟩ => ⟨S512x8x64, .f32⟩
  | .hbm, ⟨78, _⟩ => ⟨S512x8x256, .f32⟩
  | .hbm, ⟨79, _⟩ => ⟨S512x2048, .f32⟩
  | .hbm, ⟨80, _⟩ => ⟨S512x2048, .bf16⟩
  | .hbm, ⟨81, _⟩ => ⟨S256x8x256, .f32⟩
  | .hbm, ⟨82, _⟩ => ⟨S256x8x128, .f32⟩
  | .hbm, ⟨83, _⟩ => ⟨S256x1024, .f32⟩
  | .hbm, ⟨84, _⟩ => ⟨S256x8x128, .f32⟩
  | .hbm, ⟨85, _⟩ => ⟨S256x1024, .f32⟩
  | .hbm, ⟨86, _⟩ => ⟨S256x2048, .f32⟩
  | .hbm, ⟨87, _⟩ => ⟨S256x2048, .bf16⟩
  | .hbm, ⟨88, _⟩ => ⟨S1x512, .f32⟩
  | .hbm, ⟨89, _⟩ => ⟨S1x256, .f32⟩
  | .hbm, ⟨90, _⟩ => ⟨S9216x2048, .bf16⟩
  | .hbm, ⟨91, _⟩ => ⟨S9216x2048, .bf16⟩
  | .hbm, ⟨92, _⟩ => ⟨S9216x2048, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S1x512, .f32⟩
  | .local _ .vmem, ⟨7, _⟩ => ⟨S1x256, .f32⟩
  | .local _ .vmem, ⟨8, _⟩ => ⟨S512x2048, .bf16⟩
  | .local _ .vmem, ⟨9, _⟩ => ⟨S256x2048, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_7 : Ref sig .tc := ⟨.hbm, 69, rfl⟩
abbrev main_v53 : Ref sig .tc := ⟨.hbm, 70, rfl⟩
abbrev main_v54 : Ref sig .tc := ⟨.hbm, 71, rfl⟩
abbrev main_c_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72_0 : Ref sig .tc := ⟨.hbm, 90, rfl⟩
abbrev main_v72_1 : Ref sig .tc := ⟨.hbm, 91, rfl⟩
abbrev main_v72_2 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== QkvRefIdeal.lean ====
abbrev S9216x512 : Shape := ⟨2, ![9216, 512]⟩
abbrev S9216x256 : Shape := ⟨2, ![9216, 256]⟩
abbrev S9216x64 : Shape := ⟨2, ![9216, 64]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S9216 : Shape := ⟨1, ![9216]⟩
abbrev S9216x1 : Shape := ⟨2, ![9216, 1]⟩
abbrev S1x512 : Shape := ⟨2, ![1, 512]⟩
abbrev S9216x1536 : Shape := ⟨2, ![9216, 1536]⟩
abbrev S9216x8x192 : Shape := ⟨3, ![9216, 8, 192]⟩
abbrev S9216x8x128 : Shape := ⟨3, ![9216, 8, 128]⟩
abbrev S9216x8x64 : Shape := ⟨3, ![9216, 8, 64]⟩
abbrev S8192x8x64 : Shape := ⟨3, ![8192, 8, 64]⟩
abbrev S4x2048x8x64 : Shape := ⟨4, ![4, 2048, 8, 64]⟩
abbrev S2048x1x2x16 : Shape := ⟨4, ![2048, 1, 2, 16]⟩
abbrev S4x2048x8x2x2x16 : Shape := ⟨6, ![4, 2048, 8, 2, 2, 16]⟩
abbrev S4x2048x8x2x1x16 : Shape := ⟨6, ![4, 2048, 8, 2, 1, 16]⟩
abbrev S4x2048x8x2x16 : Shape := ⟨5, ![4, 2048, 8, 2, 16]⟩
abbrev S1x2048x1x2x16 : Shape := ⟨5, ![1, 2048, 1, 2, 16]⟩
abbrev S1024x8x64 : Shape := ⟨3, ![1024, 8, 64]⟩
abbrev S8192x64 : Shape := ⟨2, ![8192, 64]⟩
abbrev S4x2048x64 : Shape := ⟨3, ![4, 2048, 64]⟩
abbrev S4x2048x2x2x16 : Shape := ⟨5, ![4, 2048, 2, 2, 16]⟩
abbrev S4x2048x2x1x16 : Shape := ⟨5, ![4, 2048, 2, 1, 16]⟩
abbrev S4x2048x2x16 : Shape := ⟨4, ![4, 2048, 2, 16]⟩
abbrev S1x2048x2x16 : Shape := ⟨4, ![1, 2048, 2, 16]⟩
abbrev S1024x64 : Shape := ⟨2, ![1024, 64]⟩
abbrev S1x256 : Shape := ⟨2, ![1, 256]⟩
abbrev S9216x2048 : Shape := ⟨2, ![9216, 2048]⟩
abbrev S9216x8x256 : Shape := ⟨3, ![9216, 8, 256]⟩
abbrev S9216x1x64 : Shape := ⟨3, ![9216, 1, 64]⟩

abbrev nBuf : Space → Nat
  | .hbm => 159
  | .vmem => 0
  | .smem => 0
  | _ => 0

abbrev hbmTy0_0 (i : Nat) : BufTy := match i % 128 with
  | 0 => ⟨S9216x512, .bf16⟩
  | 1 => ⟨S9216x256, .bf16⟩
  | 2 => ⟨S9216x64, .bf16⟩
  | 3 => ⟨S512, .f32⟩
  | 4 => ⟨S256, .f32⟩
  | 5 => ⟨S512x1536, .f32⟩
  | 6 => ⟨S256x2048, .f32⟩
  | 7 => ⟨S32, .f32⟩
  | 8 => ⟨S32x64, .f32⟩
  | 9 => ⟨S2048, .f32⟩
  | 10 => ⟨S64, .f32⟩
  | 11 => ⟨S1x64, .f32⟩
  | 12 => ⟨S32x64, .f32⟩
  | 13 => ⟨S2048, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x1, .f32⟩
  | 28 => ⟨S1x16, .f32⟩
  | 29 => ⟨S2048x16, .f32⟩
  | 30 => ⟨S2048x16, .f32⟩
  | 31 => ⟨S2048x16, .f32⟩
  | 32 => ⟨S2048x1x16, .f32⟩
  | 33 => ⟨S2048x1x16, .f32⟩
  | 34 => ⟨S2048x2x16, .f32⟩
  | 35 => ⟨S2048x2x16, .f32⟩
  | 36 => ⟨S2048x2x16, .f32⟩
  | 37 => ⟨S9216x512, .f32⟩
  | 38 => ⟨S9216x256, .f32⟩
  | 39 => ⟨S9216x64, .f32⟩
  | 40 => ⟨S9216x512, .f32⟩
  | 41 => ⟨S_, .f32⟩
  | 42 => ⟨S9216, .f32⟩
  | 43 => ⟨S9216x1, .f32⟩
  | 44 => ⟨S_, .f32⟩
  | 45 => ⟨S9216x1, .f32⟩
  | 46 => ⟨S9216x1, .f32⟩
  | 47 => ⟨S_, .f32⟩
  | 48 => ⟨S9216x1, .f32⟩
  | 49 => ⟨S9216x1, .f32⟩
  | 50 => ⟨S9216x1, .f32⟩
  | 51 => ⟨S9216x512, .f32⟩
  | 52 => ⟨S9216x512, .f32⟩
  | 53 => ⟨S1x512, .f32⟩
  | 54 => ⟨S9216x512, .f32⟩
  | 55 => ⟨S9216x512, .f32⟩
  | 56 => ⟨S9216x1536, .f32⟩
  | 57 => ⟨S9216x8x192, .f32⟩
  | 58 => ⟨S9216x8x128, .f32⟩
  | 59 => ⟨S9216x8x64, .f32⟩
  | 60 => ⟨S8192x8x64, .f32⟩
  | 61 => ⟨S4x2048x8x64, .f32⟩
  | 62 => ⟨S2048x1x2x16, .f32⟩
  | 63 => ⟨S2048x1x2x16, .f32⟩
  | 64 => ⟨S4x2048x8x2x2x16, .f32⟩
  | 65 => ⟨S4x2048x8x2x1x16, .f32⟩
  | 66 => ⟨S4x2048x8x2x16, .f32⟩
  | 67 => ⟨S4x2048x8x2x1x16, .f32⟩
  | 68 => ⟨S4x2048x8x2x16, .f32⟩
  | 69 => ⟨S1x2048x1x2x16, .f32⟩
  | 70 => ⟨S4x2048x8x2x16, .f32⟩
  | 71 => ⟨S4x2048x8x2x16, .f32⟩
  | 72 => ⟨S1x2048x1x2x16, .f32⟩
  | 73 => ⟨S4x2048x8x2x16, .f32⟩
  | 74 => ⟨S4x2048x8x2x16, .f32⟩
  | 75 => ⟨S4x2048x8x2x16, .f32⟩
  | 76 => ⟨S1x2048x1x2x16, .f32⟩
  | 77 => ⟨S4x2048x8x2x16, .f32⟩
  | 78 => ⟨S4x2048x8x2x16, .f32⟩
  | 79 => ⟨S1x2048x1x2x16, .f32⟩
  | 80 => ⟨S4x2048x8x2x16, .f32⟩
  | 81 => ⟨S4x2048x8x2x16, .f32⟩
  | 82 => ⟨S4x2048x8x2x16, .f32⟩
  | 83 => ⟨S4x2048x8x2x1x16, .f32⟩
  | 84 => ⟨S4x2048x8x2x1x16, .f32⟩
  | 85 => ⟨S4x2048x8x2x2x16, .f32⟩
  | 86 => ⟨S4x2048x8x64, .f32⟩
  | 87 => ⟨S8192x8x64, .f32⟩
  | 88 => ⟨S1024x8x64, .f32⟩
  | 89 => ⟨S9216x8x64, .f32⟩
  | 90 => ⟨S8192x64, .f32⟩
  | 91 => ⟨S4x2048x64, .f32⟩
  | 92 => ⟨S4x2048x2x2x16, .f32⟩
  | 93 => ⟨S4x2048x2x1x16, .f32⟩
  | 94 => ⟨S4x2048x2x16, .f32⟩
  | 95 => ⟨S4x2048x2x1x16, .f32⟩
  | 96 => ⟨S4x2048x2x16, .f32⟩
  | 97 => ⟨S1x2048x2x16, .f32⟩
  | 98 => ⟨S4x2048x2x16, .f32⟩
  | 99 => ⟨S4x2048x2x16, .f32⟩
  | 100 => ⟨S1x2048x2x16, .f32⟩
  | 101 => ⟨S4x2048x2x16, .f32⟩
  | 102 => ⟨S4x2048x2x16, .f32⟩
  | 103 => ⟨S4x2048x2x16, .f32⟩
  | 104 => ⟨S1x2048x2x16, .f32⟩
  | 105 => ⟨S4x2048x2x16, .f32⟩
  | 106 => ⟨S4x2048x2x16, .f32⟩
  | 107 => ⟨S1x2048x2x16, .f32⟩
  | 108 => ⟨S4x2048x2x16, .f32⟩
  | 109 => ⟨S4x2048x2x16, .f32⟩
  | 110 => ⟨S4x2048x2x16, .f32⟩
  | 111 => ⟨S4x2048x2x1x16, .f32⟩
  | 112 => ⟨S4x2048x2x1x16, .f32⟩
  | 113 => ⟨S4x2048x2x2x16, .f32⟩
  | 114 => ⟨S4x2048x64, .f32⟩
  | 115 => ⟨S8192x64, .f32⟩
  | 116 => ⟨S1024x64, .f32⟩
  | 117 => ⟨S9216x64, .f32⟩
  | 118 => ⟨S9216x256, .f32⟩
  | 119 => ⟨S_, .f32⟩
  | 120 => ⟨S9216, .f32⟩
  | 121 => ⟨S9216x1, .f32⟩
  | 122 => ⟨S_, .f32⟩
  | 123 => ⟨S9216x1, .f32⟩
  | 124 => ⟨S9216x1, .f32⟩
  | 125 => ⟨S_, .f32⟩
  | 126 => ⟨S9216x1, .f32⟩
  | 127 => ⟨S9216x1, .f32⟩
  | _ => ⟨S9216x512, .bf16⟩

abbrev hbmTy0_1 (i : Nat) : BufTy := match i % 128 with
  | 0 => ⟨S9216x1, .f32⟩
  | 1 => ⟨S9216x256, .f32⟩
  | 2 => ⟨S9216x256, .f32⟩
  | 3 => ⟨S1x256, .f32⟩
  | 4 => ⟨S9216x256, .f32⟩
  | 5 => ⟨S9216x256, .f32⟩
  | 6 => ⟨S9216x2048, .f32⟩
  | 7 => ⟨S9216x8x256, .f32⟩
  | 8 => ⟨S9216x8x128, .f32⟩
  | 9 => ⟨S9216x8x128, .f32⟩
  | 10 => ⟨S9216x1x64, .f32⟩
  | 11 => ⟨S9216x8x64, .f32⟩
  | 12 => ⟨S_, .f32⟩
  | 13 => ⟨S9216x8x64, .f32⟩
  | 14 => ⟨S_, .f32⟩
  | 15 => ⟨S9216x8x128, .f32⟩
  | 16 => ⟨S_, .f32⟩
  | 17 => ⟨S9216x8x128, .f32⟩
  | 18 => ⟨S9216x8x128, .f32⟩
  | 19 => ⟨S_, .f32⟩
  | 20 => ⟨S9216x8x64, .f32⟩
  | 21 => ⟨S9216x8x64, .f32⟩
  | 22 => ⟨S9216x8x256, .f32⟩
  | 23 => ⟨S9216x2048, .f32⟩
  | 24 => ⟨S9216x2048, .bf16⟩
  | 25 => ⟨S9216x8x256, .f32⟩
  | 26 => ⟨S9216x2048, .f32⟩
  | 27 => ⟨S9216x2048, .bf16⟩
  | 28 => ⟨S9216x8x256, .f32⟩
  | 29 => ⟨S9216x2048, .f32⟩
  | 30 => ⟨S9216x2048, .bf16⟩
  | _ => ⟨S9216x512, .bf16⟩

abbrev hbmTy (i : Nat) : BufTy := match i / 128 with
  | 0 => hbmTy0_0 i
  | 1 => hbmTy0_1 i
  | _ => ⟨S9216x512, .bf16⟩

abbrev bufTy : (tb : Table) → Fin (tcTables nBuf tb) → BufTy
  | .hbm, ⟨i, _⟩ => hbmTy i
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_cst_4 : Ref sig .tc := ⟨.hbm, 119, rfl⟩
abbrev main_v107 : Ref sig .tc := ⟨.hbm, 120, rfl⟩
abbrev main_v108 : Ref sig .tc := ⟨.hbm, 121, rfl⟩
abbrev main_cst_5 : Ref sig .tc := ⟨.hbm, 122, rfl⟩
abbrev main_v109 : Ref sig .tc := ⟨.hbm, 123, rfl⟩
abbrev main_v110 : Ref sig .tc := ⟨.hbm, 124, rfl⟩
abbrev main_cst_6 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_7 : Ref sig .tc := ⟨.hbm, 140, rfl⟩
abbrev main_v125 : Ref sig .tc := ⟨.hbm, 141, rfl⟩
abbrev main_cst_8 : Ref sig .tc := ⟨.hbm, 142, rfl⟩
abbrev main_v126 : Ref sig .tc := ⟨.hbm, 143, rfl⟩
abbrev main_cst_9 : Ref sig .tc := ⟨.hbm, 144, rfl⟩
abbrev main_v127 : Ref sig .tc := ⟨.hbm, 145, rfl⟩
abbrev main_v128 : Ref sig .tc := ⟨.hbm, 146, rfl⟩
abbrev main_cst_10 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩

abbrev nD : Nat := 1
abbrev τ : Topo := Topo.v7x

variable {F : FTy → Type} [FloatOps F]
-- ==== Proof.UpValue.lean ====
/-
  The gated half of the feed-forward block: 9 row blocks by 11 column blocks; the column block's two weight tiles are
  copied to scratch at the first row block and read from there at the other eight.
-/
module

public import proofs.«01_k».proof.Defs
public import proofs.«01_k».proof.Proof.Gen.UpIdeal.Frame
public import proofs.«01_k».proof.Proof.Gen.UpRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.UpValue

open Idealize.ShloMosaic Idealize.ShloMosaic.TcCoe Idealize.SL.Sem
open Idealize.ShloMosaic.Pipeline (Dat)

section Kernel
open Cert.UpIdeal Cert.UpIdeal.Gen

variable (m : (ℓ : Loc nD τ sig) → Buf (Elt Ideal) ℓ)

/-- The windows' blocks at point `t`: row block `t % 9`, column block `t / 9`. -/
theorem idx : ∀ t : Fin cfg0.N, win0_0.index t = ![t.val % 9, 0] ∧ win0_1.index t = ![0, 0, t.val / 9]
    ∧ win0_2.index t = ![0, 0, t.val / 9] ∧ win0_3.index t = ![t.val % 9, t.val / 9] ∧ t.val < 99 :=
  (by decide +kernel : ∀ t : Fin grid0.N, _)

/-- What the scratch of the gate weights holds after point `t`: the column block's weight tile. -/
theorem scr0 (c : Dev nD) (t : Fin cfg0.N) (y : S2048x512.Idx) :
    (outsAt0 m c t.val t.isLt).2.1 y = iblk m c 1 t (ix3 0 (y 0) (y 1)) := by
  rw [Pipeline.eq_of_write_hold_apply (fun n h => (outsAt0 m c n h).2.1) 9 (fun t y => iblk m c 1 t (ix3 0 (y 0) (y 1)))
    (fun t h y => by
      rw [outsAt0_A m c t h]
      frame_out
      canon_tiles x h
      all_goals (open_payloads; pointwise; blk_ext))
    (fun t h y => by rw [outsAt0_B m c t h]; rfl) t y]
  blk_ext [iblk, V, idx t, idx ⟨9 * (t.val / 9), Pipeline.run_start_lt t⟩]

/-- What the scratch of the up weights holds after point `t`: the column block's weight tile. -/
theorem scr1 (c : Dev nD) (t : Fin cfg0.N) (y : S2048x512.Idx) :
    (outsAt0 m c t.val t.isLt).2.2 y = iblk m c 2 t (ix3 0 (y 0) (y 1)) := by
  rw [Pipeline.eq_of_write_hold_apply (fun n h => (outsAt0 m c n h).2.2) 9 (fun t y => iblk m c 2 t (ix3 0 (y 0) (y 1)))
    (fun t h y => by
      rw [outsAt0_A m c t h]
      frame_out
      canon_tiles x h
      all_goals (open_payloads; pointwise; blk_ext))
    (fun t h y => by rw [outsAt0_B m c t h]; rfl) t y]
  blk_ext [iblk, V, idx t, idx ⟨9 * (t.val / 9), Pipeline.run_start_lt t⟩]

/-- What the body leaves in the output block at point `t`: the gated product of the row block with the two tiles. -/
theorem out (c : Dev nD) (t : Fin cfg0.N) (y : S1024x512.Idx) :
    (outsAt0 m c t.val t.isLt).1 y = k0_pay4 (iblk m c 0 t) (fun y : S2048x512.Idx => iblk m c 1 t (ix3 0 (y 0) (y 1)))
      (fun y : S2048x512.Idx => iblk m c 2 t (ix3 0 (y 0) (y 1))) y := by
  by_cases h : t.val % 9 = 0
  · have e0 := funext (scr0 m c t)
    have e1 := funext (scr1 m c t)
    rw [outsAt0_A m c t h] at e0 e1 ⊢
    frame_out at e0
    frame_out at e1
    frame_out
    rw [View.readCov_eq_canon', View.readCov_eq_canon', e0, e1]
    pointwise [k0_pay4]
  · have hl : t.val - 1 < cfg0.N := Nat.lt_of_le_of_lt (Nat.sub_le _ _) t.isLt
    have e0 : (outsAt0 m c (t.val - 1) hl).2.1 = fun y : S2048x512.Idx => iblk m c 1 t (ix3 0 (y 0) (y 1)) :=
      funext fun y => (scr0 m c ⟨t.val - 1, hl⟩ y).trans (by blk_ext [iblk, V, idx t, idx ⟨t.val - 1, hl⟩])
    have e1 : (outsAt0 m c (t.val - 1) hl).2.2 = fun y : S2048x512.Idx => iblk m c 2 t (ix3 0 (y 0) (y 1)) :=
      funext fun y => (scr1 m c ⟨t.val - 1, hl⟩ y).trans (by blk_ext [iblk, V, idx t, idx ⟨t.val - 1, hl⟩])
    rw [outsAt0_B m c t h]
    frame_out
    rw [read_unread_whole, read_unread_whole, e0, e1]

/-- `swish(a) · b` of the row's products with the gate and up columns. -/
def gated (x : FVec Ideal S9216x2048 .bf16) (wg wu : FVec Ideal S4x2048x5632 .f32) (r : Fin 9216) (l : Fin 5632) : EReal :=
  (∑ k : Fin 2048, x (ix2 r k) * wg (ix3 0 k l)) * Ideal.logistic (∑ k : Fin 2048, x (ix2 r k) * wg (ix3 0 k l))
    * ∑ k : Fin 2048, x (ix2 r k) * wu (ix3 0 k l)

/-- The result array after the run, entry by entry. -/
theorem final (c : Dev nD) : (dats m 0 c).arrAt 3 (cfgs 0).N
    = fun j : S9216x5632.Idx => gated (m ((c : Thread nD τ).loc main_arg0)) (m ((c : Thread nD τ).loc main_arg1))
        (m ((c : Thread nD τ).loc main_arg2)) (j 0) (j 1) := by
  refine (dats m 0 c).arrAt_eq_of_covers 3 _ (by decide +kernel) fun t _ y => ?_
  blk_simp
  rw [after0_3, out m c t]
  pointwise [k0_pay4, gated]
  blk_point [iblk, V, idx t]
end Kernel

/-- The gated half's value claim: from equal arguments the kernel and the reference leave equal result arrays. -/
theorem algebraic : Cert.algebraic_UpIdeal_UpRefIdeal := by
  pair_intro
  · run_from Cert.UpIdeal.Gen.run_main m g
  · run_from Cert.UpRefIdeal.Value.run m' g'
    rw [final m c]
    funext j
    idx_vars j
    pointwise [gated]
    rfl

end Cert.UpValue

end

end
-- ==== Proof.DownValue.lean ====
/-
  The second half of the feed-forward block: 4 column blocks by 18 row blocks; the column block's weight tile is copied
  to scratch at the first row block and read from there at the other seventeen.
-/
module

public import proofs.«01_k».proof.Defs
public import proofs.«01_k».proof.Proof.Gen.DownIdeal.Frame
public import proofs.«01_k».proof.Proof.Gen.DownRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.DownValue

open Idealize.ShloMosaic Idealize.ShloMosaic.TcCoe Idealize.SL.Sem
open Idealize.ShloMosaic.Pipeline (Dat)

section Kernel
open Cert.DownIdeal Cert.DownIdeal.Gen

variable (m : (ℓ : Loc nD τ sig) → Buf (Elt Ideal) ℓ)

/-- The windows' blocks at point `t`: row block `t % 18`, column block `t / 18`; the gate's row is the row block's batch
    (four row blocks per batch), the context's rows taking the row after the batches'. -/
theorem idx : ∀ t : Fin cfg0.N, win0_0.index t = ![t.val % 18, 0] ∧ win0_1.index t = ![0, 0, t.val / 18]
    ∧ win0_2.index t = ![t.val % 18, t.val / 18] ∧ win0_3.index t = ![0, min (t.val % 18 / 4) 4, 0, 20 + t.val / 18]
    ∧ win0_4.index t = ![t.val % 18, t.val / 18] ∧ t.val < 72 :=
  (by decide +kernel : ∀ t : Fin grid0.N, _)

/-- What the scratch of the weights holds after point `t`: the column block's weight tile. -/
theorem scr0 (c : Dev nD) (t : Fin cfg0.N) (y : S5632x512.Idx) :
    (outsAt0 m c t.val t.isLt).2 y = iblk m c 1 t (ix3 0 (y 0) (y 1)) := by
  rw [Pipeline.eq_of_write_hold_apply (fun n h => (outsAt0 m c n h).2) 18 (fun t y => iblk m c 1 t (ix3 0 (y 0) (y 1)))
    (fun t h y => by
      rw [outsAt0_A m c t h]
      frame_out
      canon_tiles x h
      all_goals (open_payloads; pointwise; blk_ext))
    (fun t h y => by rw [outsAt0_B m c t h]; rfl) t y]
  blk_ext [iblk, V, idx t, idx ⟨18 * (t.val / 18), Pipeline.run_start_lt t⟩]

/-- What the body leaves in the output block at point `t`: the residual block plus the gate times the product of the
    row block with the weight tile. -/
theorem out (c : Dev nD) (t : Fin cfg0.N) (y : S512x512.Idx) :
    (outsAt0 m c t.val t.isLt).1 y = k0_pay2 (iblk m c 0 t) (fun y : S5632x512.Idx => iblk m c 1 t (ix3 0 (y 0) (y 1)))
      (iblk m c 2 t) (iblk m c 3 t) y := by
  by_cases h : t.val % 18 = 0
  · have e0 := funext (scr0 m c t)
    rw [outsAt0_A m c t h] at e0 ⊢
    frame_out at e0
    frame_out
    rw [View.readCov_eq_canon', e0]
    pointwise [k0_pay2]
  · have hl : t.val - 1 < cfg0.N := Nat.lt_of_le_of_lt (Nat.sub_le _ _) t.isLt
    have e0 : (outsAt0 m c (t.val - 1) hl).2 = fun y : S5632x512.Idx => iblk m c 1 t (ix3 0 (y 0) (y 1)) :=
      funext fun y => (scr0 m c ⟨t.val - 1, hl⟩ y).trans (by blk_ext [iblk, V, idx t, idx ⟨t.val - 1, hl⟩])
    rw [outsAt0_B m c t h]
    frame_out
    rw [read_unread_whole, e0]

/-- The residual plus the gate of the row's batch times the row's product with the weights' column. -/
def gatedSum (a : FVec Ideal S9216x5632 .bf16) (w : FVec Ideal S4x5632x2048 .f32) (x : FVec Ideal S9216x2048 .f32)
    (g : FVec Ideal S4x8x1x12288 .f32) (r : Fin 9216) (l : Fin 2048) : EReal :=
  x (ix2 r l) + g (ix4 0 ⟨min (r.val / 2048) 4, by omega⟩ 0 ⟨10240 + l.val, by omega⟩)
    * ∑ k : Fin 5632, a (ix2 r k) * w (ix3 0 k l)

/-- The result array after the run, entry by entry. -/
theorem final (c : Dev nD) : (dats m 0 c).arrAt 4 (cfgs 0).N
    = fun j : S9216x2048.Idx => gatedSum (m ((c : Thread nD τ).loc main_arg0)) (m ((c : Thread nD τ).loc main_arg1))
        (m ((c : Thread nD τ).loc main_arg2)) (m ((c : Thread nD τ).loc main_arg3)) (j 0) (j 1) := by
  refine (dats m 0 c).arrAt_eq_of_covers 4 _ (by decide +kernel) fun t _ y => ?_
  blk_simp
  rw [after0_4, out m c t]
  pointwise [k0_pay2, gatedSum]
  blk_point [iblk, V, idx t]
end Kernel

/-- The second half's value claim: from equal arguments the kernel and the reference leave equal result arrays. -/
theorem algebraic : Cert.algebraic_DownIdeal_DownRefIdeal := by
  pair_intro
  · run_from Cert.DownIdeal.Gen.run_main m g
  · run_from Cert.DownRefIdeal.Value.run m' g'
    rw [final m c]
    funext j
    idx_vars j
    pointwise [gatedSum]
    have h3 := (hagree c).2.2.2
    by_cases h : (j0 : ℕ) < 8192
    · simp only [dif_pos h]
      blk_point []
      exact (congrFun h3 _).trans (by blk_ext)
    · simp only [dif_neg h]
      blk_point []
      exact (congrFun h3 _).trans (by blk_ext)

end Cert.DownValue

end

end
-- ==== Proof.MergeBlocks.lean ====
/-
  The mixers' merge: the three mixers' outputs (the attention's normalised first) times the output weights, added to the
  residual under its gate, and the feed-forward block's normalised and modulated input; blocks of 512 rows, each in two
  halves of 256.
-/
module

public import proofs.«01_k».proof.Proof.Gen.MergeIdeal.Frame
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.MergeValue

open Idealize.ShloMosaic Idealize.ShloMosaic.TcCoe Idealize.SL.Sem
open Idealize.ShloMosaic.Pipeline (Dat)

section Kernel
open Cert.MergeIdeal Cert.MergeIdeal.Gen

variable (m : (ℓ : Loc nD τ sig) → Buf (Elt Ideal) ℓ)

/-- The windows' blocks at point `t`: the `t`-th 512 rows, the whole weights, and the modulation rows of the block's batch
    (four row blocks per batch), the context's rows taking the row after the batches'. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0]
    ∧ win0_6.index t = ![0, min (t.val / 4) 4, 0, 2] ∧ win0_7.index t = ![0, 0] ∧ win0_8.index t = ![0, min (t.val / 4) 4, 0, 3]
    ∧ win0_9.index t = ![0, min (t.val / 4) 4, 0, 4] ∧ win0_10.index t = ![t.val, 0] ∧ win0_11.index t = ![t.val, 0] ∧ t.val < 18 :=
  (by decide +kernel : ∀ t : Fin grid0.N, _)

/-- The modulation row of row `r`: its batch's, or the context's. -/
def modRow (r : Fin 9216) : Fin 8 := ⟨min (r.val / 2048) 4, by omega⟩

/-- The attention's output, normalised: entry `(r, k)`. -/
def attNormed (a : FVec Ideal S9216x1024 .bf16) (g : FVec Ideal S1024 .f32) (r : Fin 9216) (k : Fin 1024) : EReal :=
  a (ix2 r k) * Ideal.rsqrt (Ideal.div (∑ k : Fin 1024, a (ix2 r k) * a (ix2 r k)) (Ideal.ofBits .f32 0x44800000#32)
    + Ideal.ofBits .f32 0x358637BD#32) * g (ix1 k)

/-- The residual stream after the mixers: entry `(r, l)`. -/
def merged (yc : FVec Ideal S9216x512 .bf16) (ya : FVec Ideal S9216x1024 .bf16) (ys : FVec Ideal S9216x512 .bf16)
    (gn : FVec Ideal S1024 .f32) (w : FVec Ideal S4x2048x2048 .f32) (x : FVec Ideal S9216x2048 .f32)
    (md : FVec Ideal S4x8x1x12288 .f32) (r : Fin 9216) (l : Fin 2048) : EReal :=
  x (ix2 r l) + md (ix4 0 (modRow r) 0 ⟨4096 + l.val, by omega⟩)
    * ((∑ k : Fin 512, yc (ix2 r k) * w (ix3 0 ⟨k.val, by omega⟩ l))
      + (∑ k : Fin 1024, attNormed ya gn r k * w (ix3 0 ⟨512 + k.val, by omega⟩ l))
      + (∑ k : Fin 512, ys (ix2 r k) * w (ix3 0 ⟨1536 + k.val, by omega⟩ l)))

/-- A row `f` normalised, weighted by `g` and modulated by the row's shift and scale: entry `l`. -/
def modulated (f : Fin 2048 → EReal) (g : FVec Ideal S2048 .f32) (md : FVec Ideal S4x8x1x12288 .f32) (r : Fin 9216)
    (l : Fin 2048) : EReal :=
  f l * Ideal.rsqrt (Ideal.div (∑ k : Fin 2048, f k * f k) (Ideal.ofBits .f32 0x45000000#32)
    + Ideal.ofBits .f32 0x358637BD#32) * g (ix1 l) * (1 + md (ix4 0 (modRow r) 0 ⟨8192 + l.val, by omega⟩))
    + md (ix4 0 (modRow r) 0 ⟨6144 + l.val, by omega⟩)

/-- The first result array after the run, entry by entry. -/
theorem final10 (c : Dev nD) : (dats m 0 c).arrAt 10 (cfgs 0).N
    = fun j : S9216x2048.Idx => merged (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg7)) (j 0) (j 1) := by
  refine (dats m 0 c).arrAt_eq_of_covers 10 _ (by decide +kernel) fun t _ y => ?_
  blk_simp
  rw [after0_10]
  frame_out
  canon_tiles x h
  all_goals
    pointwise [k0_pay11, k0_pay9, k0_pay2, k0_pay3, k0_pay7, k0_pay8, k0_pay13, k0_pay14, k0_pay18, k0_pay19, merged, attNormed]
    blk_point [iblk, V, idx t, modRow]

set_option maxHeartbeats 1600000 in
/-- The second result array after the run, entry by entry. -/
theorem final11 (c : Dev nD) : (dats m 0 c).arrAt 11 (cfgs 0).N
    = fun j : S9216x2048.Idx => modulated (merged (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg7)) (j 0))
        (m ((c : Thread nD τ).loc main_arg6)) (m ((c : Thread nD τ).loc main_arg7)) (j 0) (j 1) := by
  refine (dats m 0 c).arrAt_eq_of_covers 11 _ (by decide +kernel) fun t _ y => ?_
  blk_simp
  rw [after0_11]
  frame_out
  canon_tiles x h
  all_goals
    pointwise [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, modulated, merged, attNormed]
    blk_point [iblk, V, idx t, modRow]
end Kernel

end Cert.MergeValue

end

end
-- ==== Proof.MergeValue.lean ====
/-
  The mixers' merge, the reference's side: its two results are, entry by entry, the formulas the kernel's arrays hold.
-/
module

public import proofs.«01_k».proof.Defs
public import proofs.«01_k».proof.Proof.MergeBlocks
public import proofs.«01_k».proof.Proof.Gen.MergeRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.MergeValue

open Idealize.ShloMosaic Idealize.ShloMosaic.TcCoe Idealize.SL.Sem
open Idealize.ShloMosaic.Pipeline (Dat)

/-- A contraction over three pieces laid end to end is the sum of the pieces' contractions. -/
theorem sum_three (a : Fin 512 → EReal) (b : Fin 1024 → EReal) (d : Fin 512 → EReal) (w : Fin 2048 → EReal) :
    (∑ x : Fin 2048, (if h : (x : ℕ) < 512 then a ⟨x, h⟩ else if h' : (x : ℕ) - 512 < 1024 then b ⟨(x : ℕ) - 512, h'⟩
      else d ⟨(x : ℕ) - 512 - 1024, by omega⟩) * w x)
    = (∑ k : Fin 512, a k * w ⟨k.val, by omega⟩) + (∑ k : Fin 1024, b k * w ⟨512 + k.val, by omega⟩)
      + ∑ k : Fin 512, d k * w ⟨1536 + k.val, by omega⟩ := by
  have e := Fin.sum_univ_add (a := 512 + 1024) (b := 512) (fun x : Fin 2048 =>
    (if h : (x : ℕ) < 512 then a ⟨x, h⟩ else if h' : (x : ℕ) - 512 < 1024 then b ⟨(x : ℕ) - 512, h'⟩
      else d ⟨(x : ℕ) - 512 - 1024, by omega⟩) * w x)
  refine e.trans ?_
  rw [Fin.sum_univ_add (a := 512) (b := 1024)]
  refine congrArg₂ (· + ·) (congrArg₂ (· + ·) ?_ ?_) ?_
  · refine Finset.sum_congr rfl fun k _ => ?_
    rw [dif_pos (by simp)]
    rfl
  · refine Finset.sum_congr rfl fun k _ => ?_
    rw [dif_neg (by simp), dif_pos (by simp)]
    exact congrArg₂ (· * ·) (congrArg b (Fin.ext (by simp))) (congrArg w (Fin.ext (by simp)))
  · refine Finset.sum_congr rfl fun k _ => ?_
    rw [dif_neg (by simp; omega), dif_neg (by simp; omega)]
    exact congrArg₂ (· * ·) (congrArg d (Fin.ext (by simp; omega))) (congrArg w (Fin.ext (by simp)))

section Reference
open Cert.MergeRefIdeal Cert.MergeRefIdeal.Gen

/-- The reference's first result, over its arguments. -/
def x2Ref (yc : FVec Ideal S9216x512 .bf16) (ya : FVec Ideal S9216x1024 .bf16) (ys : FVec Ideal S9216x512 .bf16)
    (gn : FVec Ideal S1024 .f32) (w : FVec Ideal S4x2048x2048 .f32) (x : FVec Ideal S9216x2048 .f32)
    (md : FVec Ideal S4x8x1x12288 .f32) : FVec Ideal S9216x2048 .f32 :=
  addf x (mulf (concatenate S9216x2048 0 [⟨S8192x2048, (shapeCast _ (broadcastInDim S4x2048x2048 ![0, 1, 2]
    bcast_S4x1x2048_S4x2048x2048_0_1_2 (broadcastInDim S4x1x2048 ![0, 2] bcast_S4x2048_S4x1x2048_0_2
    (extractStridedSlice S4x2048 ![0, 0] (extractStridedSlice S8x2048 ![0, 4096] (shapeCast _ (extractStridedSlice
    S1x8x1x12288 ![0, 0, 0, 0] md slices_S4x8x1x12288_S1x8x1x12288_0_0_0_0) shapeCasts_S1x8x1x12288_S8x12288)
    slices_S8x12288_S8x2048_0_4096) slices_S8x2048_S4x2048_0_0))) shapeCasts_S4x2048x2048_S8192x2048)⟩, ⟨S1024x2048,
    (broadcastInDim S1024x2048 ![0, 1] bcast_S1x2048_S1024x2048_0_1 (broadcastInDim S1x2048 ![1] bcast_S2048_S1x2048_1
    (shapeCast _ (extractStridedSlice S1x2048 ![4, 0] (extractStridedSlice S8x2048 ![0, 4096] (shapeCast _
    (extractStridedSlice S1x8x1x12288 ![0, 0, 0, 0] md slices_S4x8x1x12288_S1x8x1x12288_0_0_0_0)
    shapeCasts_S1x8x1x12288_S8x12288) slices_S8x12288_S8x2048_0_4096) slices_S8x2048_S1x2048_4_0)
    shapeCasts_S1x2048_S2048)))⟩] concatenates_S8192x2048_S1024x2048_S9216x2048_d0) (Host.dotGeneral (φ₁ := .f32) (φ₂
    := .f32) dot_S9216x2048_S2048x2048_S9216x2048_1_0_0_1_n_n none ((concatenate S9216x2048 1 [⟨S9216x512, ((extf .f32
    yc bitsLt_bf16_f32) : (⟨S9216x512, .f32⟩ : BufTy).Contents (Elt Ideal))⟩, ⟨S9216x1024, ((mulf (mulf (extf .f32 ya
    bitsLt_bf16_f32) (broadcastInDim S9216x1024 ![0, 1] bcast_S9216x1_S9216x1024_0_1 (Host.rsqrt (addf (Host.divf
    (broadcastInDim S9216x1 ![0] bcast_S9216_S9216x1_0 (Host.reduceAdd (mulf (extf .f32 ya bitsLt_bf16_f32) (extf .f32
    ya bitsLt_bf16_f32)) (constant S_ .f32 0x00000000#32) reducesTo_S9216x1024_S9216_d1 h_S_)) (broadcastInDim S9216x1
    ![] bcast_S_S9216x1 (constant S_ .f32 0x44800000#32))) (broadcastInDim S9216x1 ![] bcast_S_S9216x1 (constant S_
    .f32 0x358637BD#32)))))) (broadcastInDim S9216x1024 ![0, 1] bcast_S1x1024_S9216x1024_0_1 (broadcastInDim S1x1024
    ![1] bcast_S1024_S1x1024_1 gn))) : (⟨S9216x1024, .f32⟩ : BufTy).Contents (Elt Ideal))⟩, ⟨S9216x512, ((extf .f32 ys
    bitsLt_bf16_f32) : (⟨S9216x512, .f32⟩ : BufTy).Contents (Elt Ideal))⟩]
    concatenates_S9216x512_S9216x1024_S9216x512_S9216x2048_d1 : (⟨S9216x2048, .f32⟩ : BufTy).Contents (Elt Ideal)))
    (shapeCast _ (extractStridedSlice S1x2048x2048 ![0, 0, 0] w slices_S4x2048x2048_S1x2048x2048_0_0_0)
    shapeCasts_S1x2048x2048_S2048x2048)))

/-- The reference's second result, over its first and the other arguments. -/
def h2Ref (x2 : FVec Ideal S9216x2048 .f32) (gain : FVec Ideal S2048 .f32) (md : FVec Ideal S4x8x1x12288 .f32) :
    FVec Ideal S9216x2048 .bf16 :=
  truncf .bf16 (addf (mulf (mulf (mulf x2 (broadcastInDim S9216x2048 ![0, 1] bcast_S9216x1_S9216x2048_0_1 (Host.rsqrt
    (addf (Host.divf (broadcastInDim S9216x1 ![0] bcast_S9216_S9216x1_0 (Host.reduceAdd (mulf x2 x2) (constant S_ .f32
    0x00000000#32) reducesTo_S9216x2048_S9216_d1 h_S_)) (broadcastInDim S9216x1 ![] bcast_S_S9216x1 (constant S_ .f32
    0x45000000#32))) (broadcastInDim S9216x1 ![] bcast_S_S9216x1 (constant S_ .f32 0x358637BD#32)))))) (broadcastInDim
    S9216x2048 ![0, 1] bcast_S1x2048_S9216x2048_0_1 (broadcastInDim S1x2048 ![1] bcast_S2048_S1x2048_1 gain))) (addf
    (broadcastInDim S9216x2048 ![] bcast_S_S9216x2048 (constant S_ .f32 0x3F800000#32)) (concatenate S9216x2048 0
    [⟨S8192x2048, (shapeCast _ (broadcastInDim S4x2048x2048 ![0, 1, 2] bcast_S4x1x2048_S4x2048x2048_0_1_2
    (broadcastInDim S4x1x2048 ![0, 2] bcast_S4x2048_S4x1x2048_0_2 (extractStridedSlice S4x2048 ![0, 0]
    (extractStridedSlice S8x2048 ![0, 8192] (shapeCast _ (extractStridedSlice S1x8x1x12288 ![0, 0, 0, 0] md
    slices_S4x8x1x12288_S1x8x1x12288_0_0_0_0) shapeCasts_S1x8x1x12288_S8x12288) slices_S8x12288_S8x2048_0_8192)
    slices_S8x2048_S4x2048_0_0))) shapeCasts_S4x2048x2048_S8192x2048)⟩, ⟨S1024x2048, (broadcastInDim S1024x2048 ![0,
    1] bcast_S1x2048_S1024x2048_0_1 (broadcastInDim S1x2048 ![1] bcast_S2048_S1x2048_1 (shapeCast _
    (extractStridedSlice S1x2048 ![4, 0] (extractStridedSlice S8x2048 ![0, 8192] (shapeCast _ (extractStridedSlice
    S1x8x1x12288 ![0, 0, 0, 0] md slices_S4x8x1x12288_S1x8x1x12288_0_0_0_0) shapeCasts_S1x8x1x12288_S8x12288)
    slices_S8x12288_S8x2048_0_8192) slices_S8x2048_S1x2048_4_0) shapeCasts_S1x2048_S2048)))⟩]
    concatenates_S8192x2048_S1024x2048_S9216x2048_d0))) (concatenate S9216x2048 0 [⟨S8192x2048, (shapeCast _
    (broadcastInDim S4x2048x2048 ![0, 1, 2] bcast_S4x1x2048_S4x2048x2048_0_1_2 (broadcastInDim S4x1x2048 ![0, 2]
    bcast_S4x2048_S4x1x2048_0_2 (extractStridedSlice S4x2048 ![0, 0] (extractStridedSlice S8x2048 ![0, 6144]
    (shapeCast _ (extractStridedSlice S1x8x1x12288 ![0, 0, 0, 0] md slices_S4x8x1x12288_S1x8x1x12288_0_0_0_0)
    shapeCasts_S1x8x1x12288_S8x12288) slices_S8x12288_S8x2048_0_6144) slices_S8x2048_S4x2048_0_0)))
    shapeCasts_S4x2048x2048_S8192x2048)⟩, ⟨S1024x2048, (broadcastInDim S1024x2048 ![0, 1] bcast_S1x2048_S1024x2048_0_1
    (broadcastInDim S1x2048 ![1] bcast_S2048_S1x2048_1 (shapeCast _ (extractStridedSlice S1x2048 ![4, 0]
    (extractStridedSlice S8x2048 ![0, 6144] (shapeCast _ (extractStridedSlice S1x8x1x12288 ![0, 0, 0, 0] md
    slices_S4x8x1x12288_S1x8x1x12288_0_0_0_0) shapeCasts_S1x8x1x12288_S8x12288) slices_S8x12288_S8x2048_0_6144)
    slices_S8x2048_S1x2048_4_0) shapeCasts_S1x2048_S2048)))⟩] concatenates_S8192x2048_S1024x2048_S9216x2048_d0))
    bitsLt_bf16_f32

/-- The first result at an entry. -/
theorem x2Ref_at (yc : FVec Ideal S9216x512 .bf16) (ya : FVec Ideal S9216x1024 .bf16) (ys : FVec Ideal S9216x512 .bf16)
    (gn : FVec Ideal S1024 .f32) (w : FVec Ideal S4x2048x2048 .f32) (x : FVec Ideal S9216x2048 .f32)
    (md : FVec Ideal S4x8x1x12288 .f32) (r : Fin 9216) (l : Fin 2048) :
    x2Ref yc ya ys gn w x md (ix2 r l) = merged yc ya ys gn w x md r l := by
  pointwise [x2Ref, merged]
  refine congrArg₂ (· + ·) rfl (congrArg₂ (· * ·) ?_ ((sum_three (fun k => yc (ix2 r k)) (attNormed ya gn r)
    (fun k => ys (ix2 r k)) (fun k => w (ix3 0 k l)))))
  by_cases h : (r : ℕ) < 8192
  · rw [dif_pos h]; blk_ext [modRow]
  · rw [dif_neg h]; blk_ext [modRow]

/-- The second result at an entry. -/
theorem h2Ref_at (x2 : FVec Ideal S9216x2048 .f32) (gain : FVec Ideal S2048 .f32) (md : FVec Ideal S4x8x1x12288 .f32)
    (r : Fin 9216) (l : Fin 2048) :
    h2Ref x2 gain md (ix2 r l) = modulated (fun k => x2 (ix2 r k)) gain md r l := by
  pointwise [h2Ref, modulated]
  by_cases h : (r : ℕ) < 8192
  · simp only [dif_pos h]; blk_point [modRow]
  · simp only [dif_neg h]; blk_point [modRow]

/-- The first result from equal arguments. -/
theorem x2Ref_eq {yc yc' : FVec Ideal S9216x512 .bf16} {ya ya' : FVec Ideal S9216x1024 .bf16} {ys ys' : FVec Ideal S9216x512 .bf16} {gn gn' : FVec Ideal S1024 .f32} {w w' : FVec Ideal S4x2048x2048 .f32} {x x' : FVec Ideal S9216x2048 .f32} {md md' : FVec Ideal S4x8x1x12288 .f32}
    (hyc : yc' = yc) (hya : ya' = ya) (hys : ys' = ys) (hgn : gn' = gn) (hw : w' = w) (hx : x' = x) (hmd : md' = md) (r : Fin 9216) (l : Fin 2048) :
    x2Ref yc' ya' ys' gn' w' x' md' (ix2 r l) = merged yc ya ys gn w x md r l := by
  subst hyc hya hys hgn hw hx hmd
  exact x2Ref_at _ _ _ _ _ _ _ r l

/-- The second result from equal arguments. -/
theorem h2Ref_eq {yc yc' : FVec Ideal S9216x512 .bf16} {ya ya' : FVec Ideal S9216x1024 .bf16} {ys ys' : FVec Ideal S9216x512 .bf16} {gn gn' : FVec Ideal S1024 .f32} {w w' : FVec Ideal S4x2048x2048 .f32} {x x' : FVec Ideal S9216x2048 .f32} {gain gain' : FVec Ideal S2048 .f32} {md md' : FVec Ideal S4x8x1x12288 .f32}
    (hyc : yc' = yc) (hya : ya' = ya) (hys : ys' = ys) (hgn : gn' = gn) (hw : w' = w) (hx : x' = x) (hgain : gain' = gain) (hmd : md' = md) (r : Fin 9216) (l : Fin 2048) :
    h2Ref (x2Ref yc' ya' ys' gn' w' x' md') gain' md' (ix2 r l)
      = modulated (fun k => merged yc ya ys gn w x md r k) gain md r l := by
  subst hyc hya hys hgn hw hx hgain hmd
  rw [h2Ref_at]
  simp only [x2Ref_at]
end Reference

/-- The merge's value claim: from equal arguments the kernel and the reference leave equal result arrays. -/
theorem algebraic : Cert.algebraic_MergeIdeal_MergeRefIdeal := by
  pair_intro
  · run_from Cert.MergeIdeal.Gen.run_main m g
  · run_from Cert.MergeRefIdeal.Value.run m' g'
    · rw [final10 m c]
      funext j
      idx_vars j
      obtain ⟨h0, h1, h2, h3, h4, h5, h6, h7⟩ := hagree c
      exact x2Ref_eq rfl rfl rfl rfl rfl rfl h7 j0 j1
    · rw [final11 m c]
      funext j
      idx_vars j
      obtain ⟨h0, h1, h2, h3, h4, h5, h6, h7⟩ := hagree c
      exact h2Ref_eq h0 h1 h2 h3 h4 h5 h6 h7 j0 j1

end Cert.MergeValue

end

end
-- ==== Proof.FinValue.lean ====
/-
  The last root-mean-square norm: what the kernel's sixteen blocks of 512 rows leave in the result array is, entry by
  entry, the plain formula, and the reference's array is the same formula.
-/
module

public import proofs.«01_k».proof.Defs
public import proofs.«01_k».proof.Proof.Gen.FinIdeal.Frame
public import proofs.«01_k».proof.Proof.Gen.FinRefIdeal.Run
public import Idealize.ShloMosaic.Lib.Pipeline.ValueKit
public import Idealize.ShloMosaic.Lib.Claim

@[expose] public section

set_option maxRecDepth 16384

noncomputable section

namespace Cert.FinValue

open Idealize.ShloMosaic Idealize.ShloMosaic.TcCoe Idealize.SL.Sem
open Idealize.ShloMosaic.Pipeline (Dat)

section Kernel
open Cert.FinIdeal Cert.FinIdeal.Gen

variable (m : (ℓ : Loc nD τ sig) → Buf (Elt Ideal) ℓ)

/-- The normalised row times its weights: entry `(r, l)` is `x_rl / sqrt (mean of the row's squares + ε) · w_l`. -/
def normed (x : FVec Ideal S9216x2048 .f32) (w : FVec Ideal S2048 .f32) (r : Fin 9216) (l : Fin 2048) : EReal :=
  x (ix2 r l) * Ideal.rsqrt (Ideal.div (∑ k : Fin 2048, x (ix2 r k) * x (ix2 r k)) (Ideal.ofBits .f32 0x45000000#32)
    + Ideal.ofBits .f32 0x358637BD#32) * w (ix1 l)

/-- The windows' blocks: point `t` reads and writes the `t`-th 512 rows, and the whole weights. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The result array after the run, entry by entry. -/
theorem final (c : Dev nD) : (dats m 0 c).arrAt 2 (cfgs 0).N
    = fun j : S8192x2048.Idx => normed (m ((c : Thread nD τ).loc main_arg0)) (m ((c : Thread nD τ).loc main_arg1))
        ⟨(j 0).val, lt_of_lt_of_le (j 0).isLt (by decide)⟩ (j 1) := by
  refine (dats m 0 c).arrAt_eq_of_covers 2 _ (by decide +kernel) fun t _ y => ?_
  blk_simp
  rw [after0_2]
  frame_out
  pointwise [k0_pay1, normed]
  blk_point [iblk, V, idx t]
end Kernel

/-- The norm's value claim: from equal arguments the kernel and the reference leave equal result arrays. -/
theorem algebraic : Cert.algebraic_FinIdeal_FinRefIdeal := by
  pair_intro
  · run_from Cert.FinIdeal.Gen.run_main m g
  · run_from Cert.FinRefIdeal.Value.run m' g'
    rw [final m c]
    funext j
    idx_vars j
    pointwise [normed]

end Cert.FinValue

end

end
-- ==== Proof.AttnBlocks.lean ====
/-
  The attention call: a block's rows of queries against the context's keys and, for the batches' rows, the batch's keys in two chunks.
-/
module

public import proofs.«01_k».proof.Proof.Gen.AttnIdeal.Frame
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.AttnValue

open Idealize.ShloMosaic Idealize.ShloMosaic.TcCoe Idealize.SL.Sem
open Idealize.ShloMosaic.Pipeline (Dat)

section Kernel
open Cert.AttnIdeal Cert.AttnIdeal.Gen

variable (m : (ℓ : Loc nD τ sig) → Buf (Elt Ideal) ℓ)

/-- The windows' blocks at point `t`. -/
theorem idx : ∀ t : Fin cfg0.N,
    win0_0.index t = ![if t.val < 32 then t.val / 8 * 4 + t.val % 4 else 16 + (t.val - 32) / 2, if t.val < 32 then t.val / 4 % 2 else (t.val - 32) % 2]
    ∧ win0_1.index t = ![min (t.val / 8) 3, if t.val < 32 then t.val / 4 % 2 else 1]
    ∧ win0_2.index t = ![if t.val < 32 then 16 + t.val / 16 else 16 + (t.val - 32) / 2, if t.val < 32 then t.val / 4 % 2 else (t.val - 32) % 2]
    ∧ win0_3.index t = ![min (t.val / 8) 3, if t.val < 32 then t.val / 4 % 2 else 1]
    ∧ win0_4.index t = ![if t.val < 32 then 16 + t.val / 16 else 16 + (t.val - 32) / 2, if t.val < 32 then t.val / 4 % 2 else (t.val - 32) % 2]
    ∧ win0_5.index t = ![if t.val < 32 then t.val / 8 * 4 + t.val % 4 else 16 + (t.val - 32) / 2, if t.val < 32 then t.val / 4 % 2 else (t.val - 32) % 2]
    ∧ t.val < 36 :=
  (by decide +kernel : ∀ t : Fin grid0.N, _)

/-- The first row of the context's keys of point `t`'s batch, in its block. -/
theorem off : ∀ t : Fin cfg0.N, k0_off1 (grid0.coords t) = ![t.val / 8 % 2 * 256, 0]
    ∧ k0_off2 (grid0.coords t) = ![t.val / 8 % 2 * 256, 256] ∧ k0_off3 (grid0.coords t) = ![t.val / 8 % 2 * 256, 512]
    ∧ k0_off4 (grid0.coords t) = ![t.val / 8 % 2 * 256, 768] :=
  (by decide +kernel : ∀ t : Fin grid0.N, _)

/-- The greatest of finitely many scores. -/
def top {n : ℕ} (s : Fin n → EReal) : EReal := Finset.univ.fold max (Ideal.ofBits .f32 0xFF800000#32) s

/-- Values `v` weighted by the powers of two of the scores `s` less `M`. -/
def wsum {n : ℕ} (M : EReal) (s v : Fin n → EReal) : EReal := ∑ k : Fin n, Ideal.exp2 (s k - M) * v k

/-- The weighted sum over three runs of keys as it is accumulated: the running sum rescaled when the greatest score grows. -/
def online {n n' : ℕ} (s v : Fin n → EReal) (s0 v0 s1 v1 : Fin n' → EReal) : EReal :=
  (wsum (top s) s v * Ideal.exp2 (top s - max (top s) (top s0)) + wsum (max (top s) (top s0)) s0 v0)
      * Ideal.exp2 (max (top s) (top s0) - max (max (top s) (top s0)) (top s1))
    + wsum (max (max (top s) (top s0)) (top s1)) s1 v1

/-- A block's scores: query row `r` against key row `k`. -/
def dots {n n' : ℕ} (q : (⟨2, ![n, 256]⟩ : Shape).Idx → EReal) (k : (⟨2, ![n', 256]⟩ : Shape).Idx → EReal) (r : Fin n) (l : Fin n') : EReal :=
  ∑ x : Fin 256, q (ix2 r x) * k (ix2 l x)

/-- What a block's row of a head holds: the weighted values over the weights' sum, which the columns of ones give. -/
def attTile (q : Vec Ideal S512x256 .bf16) (kc vc : Vec Ideal S256x256 .bf16) (k0 v0 k1 v1 : Vec Ideal S1024x256 .bf16)
    (r : Fin 512) (d : Fin 128) : EReal :=
  Ideal.div
    (online (dots q kc r) (fun k => vc (ix2 k ⟨d.val, by omega⟩)) (dots q k0 r) (fun k => v0 (ix2 k ⟨d.val, by omega⟩))
      (dots q k1 r) (fun k => v1 (ix2 k ⟨d.val, by omega⟩)))
    (online (dots q kc r) (fun k => vc (ix2 k ⟨128 + d.val, by omega⟩)) (dots q k0 r) (fun k => v0 (ix2 k ⟨128 + d.val, by omega⟩))
      (dots q k1 r) (fun k => v1 (ix2 k ⟨128 + d.val, by omega⟩)))

/-- The same for a context row, whose keys are one run. -/
def ctxTile (q kc vc : Vec Ideal S256x256 .bf16) (r : Fin 256) (d : Fin 128) : EReal :=
  Ideal.div (wsum (top (dots q kc r)) (dots q kc r) (fun k => vc (ix2 k ⟨d.val, by omega⟩)))
    (wsum (top (dots q kc r)) (dots q kc r) (fun k => vc (ix2 k ⟨128 + d.val, by omega⟩)))

/-- The first head's stored tile. -/
theorem payA0 (q : Vec Ideal S512x256 .bf16) (kc vc : Vec Ideal S256x256 .bf16) (k0 v0 k1 v1 : Vec Ideal S1024x256 .bf16)
    (r : Fin 512) (d : Fin 128) :
    k0_pay7 (F := Ideal) (k0_pay3 q) (k0_pay5 q kc) (k0_pay6 q kc) vc k0 v0 k1 v1 (ix2 r d)
      = attTile q kc vc k0 v0 k1 v1 r d := by
  pointwise [k0_pay7, k0_pay3, k0_pay5, k0_pay6, k0_pay4, attTile, online, wsum, top, dots]
  rfl

/-- The second head's stored tile. -/
theorem payA1 (q : Vec Ideal S512x256 .bf16) (kc vc : Vec Ideal S256x256 .bf16) (k0 v0 k1 v1 : Vec Ideal S1024x256 .bf16)
    (r : Fin 512) (d : Fin 128) :
    k0_pay16 (F := Ideal) (k0_pay12 q kc k0) (k0_pay13 q kc vc k0 v0) (k0_pay14 q k1) (k0_pay15 q k1) v1 (ix2 r d)
      = attTile q kc vc k0 v0 k1 v1 r d := by
  pointwise [k0_pay16, k0_pay12, k0_pay13, k0_pay14, k0_pay15, k0_pay8, k0_pay9, k0_pay10, k0_pay11, attTile, online, wsum, top, dots]
  rfl

/-- The third head's stored tile. -/
theorem payA2 (q : Vec Ideal S512x256 .bf16) (kc vc : Vec Ideal S256x256 .bf16) (k0 v0 k1 v1 : Vec Ideal S1024x256 .bf16)
    (r : Fin 512) (d : Fin 128) :
    k0_pay24 (F := Ideal) (k0_pay17 q) (k0_pay20 q kc vc) (k0_pay21 q k0) (k0_pay22 q kc k0) (k0_pay23 q kc k0) v0 k1 v1 (ix2 r d)
      = attTile q kc vc k0 v0 k1 v1 r d := by
  pointwise [k0_pay17, k0_pay18, k0_pay19, k0_pay20, k0_pay21, k0_pay22, k0_pay23, k0_pay24, attTile, online, wsum, top, dots]
  rfl

/-- The fourth head's stored tile. -/
theorem payA3 (q : Vec Ideal S512x256 .bf16) (kc vc : Vec Ideal S256x256 .bf16) (k0 v0 k1 v1 : Vec Ideal S1024x256 .bf16)
    (r : Fin 512) (d : Fin 128) :
    k0_pay1 (F := Ideal) (k0_pay29 (k0_pay25 q) (k0_pay26 q kc) (k0_pay27 q kc) (k0_pay28 q kc) vc k0 v0 k1 v1)
      (k0_pay30 (k0_pay25 q) (k0_pay26 q kc) (k0_pay27 q kc) (k0_pay28 q kc) vc k0 v0 k1 v1) (ix2 r d)
      = attTile q kc vc k0 v0 k1 v1 r d := by
  pointwise [k0_pay1, k0_pay25, k0_pay26, k0_pay27, k0_pay28, k0_pay29, k0_pay30, attTile, online, wsum, top, dots]
  rfl

/-- Piece 0 of a context block. -/
theorem payB0 (q kc vc : Vec Ideal S256x256 .bf16) (r : Fin 256) (d : Fin 128) :
    k0_pay31 (F := Ideal) q kc vc (ix2 r d) = ctxTile q kc vc r d := by
  pointwise [k0_pay31, ctxTile, wsum, top, dots]
  rfl

/-- Piece 1 of a context block. -/
theorem payB1 (q kc vc : Vec Ideal S256x256 .bf16) (r : Fin 256) (d : Fin 128) :
    k0_pay32 (F := Ideal) q kc vc (ix2 r d) = ctxTile q kc vc r d := by
  pointwise [k0_pay32, ctxTile, wsum, top, dots]
  rfl

/-- Piece 2 of a context block. -/
theorem payB2 (q kc vc : Vec Ideal S256x256 .bf16) (r : Fin 256) (d : Fin 128) :
    k0_pay33 (F := Ideal) q kc vc (ix2 r d) = ctxTile q kc vc r d := by
  pointwise [k0_pay33, ctxTile, wsum, top, dots]
  rfl

/-- Piece 3 of a context block. -/
theorem payB3 (q kc vc : Vec Ideal S256x256 .bf16) (r : Fin 256) (d : Fin 128) :
    k0_pay34 (F := Ideal) q kc vc (ix2 r d) = ctxTile q kc vc r d := by
  pointwise [k0_pay34, ctxTile, wsum, top, dots]
  rfl

/-- Piece 4 of a context block. -/
theorem payB4 (q kc vc : Vec Ideal S256x256 .bf16) (r : Fin 256) (d : Fin 128) :
    k0_pay35 (F := Ideal) q kc vc (ix2 r d) = ctxTile q kc vc r d := by
  pointwise [k0_pay35, ctxTile, wsum, top, dots]
  rfl

/-- Piece 5 of a context block. -/
theorem payB5 (q kc vc : Vec Ideal S256x256 .bf16) (r : Fin 256) (d : Fin 128) :
    k0_pay39 (F := Ideal) (k0_pay37 q kc vc) (k0_pay38 q kc vc) (ix2 r d) = ctxTile q kc vc r d := by
  pointwise [k0_pay39, k0_pay37, k0_pay38, k0_pay36, ctxTile, wsum, top, dots]
  rfl

/-- Piece 6 of a context block. -/
theorem payB6 (q kc vc : Vec Ideal S256x256 .bf16) (r : Fin 256) (d : Fin 128) :
    k0_pay40 (F := Ideal) q kc vc (ix2 r d) = ctxTile q kc vc r d := by
  pointwise [k0_pay40, ctxTile, wsum, top, dots]
  rfl

/-- Piece 7 of a context block. -/
theorem payB7 (q kc vc : Vec Ideal S256x256 .bf16) (r : Fin 256) (d : Fin 128) :
    k0_pay2 (F := Ideal) (k0_pay41 q kc vc) (ix2 r d) = ctxTile q kc vc r d := by
  pointwise [k0_pay2, k0_pay41, ctxTile, wsum, top, dots]
  rfl

/-- The column of head `j / 128` of the queries' and keys' arrays, and of the padded values'. -/
def headCol (j : Fin 1024) (x : Fin 256) : Fin 2048 := ⟨j.val / 128 * 256 + x.val, by omega⟩

/-- The keys' rows for row `r`: its batch's context, its batch's own rows, and for a context row its batch's context. -/
def ctxKey (r : Fin 9216) (k : Fin 256) : Fin 9216 := ⟨8192 + min (r.val / 2048) 3 * 256 + k.val, by omega⟩
def latKey (r : Fin 9216) (o : ℕ) (ho : o ≤ 1024) (k : Fin 1024) : Fin 9216 := ⟨min (r.val / 2048) 3 * 2048 + (o + k.val), by omega⟩
def ownKey (r : Fin 9216) (k : Fin 256) : Fin 9216 := ⟨r.val / 256 * 256 + k.val, by omega⟩

/-- The score of row `r` and key row `l` for column `j`'s head. -/
def score (Q K : FVec Ideal S9216x2048 .bf16) (r : Fin 9216) (j : Fin 1024) (l : Fin 9216) : EReal :=
  ∑ x : Fin 256, Q (ix2 r (headCol j x)) * K (ix2 l (headCol j x))

/-- The accumulated sum of a batch's row for column `e` of the head's padded values. -/
def latSum (Q K Vp : FVec Ideal S9216x2048 .bf16) (r : Fin 9216) (j : Fin 1024) (e : Fin 256) : EReal :=
  online (fun k => score Q K r j (ctxKey r k)) (fun k => Vp (ix2 (ctxKey r k) (headCol j e)))
    (fun k => score Q K r j (latKey r 0 (by omega) k)) (fun k => Vp (ix2 (latKey r 0 (by omega) k) (headCol j e)))
    (fun k => score Q K r j (latKey r 1024 (by omega) k)) (fun k => Vp (ix2 (latKey r 1024 (by omega) k) (headCol j e)))

/-- The sum of a context row for column `e` of the head's padded values. -/
def ctxSum (Q K Vp : FVec Ideal S9216x2048 .bf16) (r : Fin 9216) (j : Fin 1024) (e : Fin 256) : EReal :=
  wsum (top fun k => score Q K r j (ownKey r k)) (fun k => score Q K r j (ownKey r k)) (fun k => Vp (ix2 (ownKey r k) (headCol j e)))

/-- The attention's output at an entry. -/
def attended (Q K Vp : FVec Ideal S9216x2048 .bf16) (r : Fin 9216) (j : Fin 1024) : EReal :=
  if r.val < 8192 then Ideal.div (latSum Q K Vp r j ⟨j.val % 128, by omega⟩) (latSum Q K Vp r j ⟨128 + j.val % 128, by omega⟩)
  else Ideal.div (ctxSum Q K Vp r j ⟨j.val % 128, by omega⟩) (ctxSum Q K Vp r j ⟨128 + j.val % 128, by omega⟩)

/-- Entries of a matrix at equal positions. -/
theorem entry {n l : ℕ} (X : (⟨2, ![n, l]⟩ : Shape).Idx → EReal) {a a' : Fin n} {b b' : Fin l} (h : a.val = a'.val) (h' : b.val = b'.val) :
    X (ix2 a b) = X (ix2 a' b') := by
  rw [Fin.ext h, Fin.ext h']

/-- The windows' blocks at a batches' point. -/
theorem idxA (t : Fin cfg0.N) (h : t.val < 32) : win0_0.index t = ![t.val / 8 * 4 + t.val % 4, t.val / 4 % 2]
    ∧ win0_1.index t = ![t.val / 8, t.val / 4 % 2] ∧ win0_2.index t = ![16 + t.val / 16, t.val / 4 % 2]
    ∧ win0_3.index t = ![t.val / 8, t.val / 4 % 2] ∧ win0_4.index t = ![16 + t.val / 16, t.val / 4 % 2]
    ∧ win0_5.index t = ![t.val / 8 * 4 + t.val % 4, t.val / 4 % 2] := by
  have e : min (t.val / 8) 3 = t.val / 8 := by omega
  have i := idx t
  simp only [if_pos h, e] at i
  exact ⟨i.1, i.2.1, i.2.2.1, i.2.2.2.1, i.2.2.2.2.1, i.2.2.2.2.2.1⟩

/-- The windows' blocks at a context's point. -/
theorem idxB (t : Fin cfg0.N) (h : ¬t.val < 32) : win0_0.index t = ![16 + (t.val - 32) / 2, (t.val - 32) % 2]
    ∧ win0_2.index t = ![16 + (t.val - 32) / 2, (t.val - 32) % 2] ∧ win0_4.index t = ![16 + (t.val - 32) / 2, (t.val - 32) % 2]
    ∧ win0_5.index t = ![16 + (t.val - 32) / 2, (t.val - 32) % 2] := by
  have i := idx t
  simp only [if_neg h] at i
  exact ⟨i.1, i.2.2.1, i.2.2.2.2.1, i.2.2.2.2.2.1⟩

section Reads
variable (c : Dev nD) (t : Fin cfg0.N) (h : t.val < 32)
include h

/-- The queries' block at a batches' point. -/
theorem Q_at (k : Fin 512) (l : Fin 1024) : iblk m c 0 t (ix2 k l)
    = V m c main_v10 (ix2 ⟨(t.val / 8 * 4 + t.val % 4) * 512 + k.val, by omega⟩ ⟨t.val / 4 % 2 * 1024 + l.val, by omega⟩) := by
  blk_ext [iblk, idxA t h]

/-- The context's keys' block at a batches' point. -/
theorem KC_at (k : Fin 512) (l : Fin 1024) : iblk m c 2 t (ix2 k l)
    = V m c main_v15 (ix2 ⟨(16 + t.val / 16) * 512 + k.val, by omega⟩ ⟨t.val / 4 % 2 * 1024 + l.val, by omega⟩) := by
  blk_ext [iblk, idxA t h]

/-- The context's values' block at a batches' point. -/
theorem VC_at (k : Fin 512) (l : Fin 1024) : iblk m c 4 t (ix2 k l)
    = V m c main_v19 (ix2 ⟨(16 + t.val / 16) * 512 + k.val, by omega⟩ ⟨t.val / 4 % 2 * 1024 + l.val, by omega⟩) := by
  blk_ext [iblk, idxA t h]

/-- The batch's keys' block at a batches' point. -/
theorem K_at (k : Fin 2048) (l : Fin 1024) : X0_1 m c t (ix2 k l)
    = V m c main_v15 (ix2 ⟨t.val / 8 * 2048 + k.val, by omega⟩ ⟨t.val / 4 % 2 * 1024 + l.val, by omega⟩) := by
  unfold X0_1 Pipeline.Window.fill
  rw [dif_pos (moved0_1 t _)]
  blk_ext [iblk, idxA t h]

/-- The batch's values' block at a batches' point. -/
theorem V_at (k : Fin 2048) (l : Fin 1024) : X0_3 m c t (ix2 k l)
    = V m c main_v19 (ix2 ⟨t.val / 8 * 2048 + k.val, by omega⟩ ⟨t.val / 4 % 2 * 1024 + l.val, by omega⟩) := by
  unfold X0_3 Pipeline.Window.fill
  rw [dif_pos (moved0_3 t _)]
  blk_ext [iblk, idxA t h]
end Reads

section ReadsB
variable (c : Dev nD) (t : Fin cfg0.N) (h : ¬t.val < 32) (ht : t.val < 36)
include h ht

/-- The queries' block at a context's point. -/
theorem QB_at (k : Fin 512) (l : Fin 1024) : iblk m c 0 t (ix2 k l)
    = V m c main_v10 (ix2 ⟨(16 + (t.val - 32) / 2) * 512 + k.val, by omega⟩ ⟨(t.val - 32) % 2 * 1024 + l.val, by omega⟩) := by
  blk_ext [iblk, idxB t h]

/-- The keys' block at a context's point. -/
theorem KB_at (k : Fin 512) (l : Fin 1024) : iblk m c 2 t (ix2 k l)
    = V m c main_v15 (ix2 ⟨(16 + (t.val - 32) / 2) * 512 + k.val, by omega⟩ ⟨(t.val - 32) % 2 * 1024 + l.val, by omega⟩) := by
  blk_ext [iblk, idxB t h]

/-- The values' block at a context's point. -/
theorem VB_at (k : Fin 512) (l : Fin 1024) : iblk m c 4 t (ix2 k l)
    = V m c main_v19 (ix2 ⟨(16 + (t.val - 32) / 2) * 512 + k.val, by omega⟩ ⟨(t.val - 32) % 2 * 1024 + l.val, by omega⟩) := by
  blk_ext [iblk, idxB t h]
end ReadsB

/-- A tile's entry over blocks that are the arrays' rows and columns is the arrays' entry. -/
theorem attTile_eq {q : Vec Ideal S512x256 .bf16} {kc vc : Vec Ideal S256x256 .bf16} {k0 v0 k1 v1 : Vec Ideal S1024x256 .bf16}
    {r : Fin 512} {d : Fin 128} {Q K Vp : FVec Ideal S9216x2048 .bf16} {R : Fin 9216} {J : Fin 1024}
    (hR : R.val < 8192) (hd : J.val % 128 = d.val)
    (hq : ∀ x, q (ix2 r x) = Q (ix2 R (headCol J x)))
    (hkc : ∀ k x, kc (ix2 k x) = K (ix2 (ctxKey R k) (headCol J x)))
    (hvc : ∀ k x, vc (ix2 k x) = Vp (ix2 (ctxKey R k) (headCol J x)))
    (hk0 : ∀ k x, k0 (ix2 k x) = K (ix2 (latKey R 0 (by omega) k) (headCol J x)))
    (hv0 : ∀ k x, v0 (ix2 k x) = Vp (ix2 (latKey R 0 (by omega) k) (headCol J x)))
    (hk1 : ∀ k x, k1 (ix2 k x) = K (ix2 (latKey R 1024 (by omega) k) (headCol J x)))
    (hv1 : ∀ k x, v1 (ix2 k x) = Vp (ix2 (latKey R 1024 (by omega) k) (headCol J x))) :
    attTile q kc vc k0 v0 k1 v1 r d = attended Q K Vp R J := by
  obtain ⟨d, hd'⟩ := d
  obtain rfl : J.val % 128 = d := hd
  unfold attTile attended dots latSum score
  rw [if_pos hR]
  simp only [hq, hkc, hvc, hk0, hv0, hk1, hv1]

/-- The same for a context block's tile. -/
theorem ctxTile_eq {q kc vc : Vec Ideal S256x256 .bf16} {r : Fin 256} {d : Fin 128} {Q K Vp : FVec Ideal S9216x2048 .bf16}
    {R : Fin 9216} {J : Fin 1024} (hR : ¬R.val < 8192) (hd : J.val % 128 = d.val)
    (hq : ∀ x, q (ix2 r x) = Q (ix2 R (headCol J x)))
    (hkc : ∀ k x, kc (ix2 k x) = K (ix2 (ownKey R k) (headCol J x)))
    (hvc : ∀ k x, vc (ix2 k x) = Vp (ix2 (ownKey R k) (headCol J x))) :
    ctxTile q kc vc r d = attended Q K Vp R J := by
  obtain ⟨d, hd'⟩ := d
  obtain rfl : J.val % 128 = d := hd
  unfold ctxTile attended dots ctxSum score
  rw [if_neg hR]
  simp only [hq, hkc, hvc]

/-- A batches' point's tile at column offset `o` of its blocks is the arrays' entry. -/
theorem pieceA (c : Dev nD) (t : Fin cfg0.N) (h : t.val < 32) (o : ℕ) (ho : o ≤ 768) (ho' : o % 256 = 0) (f : Fin 2 → ℕ)
    (hf : f = ![t.val / 8 % 2 * 256, o]) (b0 : ∀ a, (![0, o] : Fin 2 → ℕ) a + (![512, 256] : Fin 2 → ℕ) a ≤ S512x1024.size a)
    (b1 : ∀ a, f a + (![256, 256] : Fin 2 → ℕ) a ≤ S512x1024.size a)
    (b2 : ∀ a, (![0, o] : Fin 2 → ℕ) a + (![1024, 256] : Fin 2 → ℕ) a ≤ S2048x1024.size a)
    (b3 : ∀ a, (![1024, o] : Fin 2 → ℕ) a + (![1024, 256] : Fin 2 → ℕ) a ≤ S2048x1024.size a)
    (r : Fin 512) (d : Fin 128) (R : Fin 9216) (J : Fin 1024) (hR : R.val = (t.val / 8 * 4 + t.val % 4) * 512 + r.val)
    (hJ : J.val = t.val / 4 % 2 * 512 + (o / 2 + d.val)) :
    attTile (View.ld (iblk m c 0 t) (Rect.unit ![0, o] ![512, 256] b0)) (View.ld (iblk m c 2 t) (Rect.unit f ![256, 256] b1))
      (View.ld (iblk m c 4 t) (Rect.unit f ![256, 256] b1)) (View.ld (X0_1 m c t) (Rect.unit ![0, o] ![1024, 256] b2))
      (View.ld (X0_3 m c t) (Rect.unit ![0, o] ![1024, 256] b2)) (View.ld (X0_1 m c t) (Rect.unit ![1024, o] ![1024, 256] b3))
      (View.ld (X0_3 m c t) (Rect.unit ![1024, o] ![1024, 256] b3)) r d
    = attended (V m c main_v10) (V m c main_v15) (V m c main_v19) R J := by
  subst hf
  refine attTile_eq (by omega) (by omega) (fun x => ?_) (fun k x => ?_) (fun k x => ?_) (fun k x => ?_)
    (fun k x => ?_) (fun k x => ?_) (fun k x => ?_)
  · pointwise [Q_at m c t h]
    exact entry _ hR.symm (by simp only [headCol]; omega)
  · pointwise [KC_at m c t h]
    exact entry _ (by simp only [ctxKey]; omega) (by simp only [headCol]; omega)
  · pointwise [VC_at m c t h]
    exact entry _ (by simp only [ctxKey]; omega) (by simp only [headCol]; omega)
  · pointwise [K_at m c t h]
    exact entry _ (by simp only [latKey]; omega) (by simp only [headCol]; omega)
  · pointwise [V_at m c t h]
    exact entry _ (by simp only [latKey]; omega) (by simp only [headCol]; omega)
  · pointwise [K_at m c t h]
    exact entry _ (by simp only [latKey]; omega) (by simp only [headCol]; omega)
  · pointwise [V_at m c t h]
    exact entry _ (by simp only [latKey]; omega) (by simp only [headCol]; omega)

/-- A context's point's tile at offsets `a`, `o` of its blocks is the arrays' entry. -/
theorem pieceB (c : Dev nD) (t : Fin cfg0.N) (h : ¬t.val < 32) (a o : ℕ) (ha : a ≤ 256) (ha' : a % 256 = 0) (ho : o ≤ 768)
    (ho' : o % 256 = 0) (b : ∀ i, (![a, o] : Fin 2 → ℕ) i + (![256, 256] : Fin 2 → ℕ) i ≤ S512x1024.size i)
    (r : Fin 256) (d : Fin 128) (R : Fin 9216) (J : Fin 1024) (hR : R.val = (16 + (t.val - 32) / 2) * 512 + (a + r.val))
    (hJ : J.val = (t.val - 32) % 2 * 512 + (o / 2 + d.val)) :
    ctxTile (View.ld (iblk m c 0 t) (Rect.unit ![a, o] ![256, 256] b)) (View.ld (iblk m c 2 t) (Rect.unit ![a, o] ![256, 256] b))
      (View.ld (iblk m c 4 t) (Rect.unit ![a, o] ![256, 256] b)) r d
    = attended (V m c main_v10) (V m c main_v15) (V m c main_v19) R J := by
  have ht : t.val < 36 := (idx t).2.2.2.2.2.2
  refine ctxTile_eq (by omega) (by omega) (fun x => ?_) (fun k x => ?_) (fun k x => ?_)
  · pointwise [QB_at m c t h ht]
    exact entry _ hR.symm (by simp only [headCol]; omega)
  · pointwise [KB_at m c t h ht]
    exact entry _ (by simp only [ownKey]; omega) (by simp only [headCol]; omega)
  · pointwise [VB_at m c t h ht]
    exact entry _ (by simp only [ownKey]; omega) (by simp only [headCol]; omega)

/-- The result array after the run, over the arrays the call is given. -/
theorem final (c : Dev nD) : (dats m 0 c).arrAt 5 (cfgs 0).N
    = fun j : S9216x1024.Idx => attended (V m c main_v10) (V m c main_v15) (V m c main_v19) (j 0) (j 1) := by
  refine (dats m 0 c).arrAt_eq_of_covers 5 _ (by decide +kernel) fun t _ y => ?_
  blk_simp
  rw [after0_5]
  by_cases hlt : t.val < 32
  · have eR : (((View.whole main_v20).slice (win0_5.rect t)).emb y 0 : ℕ) = (t.val / 8 * 4 + t.val % 4) * 512 + (y 0 : ℕ) := by
      blk_simp [idxA t hlt]
    have eJ : (((View.whole main_v20).slice (win0_5.rect t)).emb y 1 : ℕ) = t.val / 4 % 2 * 512 + (y 1 : ℕ) := by
      blk_simp [idxA t hlt]
    rw [outsAt0_A m c t hlt (by omega)]
    frame_out
    obtain ⟨f1, f2, f3, f4⟩ := off t
    canon_tiles x h
    all_goals obtain ⟨x0, x1, rfl⟩ : ∃ a b, x = ix2 a b := ⟨x 0, x 1, by blk_ext⟩
    all_goals rw [h0] at eR
    all_goals rw [h1] at eJ
    · exact (payA3 _ _ _ _ _ _ _ x0 x1).trans (pieceA m c t hlt 768 (by omega) (by omega) _ f4 _ _ _ _ x0 x1 _ _ eR eJ)
    · exact (payA2 _ _ _ _ _ _ _ x0 x1).trans (pieceA m c t hlt 512 (by omega) (by omega) _ f3 _ _ _ _ x0 x1 _ _ eR eJ)
    · exact (payA1 _ _ _ _ _ _ _ x0 x1).trans (pieceA m c t hlt 256 (by omega) (by omega) _ f2 _ _ _ _ x0 x1 _ _ eR eJ)
    · exact (payA0 _ _ _ _ _ _ _ x0 x1).trans (pieceA m c t hlt 0 (by omega) (by omega) _ f1 _ _ _ _ x0 x1 _ _ eR
        (eJ.trans (by simp)))
  · have eR : (((View.whole main_v20).slice (win0_5.rect t)).emb y 0 : ℕ) = (16 + (t.val - 32) / 2) * 512 + (y 0 : ℕ) := by
      blk_simp [idxB t hlt]
    have eJ : (((View.whole main_v20).slice (win0_5.rect t)).emb y 1 : ℕ) = (t.val - 32) % 2 * 512 + (y 1 : ℕ) := by
      blk_simp [idxB t hlt]
    rw [outsAt0_B m c t hlt (by omega)]
    frame_out
    canon_tiles x h
    all_goals obtain ⟨x0, x1, rfl⟩ : ∃ a b, x = ix2 a b := ⟨x 0, x 1, by blk_ext⟩
    all_goals rw [h0] at eR
    all_goals rw [h1] at eJ
    · exact (payB7 _ _ _ x0 x1).trans (pieceB m c t hlt 256 768 (by omega) (by omega) (by omega) (by omega) _ x0 x1 _ _ eR eJ)
    · exact (payB6 _ _ _ x0 x1).trans (pieceB m c t hlt 256 512 (by omega) (by omega) (by omega) (by omega) _ x0 x1 _ _ eR eJ)
    · exact (payB5 _ _ _ x0 x1).trans (pieceB m c t hlt 256 256 (by omega) (by omega) (by omega) (by omega) _ x0 x1 _ _ eR eJ)
    · exact (payB4 _ _ _ x0 x1).trans (pieceB m c t hlt 256 0 (by omega) (by omega) (by omega) (by omega) _ x0 x1 _ _ eR
        (eJ.trans (by simp)))
    · exact (payB3 _ _ _ x0 x1).trans (pieceB m c t hlt 0 768 (by omega) (by omega) (by omega) (by omega) _ x0 x1 _ _
        (eR.trans (by simp)) eJ)
    · exact (payB2 _ _ _ x0 x1).trans (pieceB m c t hlt 0 512 (by omega) (by omega) (by omega) (by omega) _ x0 x1 _ _
        (eR.trans (by simp)) eJ)
    · exact (payB1 _ _ _ x0 x1).trans (pieceB m c t hlt 0 256 (by omega) (by omega) (by omega) (by omega) _ x0 x1 _ _
        (eR.trans (by simp)) eJ)
    · exact (payB0 _ _ _ x0 x1).trans (pieceB m c t hlt 0 0 (by omega) (by omega) (by omega) (by omega) _ x0 x1 _ _
        (eR.trans (by simp)) (eJ.trans (by simp)))

end Kernel

end Cert.AttnValue

end

end
-- ==== Proof.AttnMath.lean ====
/- The arithmetic of a softmax over the extended reals: scores are numbers, values may be anything. Both ways of
   computing the attention, with powers of two less the running maximum and with exponentials less the row's maximum,
   come to `weighted`: the values weighted by `2 ^ score`, over the weights' sum. -/
module

public import proofs.«01_k».proof.Proof.AttnBlocks
public import Idealize.ShloMosaic.Lib.IdealHost

@[expose] public section

noncomputable section

namespace Cert.AttnValue

open Idealize.ShloMosaic

/-- The bits of minus infinity, of 192 and of 2. -/
theorem ofBits_bot : Ideal.ofBits .f32 0xFF800000#32 = ⊥ := by simp [Ideal.ofBits, Ideal.ieee]
theorem ofBits_192 : Ideal.ofBits .f32 0x43400000#32 = ((192 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

/-- The greatest of finitely many numbers is a number. -/
theorem top_real {n : ℕ} (hn : 0 < n) (s : Fin n → EReal) (a : Fin n → ℝ) (h : ∀ k, s k = (a k : EReal)) :
    ∃ M : ℝ, top s = (M : EReal) := by
  have h1 : top s ≠ ⊥ := by
    have : (a ⟨0, hn⟩ : EReal) ≤ top s := (Finset.le_fold_max _).2 (Or.inr ⟨⟨0, hn⟩, Finset.mem_univ _, (h _).symm.le⟩)
    exact fun e => absurd (e ▸ this) (by simp)
  have h2 : top s ≠ ⊤ := by
    have : top s < ⊤ := (Finset.fold_max_lt _).2 ⟨by rw [ofBits_bot]; exact bot_lt_top, fun k _ => by rw [h k]; exact EReal.coe_lt_top _⟩
    exact this.ne
  exact ⟨(top s).toReal, (EReal.coe_toReal h2 h1).symm⟩

/-- A number that is not negative distributes over a sum of extended reals. -/
theorem mul_sum_real {κ : Type} [Fintype κ] (c : ℝ) (hc : 0 ≤ c) (f : κ → EReal) : (c : EReal) * ∑ k, f k = ∑ k, (c : EReal) * f k := by
  classical
  induction (Finset.univ : Finset κ) using Finset.induction_on with
  | empty => simp
  | insert x S hx ih =>
    rw [Finset.sum_insert hx, Finset.sum_insert hx,
      EReal.left_distrib_of_nonneg_of_ne_top (by exact_mod_cast hc) (EReal.coe_ne_top _), ih]

theorem coe_sum {κ : Type} [Fintype κ] (f : κ → ℝ) : ((∑ k, f k : ℝ) : EReal) = ∑ k, (f k : EReal) := by
  classical
  induction (Finset.univ : Finset κ) using Finset.induction_on with
  | empty => simp
  | insert x S hx ih => rw [Finset.sum_insert hx, Finset.sum_insert hx, EReal.coe_add, ih]

/-- Two to the power of a number. -/
def pow2 (a : ℝ) : ℝ := Real.rpow 2 a

theorem pow2_pos (a : ℝ) : 0 < pow2 a := Real.rpow_pos_of_pos (by norm_num) _
theorem pow2_add (a b : ℝ) : pow2 (a + b) = pow2 a * pow2 b := Real.rpow_add (by norm_num) _ _
theorem exp2_sub (a M : ℝ) : Ideal.exp2 ((a : EReal) - M) = ((pow2 (-M) * pow2 a : ℝ) : EReal) := by
  rw [← pow2_add, ← EReal.coe_sub, show -M + a = a - M by ring]; rfl
theorem exp_mul_log (a : ℝ) : Real.exp (a * Real.log 2) = pow2 a := by
  rw [pow2, mul_comm]; exact (Real.rpow_def_of_pos (by norm_num) _).symm

/-- The values weighted by `2 ^ a`. -/
def sums {κ : Type} [Fintype κ] (a : κ → ℝ) (v : κ → EReal) : EReal := ∑ k, (pow2 (a k) : EReal) * v k

/-- The values weighted by `2 ^ a`, over the weights' sum: what a softmax's row is. -/
def weighted {κ : Type} [Fintype κ] (a : κ → ℝ) (v : κ → EReal) : EReal := sums a v * (((∑ k, pow2 (a k))⁻¹ : ℝ) : EReal)

theorem wsum_eq {n : ℕ} (M : ℝ) (s v : Fin n → EReal) (a : Fin n → ℝ) (h : ∀ k, s k = (a k : EReal)) :
    wsum M s v = (pow2 (-M) : EReal) * sums a v := by
  rw [sums, mul_sum_real _ (pow2_pos _).le, wsum]
  refine Finset.sum_congr rfl fun k _ => ?_
  rw [h k, exp2_sub, EReal.coe_mul, mul_assoc]

/-- The accumulated sum over three runs is the whole weighted sum, up to a common factor. -/
theorem online_eq {n n' : ℕ} (hn : 0 < n) (hn' : 0 < n') (s : Fin n → EReal) (s0 s1 : Fin n' → EReal)
    (a : Fin n → ℝ) (a0 a1 : Fin n' → ℝ) (h : ∀ k, s k = (a k : EReal)) (h0 : ∀ k, s0 k = (a0 k : EReal))
    (h1 : ∀ k, s1 k = (a1 k : EReal)) :
    ∃ c : ℝ, 0 < c ∧ ∀ (v : Fin n → EReal) (v0 v1 : Fin n' → EReal),
      online s v s0 v0 s1 v1 = (c : EReal) * (sums a v + sums a0 v0 + sums a1 v1) := by
  obtain ⟨m, hm⟩ := top_real hn s a h
  obtain ⟨m0, hm0⟩ := top_real hn' s0 a0 h0
  obtain ⟨m1, hm1⟩ := top_real hn' s1 a1 h1
  refine ⟨pow2 (-(max (max m m0) m1)), pow2_pos _, fun v v0 v1 => ?_⟩
  have d : ∀ (c : ℝ) (x y : EReal), 0 < c → (c : EReal) * (x + y) = (c : EReal) * x + (c : EReal) * y := fun c x y hc =>
    EReal.left_distrib_of_nonneg_of_ne_top (by exact_mod_cast hc.le) (EReal.coe_ne_top _) x y
  have mx : ∀ x y : ℝ, max (x : EReal) (y : EReal) = ((max x y : ℝ) : EReal) := fun x y => (EReal.coe_strictMono.monotone.map_max).symm
  have g : ∀ (x y : ℝ) (e : EReal), (pow2 (-x) : EReal) * e * ((pow2 (-y) * pow2 x : ℝ) : EReal) = (pow2 (-y) : EReal) * e := fun x y e => by
    rw [mul_right_comm, ← EReal.coe_mul]
    congr 2
    rw [mul_left_comm, ← pow2_add, neg_add_cancel, show pow2 0 = 1 from Real.rpow_zero 2, mul_one]
  rw [online, hm, hm0, hm1, mx, mx, exp2_sub, exp2_sub, wsum_eq _ _ _ _ h, wsum_eq _ _ _ _ h0, wsum_eq _ _ _ _ h1, g,
    ← d _ _ _ (pow2_pos _), g, ← d _ _ _ (pow2_pos _)]

/-- A quotient whose terms share a positive factor, by a positive number. -/
theorem div_common (c D : ℝ) (hc : 0 < c) (hD : 0 < D) (N : EReal) :
    Ideal.div ((c : EReal) * N) ((c : EReal) * (D : EReal)) = N * ((D⁻¹ : ℝ) : EReal) := by
  rw [← EReal.coe_mul, Ideal.div, if_neg (by exact_mod_cast (mul_pos hc hD).ne'), ← EReal.coe_inv, mul_comm (c : EReal) N,
    mul_assoc, ← EReal.coe_mul]
  congr 2
  field_simp

theorem sums_one {κ : Type} [Fintype κ] (a : κ → ℝ) (v : κ → EReal) (h : ∀ k, v k = 1) : sums a v = ((∑ k, pow2 (a k) : ℝ) : EReal) := by
  rw [coe_sum]; exact Finset.sum_congr rfl fun k _ => by rw [h k, mul_one]

theorem sum_pow2_pos {n : ℕ} (hn : 0 < n) (a : Fin n → ℝ) : 0 < ∑ k, pow2 (a k) :=
  Finset.sum_pos (fun k _ => pow2_pos _) ⟨⟨0, hn⟩, Finset.mem_univ _⟩

/-- One run of keys: the weighted values over the weights' sum. -/
theorem run_eq {n : ℕ} (hn : 0 < n) (s v o : Fin n → EReal) (a : Fin n → ℝ) (h : ∀ k, s k = (a k : EReal)) (ho : ∀ k, o k = 1) :
    Ideal.div (wsum (top s) s v) (wsum (top s) s o) = weighted a v := by
  obtain ⟨m, hm⟩ := top_real hn s a h
  rw [hm, wsum_eq _ _ _ _ h, wsum_eq _ _ _ _ h, sums_one a o ho, div_common _ _ (pow2_pos _) (sum_pow2_pos hn a), weighted]

/-- Three runs of keys, taken from one list `f`. -/
theorem runs_eq {n n' : ℕ} (hn : 0 < n) (hn' : 0 < n') (s v o : Fin n → EReal) (s0 v0 o0 s1 v1 o1 : Fin n' → EReal)
    (a : Fin n → ℝ) (a0 a1 : Fin n' → ℝ) (h : ∀ k, s k = (a k : EReal)) (h0 : ∀ k, s0 k = (a0 k : EReal))
    (h1 : ∀ k, s1 k = (a1 k : EReal)) (ho : ∀ k, o k = 1) (ho0 : ∀ k, o0 k = 1) (ho1 : ∀ k, o1 k = 1) :
    Ideal.div (online s v s0 v0 s1 v1) (online s o s0 o0 s1 o1)
      = (sums a v + sums a0 v0 + sums a1 v1) * (((∑ k, pow2 (a k) + ∑ k, pow2 (a0 k) + ∑ k, pow2 (a1 k))⁻¹ : ℝ) : EReal) := by
  obtain ⟨c, hc, H⟩ := online_eq hn hn' s s0 s1 a a0 a1 h h0 h1
  rw [H, H, sums_one a o ho, sums_one a0 o0 ho0, sums_one a1 o1 ho1, ← EReal.coe_add, ← EReal.coe_add,
    div_common _ _ hc (by have := sum_pow2_pos hn a; have := sum_pow2_pos hn' a0; have := sum_pow2_pos hn' a1; linarith)]

/-- The softmax as exponentials less any number `M`, of scores `a log 2`. -/
theorem softmax_eq {n : ℕ} (hn : 0 < n) (M : ℝ) (x v : Fin n → EReal) (a : Fin n → ℝ)
    (h : ∀ k, x k = ((a k * Real.log 2 : ℝ) : EReal)) :
    ∑ k, v k * Ideal.div (Ideal.exp (x k - M)) (∑ l, Ideal.exp (x l - M)) = weighted a v := by
  have e : ∀ k, Ideal.exp (x k - M) = ((Real.exp (-M) * pow2 (a k) : ℝ) : EReal) := fun k => by
    rw [h k, ← EReal.coe_sub, ← exp_mul_log, ← Real.exp_add, show -M + a k * Real.log 2 = a k * Real.log 2 - M by ring]; rfl
  have D := sum_pow2_pos hn a
  have t : ∑ l, Ideal.exp (x l - M) = ((Real.exp (-M) : ℝ) : EReal) * ((∑ k, pow2 (a k) : ℝ) : EReal) := by
    rw [coe_sum, mul_sum_real _ (Real.exp_pos _).le]
    exact Finset.sum_congr rfl fun k _ => by rw [e k, EReal.coe_mul]
  rw [t, weighted, sums, mul_comm (∑ k, _ * v k), mul_sum_real _ (inv_nonneg.2 D.le)]
  refine Finset.sum_congr rfl fun k _ => ?_
  rw [e k, EReal.coe_mul, div_common _ _ (Real.exp_pos _) D]
  ac_rfl

/-- The scale of the scores: the square root of 192. -/
theorem sqrt_192 : Ideal.sqrt ((192 : ℝ) : EReal) = ((Real.sqrt 192 : ℝ) : EReal) := if_neg (by norm_num)
theorem log_2 : Ideal.log ((2 : ℝ) : EReal) = ((Real.log 2 : ℝ) : EReal) := if_neg (by norm_num)

theorem div_real (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- A score of numbers: the kernel's, whose queries are divided by `√192 log 2`, is a number `a`, and the reference's,
    divided by `√192`, is `a log 2`. -/
theorem score_pair {n n' : ℕ} (u w : Fin n → EReal) (u' w' : Fin n' → EReal)
    (hu : ∀ x, ∃ r : ℝ, u x = r) (hw : ∀ x, ∃ r : ℝ, w x = r) (hu' : ∀ x, ∃ r : ℝ, u' x = r) (hw' : ∀ x, ∃ r : ℝ, w' x = r) :
    ∃ a : ℝ, (∑ x, Ideal.div (u x) (Ideal.sqrt ((192 : ℝ) : EReal) * Ideal.log ((2 : ℝ) : EReal)) * w x)
        + (∑ x, Ideal.div (u' x) (Ideal.sqrt ((192 : ℝ) : EReal) * Ideal.log ((2 : ℝ) : EReal)) * w' x) = (a : EReal)
      ∧ Ideal.div ((∑ x, u x * w x) + ∑ x, w' x * u' x) (Ideal.sqrt ((192 : ℝ) : EReal)) = ((a * Real.log 2 : ℝ) : EReal) := by
  choose p hp using hu
  choose q hq using hw
  choose p' hp' using hu'
  choose q' hq' using hw'
  have h1 : Real.sqrt 192 ≠ 0 := (Real.sqrt_pos.2 (by norm_num)).ne'
  have h2 : Real.log 2 ≠ 0 := (Real.log_pos (by norm_num)).ne'
  refine ⟨((∑ x, p x * q x) + ∑ x, q' x * p' x) / (Real.sqrt 192 * Real.log 2), ?_, ?_⟩
  · simp only [hp, hq, hp', hq', sqrt_192, log_2, ← EReal.coe_mul, div_real _ _ (mul_ne_zero h1 h2)]
    rw [← coe_sum, ← coe_sum, ← EReal.coe_add, add_div, Finset.sum_div, Finset.sum_div]
    congr 2 <;> exact Finset.sum_congr rfl fun x _ => by ring
  · simp only [hp, hq, hp', hq', sqrt_192, ← EReal.coe_mul]
    rw [← coe_sum, ← coe_sum, ← EReal.coe_add, div_real _ _ h1]
    congr 1
    field_simp

end Cert.AttnValue

end
-- ==== Proof.AttnHost.lean ====
/- What the attention call reads: the arrays that its host code prepares, and what the precondition says of the
   arguments. -/
module

public import proofs.«01_k».proof.Defs
public import proofs.«01_k».proof.Proof.AttnMath
public import proofs.«01_k».proof.Proof.Gen.Pre_finite_scores
public import Idealize.ShloMosaic.Lib.ReduceAll

@[expose] public section

set_option maxRecDepth 16384

noncomputable section

namespace Cert.AttnValue

open Idealize.ShloMosaic Idealize.ShloMosaic.TcCoe Idealize.SL.Sem
open Idealize.ShloMosaic.Pipeline (Dat)

section Kernel
open Cert.AttnIdeal Cert.AttnIdeal.Gen

/-- The queries' scale, `√192 log 2`. -/
def root : EReal := Ideal.sqrt (Ideal.ofBits .f32 0x43400000#32) * Ideal.log (Ideal.ofBits .f32 0x40000000#32)

/-- The queries: each head's 128 columns and its 64 rotary ones over `root`, then 64 zeros. -/
def queries (qn : FVec Ideal S9216x8x128 .f32) (qr : FVec Ideal S9216x8x64 .f32) : FVec Ideal S9216x2048 .bf16 :=
  truncf .bf16 (shapeCast S9216x2048 (concatenate S9216x8x256 2
    [⟨S9216x8x128, Host.divf qn (broadcastInDim S9216x8x128 ![] bcast_S_S9216x8x128 (mulf (Host.sqrt (constant S_ .f32 0x43400000#32)) (Host.log (constant S_ .f32 0x40000000#32))))⟩,
     ⟨S9216x8x64, Host.divf qr (broadcastInDim S9216x8x64 ![] bcast_S_S9216x8x64 (mulf (Host.sqrt (constant S_ .f32 0x43400000#32)) (Host.log (constant S_ .f32 0x40000000#32))))⟩,
     ⟨S9216x8x64, broadcastInDim S9216x8x64 ![] bcast_S_S9216x8x64 (constant S_ .f32 0x00000000#32)⟩]
    concatenates_S9216x8x128_S9216x8x64_S9216x8x64_S9216x8x256_d2) shapeCasts_S9216x8x256_S9216x2048) bitsLt_bf16_f32

/-- The keys: each head's 128 columns, the 64 rotary ones that the heads share, then 64 zeros. -/
def keys (kn : FVec Ideal S9216x8x128 .f32) (kr : FVec Ideal S9216x64 .f32) : FVec Ideal S9216x2048 .bf16 :=
  truncf .bf16 (shapeCast S9216x2048 (concatenate S9216x8x256 2
    [⟨S9216x8x128, kn⟩,
     ⟨S9216x8x64, broadcastInDim S9216x8x64 ![0, 1, 2] bcast_S9216x1x64_S9216x8x64_0_1_2 (broadcastInDim S9216x1x64 ![0, 2] bcast_S9216x64_S9216x1x64_0_2 kr)⟩,
     ⟨S9216x8x64, broadcastInDim S9216x8x64 ![] bcast_S_S9216x8x64 (constant S_ .f32 0x00000000#32)⟩]
    concatenates_S9216x8x128_S9216x8x64_S9216x8x64_S9216x8x256_d2) shapeCasts_S9216x8x256_S9216x2048) bitsLt_bf16_f32

/-- The values, each head's 128 columns followed by 128 ones. -/
def padded (v : FVec Ideal S9216x8x128 .f32) : FVec Ideal S9216x2048 .bf16 :=
  truncf .bf16 (shapeCast S9216x2048 (concatenate S9216x8x256 2
    [⟨S9216x8x128, v⟩, ⟨S9216x8x128, broadcastInDim S9216x8x128 ![] bcast_S_S9216x8x128 (constant S_ .f32 0x3F800000#32)⟩]
    concatenates_S9216x8x128_S9216x8x128_S9216x8x256_d2) shapeCasts_S9216x8x256_S9216x2048) bitsLt_bf16_f32

/-- Entries at equal positions. -/
theorem entry3 {n h l : ℕ} (X : (⟨3, ![n, h, l]⟩ : Shape).Idx → EReal) (r : Fin n) {b b' : Fin h} {x x' : Fin l} (e : b.val = b'.val)
    (e' : x.val = x'.val) : X (ix3 r b x) = X (ix3 r b' x') := by
  rw [Fin.ext e, Fin.ext e']

theorem entry2 {n l : ℕ} (X : (⟨2, ![n, l]⟩ : Shape).Idx → EReal) (r : Fin n) {x x' : Fin l} (e : x.val = x'.val) :
    X (ix2 r x) = X (ix2 r x') := by
  rw [Fin.ext e]

section At
variable (r : Fin 9216) (j : Fin 1024)

theorem queries_0 (qn : FVec Ideal S9216x8x128 .f32) (qr : FVec Ideal S9216x8x64 .f32) (x : Fin 128) :
    queries qn qr (ix2 r ⟨j.val / 128 * 256 + x.val, by omega⟩) = Ideal.div (qn (ix3 r ⟨j.val / 128, by omega⟩ x)) root := by
  pointwise [queries, root]
  rw [dif_pos (show (j.val / 128 * 256 + x.val) % 256 < 128 by omega)]
  exact congrArg (Ideal.div · _) (entry3 qn r (by dsimp only; omega) (by dsimp only; omega))

theorem queries_1 (qn : FVec Ideal S9216x8x128 .f32) (qr : FVec Ideal S9216x8x64 .f32) (x : Fin 64) :
    queries qn qr (ix2 r ⟨j.val / 128 * 256 + (128 + x.val), by omega⟩) = Ideal.div (qr (ix3 r ⟨j.val / 128, by omega⟩ x)) root := by
  pointwise [queries, root]
  rw [dif_neg (show ¬(j.val / 128 * 256 + (128 + x.val)) % 256 < 128 by omega), dif_pos (show (j.val / 128 * 256 + (128 + x.val)) % 256 - 128 < 64 by omega)]
  exact congrArg (Ideal.div · _) (entry3 qr r (by dsimp only; omega) (by dsimp only; omega))

theorem queries_2 (qn : FVec Ideal S9216x8x128 .f32) (qr : FVec Ideal S9216x8x64 .f32) (x : Fin 64) :
    queries qn qr (ix2 r ⟨j.val / 128 * 256 + (192 + x.val), by omega⟩) = 0 := by
  pointwise [queries]
  rw [dif_neg (show ¬(j.val / 128 * 256 + (192 + x.val)) % 256 < 128 by omega), dif_neg (show ¬(j.val / 128 * 256 + (192 + x.val)) % 256 - 128 < 64 by omega)]

theorem keys_0 (kn : FVec Ideal S9216x8x128 .f32) (kr : FVec Ideal S9216x64 .f32) (x : Fin 128) :
    keys kn kr (ix2 r ⟨j.val / 128 * 256 + x.val, by omega⟩) = kn (ix3 r ⟨j.val / 128, by omega⟩ x) := by
  pointwise [keys]
  rw [dif_pos (show (j.val / 128 * 256 + x.val) % 256 < 128 by omega)]
  exact entry3 kn r (by dsimp only; omega) (by dsimp only; omega)

theorem keys_1 (kn : FVec Ideal S9216x8x128 .f32) (kr : FVec Ideal S9216x64 .f32) (x : Fin 64) :
    keys kn kr (ix2 r ⟨j.val / 128 * 256 + (128 + x.val), by omega⟩) = kr (ix2 r x) := by
  pointwise [keys]
  rw [dif_neg (show ¬(j.val / 128 * 256 + (128 + x.val)) % 256 < 128 by omega), dif_pos (show (j.val / 128 * 256 + (128 + x.val)) % 256 - 128 < 64 by omega)]
  exact entry2 kr r (by dsimp only; omega)

theorem padded_0 (v : FVec Ideal S9216x8x128 .f32) (x : Fin 128) :
    padded v (ix2 r ⟨j.val / 128 * 256 + x.val, by omega⟩) = v (ix3 r ⟨j.val / 128, by omega⟩ x) := by
  pointwise [padded]
  rw [dif_pos (show (j.val / 128 * 256 + x.val) % 256 < 128 by omega)]
  exact entry3 v r (by dsimp only; omega) (by dsimp only; omega)

theorem padded_1 (v : FVec Ideal S9216x8x128 .f32) (x : Fin 128) :
    padded v (ix2 r ⟨j.val / 128 * 256 + (128 + x.val), by omega⟩) = 1 := by
  pointwise [padded]
  rw [dif_neg (show ¬(j.val / 128 * 256 + (128 + x.val)) % 256 < 128 by omega)]
end At

variable (m : (ℓ : Loc nD τ sig) → Buf (Elt Ideal) ℓ)

set_option maxHeartbeats 4000000 in
/-- The call's first operand. -/
theorem V_queries (c : Dev nD) : V m c main_v10 = queries (m ((c : Thread nD τ).loc main_arg0)) (m ((c : Thread nD τ).loc main_arg1)) := by
  unfold queries
  after_results <;> rfl

set_option maxHeartbeats 4000000 in
/-- The call's second operand. -/
theorem V_keys (c : Dev nD) : V m c main_v15 = keys (m ((c : Thread nD τ).loc main_arg2)) (m ((c : Thread nD τ).loc main_arg3)) := by
  unfold keys
  after_results <;> rfl

/-- The call's third operand. -/
theorem V_padded (c : Dev nD) : V m c main_v19 = padded (m ((c : Thread nD τ).loc main_arg4)) := by
  entry_read
  rfl

theorem ofBits_top : Ideal.ofBits .f32 0x7F800000#32 = ⊤ := by simp [Ideal.ofBits, Ideal.ieee]

/-- A number's magnitude is below infinity, and only a number's. -/
theorem number {x : EReal} (h : max x (-x) < ⊤) : ∃ r : ℝ, x = r := by
  induction x with
  | bot => simp at h
  | top => simp at h
  | coe r => exact ⟨r, rfl⟩

theorem bit_and {a b : BitVec 1} (h : IntOp.andi a b = 1#1) : a = 1#1 ∧ b = 1#1 := by
  revert a b; decide

/-- Magnitudes all below infinity: every entry is a number. -/
theorem numbers {s t u w : Shape} {axes : List (Fin s.rank)} {dims : Fin w.rank → Fin s.rank} [Subsingleton t.Idx]
    (hb : w.BroadcastsInDim s dims) (x : FVec Ideal s .f32) (init : u.Idx → BitVec 1) (h : s.ReducesTo axes t) (hu : 0 < u.numel) (j : t.Idx)
    (e : Host.reduce IntOp.andi (cmpf .olt (Host.absf x) (broadcastInDim s dims hb (constant w .f32 0x7F800000#32))) init h hu j = 1#1) (i : s.Idx) :
    ∃ r : ℝ, x i = r := by
  have e := Host.reduce_andi_all _ init h hu j e i
  have e : BitVec.ofBool (decide (max (x i) (-(x i)) < Ideal.ofBits .f32 0x7F800000#32)) = 1#1 := e
  rw [ofBits_top] at e
  refine number ?_
  by_contra hc
  rw [decide_eq_false hc] at e
  exact absurd e (by decide)

instance : Subsingleton Cert.Pre_finite_scores.S_.Idx := ⟨fun a b => funext fun k => k.elim0⟩

/-- The precondition, read: queries and keys are numbers. -/
theorem pre_numbers (h : Cert.Pre_AttnIdeal_finite_scores m) (c : Dev nD) :
    (∀ i, ∃ r : ℝ, m ((c : Thread nD τ).loc main_arg0) i = (r : EReal)) ∧ (∀ i, ∃ r : ℝ, m ((c : Thread nD τ).loc main_arg1) i = (r : EReal))
    ∧ (∀ i, ∃ r : ℝ, m ((c : Thread nD τ).loc main_arg2) i = (r : EReal)) ∧ ∀ i, ∃ r : ℝ, m ((c : Thread nD τ).loc main_arg3) i = (r : EReal) := by
  have e := congrFun (h c) (fun k => k.elim0)
  dsimp only [Cert.Pre_finite_scores.fn, Cert.Pre_finite_scores.fn_part1] at e
  obtain ⟨e, e3⟩ := bit_and e
  obtain ⟨e, e2⟩ := bit_and e
  obtain ⟨e0, e1⟩ := bit_and e
  exact ⟨numbers _ _ _ _ _ _ e0, numbers _ _ _ _ _ _ e1, numbers _ _ _ _ _ _ e2, numbers _ _ _ _ _ _ e3⟩

end Kernel

end Cert.AttnValue

end
-- ==== Proof.AttnRefValue.lean ====
/- The attention's reference, entry by entry: scores, softmax and weighted values of each batch's rows and of each
   context's. -/
module

public import proofs.«01_k».proof.Proof.Gen.AttnRefIdeal.Run
public import Idealize.ShloMosaic.Lib.Pipeline.ValueKit
public import Idealize.ShloMosaic.Lib.Claim

@[expose] public section

set_option maxRecDepth 16384

noncomputable section

namespace Cert.AttnRefValue

open Idealize.ShloMosaic Idealize.ShloMosaic.TcCoe Idealize.SL.Sem
open Cert.AttnRefIdeal Cert.AttnRefIdeal.Gen

/-- The greatest of finitely many numbers, folded from minus infinity, is a number. -/
theorem foldl_real (L : List EReal) (h : ∀ x ∈ L, ∃ a : ℝ, x = a) :
    (∀ r : ℝ, ∃ M : ℝ, L.foldl max (r : EReal) = M) := by
  induction L with
  | nil => exact fun r => ⟨r, rfl⟩
  | cons x L ih =>
    intro r
    obtain ⟨a, rfl⟩ := h x List.mem_cons_self
    rw [List.foldl_cons, show max (r : EReal) (a : EReal) = ((max r a : ℝ) : EReal) from (EReal.coe_strictMono.monotone.map_max).symm]
    exact ih (fun y hy => h y (List.mem_cons_of_mem _ hy)) _

/-- A maximum over an axis of numbers is a number. -/
theorem reduce_real {s t u : Shape} {axes : List (Fin s.rank)} (x : FVec Ideal s .f32) (init : FVec Ideal u .f32) (h : s.ReducesTo axes t)
    (hu : 0 < u.numel) (j : t.Idx) (i0 : s.Idx) (hi : h.drop i0 = j) (hinit : init (Shape.Idx.first hu) = (⊥ : EReal))
    (hx : ∀ i, ∃ a : ℝ, x i = (a : EReal)) : ∃ M : ℝ, Host.reduce FloatOps.maximumf x init h hu j = (M : EReal) := by
  rw [Host.reduce_eq_foldl, hinit]
  generalize hL : ((List.finRange s.numel).map s.rowMajor.symm).filter (fun i => h.drop i = j) = L
  have hm : i0 ∈ L := by
    rw [← hL, List.mem_filter]
    exact ⟨List.mem_map.2 ⟨s.rowMajor i0, List.mem_finRange _, s.rowMajor.symm_apply_apply i0⟩, by simpa using hi⟩
  have e : ∀ r : EReal, L.foldl (fun r i => FloatOps.maximumf (F := Ideal) (φ := .f32) r (x i)) r = (L.map x).foldl max r := fun r => by
    rw [List.foldl_map]; rfl
  refine (show ∃ M : ℝ, L.foldl (fun r i => FloatOps.maximumf (F := Ideal) (φ := .f32) r (x i)) (⊥ : EReal) = (M : EReal) from ?_)
  rw [e]
  cases L with
  | nil => exact absurd hm List.not_mem_nil
  | cons i L =>
    obtain ⟨a, ha⟩ := hx i
    rw [List.map_cons, List.foldl_cons, ha, max_eq_right bot_le]
    exact foldl_real _ (fun y hy => by obtain ⟨k, _, rfl⟩ := List.mem_map.1 hy; exact hx k) a

theorem ofBits_bot : Ideal.ofBits .f32 0xFF800000#32 = ⊥ := by simp [Ideal.ofBits, Ideal.ieee]

/-- The same, floored at minus infinity as the host's softmax writes it. -/
theorem floored_real {s t u w : Shape} {axes : List (Fin s.rank)} {dims : Fin w.rank → Fin t.rank} (hb : w.BroadcastsInDim t dims)
    (x : FVec Ideal s .f32) (h : s.ReducesTo axes t)
    (hu : 0 < u.numel) (j : t.Idx) (i0 : s.Idx) (hi : h.drop i0 = j) (hx : ∀ i, ∃ a : ℝ, x i = (a : EReal)) :
    ∃ M : ℝ, maximumf (broadcastInDim t dims hb (constant w .f32 0xFF800000#32))
      (Host.reduce FloatOps.maximumf x (constant u .f32 0xFF800000#32) h hu) j = (M : EReal) := by
  obtain ⟨M, hM⟩ := reduce_real x (constant u .f32 0xFF800000#32) h hu j i0 hi ofBits_bot hx
  refine ⟨M, (congrArg (max (Ideal.ofBits .f32 0xFF800000#32)) hM).trans ?_⟩
  rw [ofBits_bot, max_eq_right bot_le]

/-- The row of a batch's `q`-th key: the context's 256 rows come first. -/
def keyRow (b : Fin 4) (q : Fin 2304) : Fin 9216 :=
  if h : q.val < 256 then ⟨8192 + (b.val * 256 + q.val), by omega⟩ else ⟨b.val * 2048 + (q.val - 256), by omega⟩

/-! Each batch's own rows (`L`) and its context's (`C`) of an array. -/

def headL (X : FVec Ideal S9216x8x128 .f32) : FVec Ideal S4x2048x8x128 .f32 :=
  shapeCast _ (extractStridedSlice S8192x8x128 ![0, 0, 0] X slices_S9216x8x128_S8192x8x128_0_0_0) shapeCasts_S8192x8x128_S4x2048x8x128

theorem headL_at (X : FVec Ideal S9216x8x128 .f32) (b : Fin 4) (q : Fin 2048) (h : Fin 8) (x : Fin 128) :
    headL X (ix4 b q h x) = X (ix3 ⟨b.val * 2048 + q.val, by omega⟩ h x) := by
  pointwise [headL]

def headC (X : FVec Ideal S9216x8x128 .f32) : FVec Ideal S4x256x8x128 .f32 :=
  shapeCast _ (extractStridedSlice S1024x8x128 ![8192, 0, 0] X slices_S9216x8x128_S1024x8x128_8192_0_0) shapeCasts_S1024x8x128_S4x256x8x128

theorem headC_at (X : FVec Ideal S9216x8x128 .f32) (b : Fin 4) (q : Fin 256) (h : Fin 8) (x : Fin 128) :
    headC X (ix4 b q h x) = X (ix3 ⟨8192 + (b.val * 256 + q.val), by omega⟩ h x) := by
  pointwise [headC]

/-- The keys of a batch: its context's rows, then its own. -/
def headK (X : FVec Ideal S9216x8x128 .f32) : FVec Ideal S4x2304x8x128 .f32 :=
  concatenate S4x2304x8x128 1 [⟨S4x256x8x128, headC X⟩, ⟨S4x2048x8x128, headL X⟩] concatenates_S4x256x8x128_S4x2048x8x128_S4x2304x8x128_d1

theorem headK_at (X : FVec Ideal S9216x8x128 .f32) (b : Fin 4) (q : Fin 2304) (h : Fin 8) (x : Fin 128) :
    headK X (ix4 b q h x) = X (ix3 (keyRow b q) h x) := by
  by_cases hq : q.val < 256 <;> pointwise [headK, headC_at, headL_at, keyRow, hq]

def rotL (X : FVec Ideal S9216x8x64 .f32) : FVec Ideal S4x2048x8x64 .f32 :=
  shapeCast _ (extractStridedSlice S8192x8x64 ![0, 0, 0] X slices_S9216x8x64_S8192x8x64_0_0_0) shapeCasts_S8192x8x64_S4x2048x8x64

theorem rotL_at (X : FVec Ideal S9216x8x64 .f32) (b : Fin 4) (q : Fin 2048) (h : Fin 8) (x : Fin 64) :
    rotL X (ix4 b q h x) = X (ix3 ⟨b.val * 2048 + q.val, by omega⟩ h x) := by
  pointwise [rotL]

def rotC (X : FVec Ideal S9216x8x64 .f32) : FVec Ideal S4x256x8x64 .f32 :=
  shapeCast _ (extractStridedSlice S1024x8x64 ![8192, 0, 0] X slices_S9216x8x64_S1024x8x64_8192_0_0) shapeCasts_S1024x8x64_S4x256x8x64

theorem rotC_at (X : FVec Ideal S9216x8x64 .f32) (b : Fin 4) (q : Fin 256) (h : Fin 8) (x : Fin 64) :
    rotC X (ix4 b q h x) = X (ix3 ⟨8192 + (b.val * 256 + q.val), by omega⟩ h x) := by
  pointwise [rotC]

def keyL (X : FVec Ideal S9216x64 .f32) : FVec Ideal S4x2048x64 .f32 :=
  shapeCast _ (extractStridedSlice S8192x64 ![0, 0] X slices_S9216x64_S8192x64_0_0) shapeCasts_S8192x64_S4x2048x64

theorem keyL_at (X : FVec Ideal S9216x64 .f32) (b : Fin 4) (q : Fin 2048) (x : Fin 64) :
    keyL X (ix3 b q x) = X (ix2 ⟨b.val * 2048 + q.val, by omega⟩ x) := by
  pointwise [keyL]

def keyC (X : FVec Ideal S9216x64 .f32) : FVec Ideal S4x256x64 .f32 :=
  shapeCast _ (extractStridedSlice S1024x64 ![8192, 0] X slices_S9216x64_S1024x64_8192_0) shapeCasts_S1024x64_S4x256x64

theorem keyC_at (X : FVec Ideal S9216x64 .f32) (b : Fin 4) (q : Fin 256) (x : Fin 64) :
    keyC X (ix3 b q x) = X (ix2 ⟨8192 + (b.val * 256 + q.val), by omega⟩ x) := by
  pointwise [keyC]

/-- The keys of a batch: its context's rows, then its own. -/
def keyK (X : FVec Ideal S9216x64 .f32) : FVec Ideal S4x2304x64 .f32 :=
  concatenate S4x2304x64 1 [⟨S4x256x64, keyC X⟩, ⟨S4x2048x64, keyL X⟩] concatenates_S4x256x64_S4x2048x64_S4x2304x64_d1

theorem keyK_at (X : FVec Ideal S9216x64 .f32) (b : Fin 4) (q : Fin 2304) (x : Fin 64) :
    keyK X (ix3 b q x) = X (ix2 (keyRow b q) x) := by
  by_cases hq : q.val < 256 <;> pointwise [keyK, keyC_at, keyL_at, keyRow, hq]

/-- The scores divided by `√192`, a batch's rows. -/
def scoresL (qn : FVec Ideal S4x2048x8x128 .f32) (qr : FVec Ideal S4x2048x8x64 .f32) (kn : FVec Ideal S4x2304x8x128 .f32) (kr : FVec Ideal S4x2304x64 .f32) :
    FVec Ideal S4x8x2048x2304 .f32 :=
  Host.divf (addf (Host.dotGeneral (φ₁ := .f32) (φ₂ := .f32) dot_S4x2048x8x128_S4x2304x8x128_S4x8x2048x2304_3_3_1_1_02_02 none qn kn)
      (transpose S4x8x2048x2304 [0, 3, 2, 1] (Host.dotGeneral (φ₁ := .f32) (φ₂ := .f32) dot_S4x2304x64_S4x2048x8x64_S4x2304x2048x8_2_3_1_12_0_0 none kr qr)
        transposes_S4x2304x2048x8_S4x8x2048x2304_0_3_2_1))
    (broadcastInDim S4x8x2048x2304 ![] bcast_S_S4x8x2048x2304 (Host.sqrt (constant S_ .f32 0x43400000#32)))

theorem scoresL_at (qn : FVec Ideal S4x2048x8x128 .f32) (qr : FVec Ideal S4x2048x8x64 .f32) (kn : FVec Ideal S4x2304x8x128 .f32) (kr : FVec Ideal S4x2304x64 .f32)
    (b : Fin 4) (h : Fin 8) (q : Fin 2048) (k : Fin 2304) :
    scoresL qn qr kn kr (ix4 b h q k)
      = Ideal.div ((∑ x : Fin 128, qn (ix4 b q h x) * kn (ix4 b k h x)) + ∑ x : Fin 64, kr (ix3 b k x) * qr (ix4 b q h x))
          (Ideal.sqrt (Ideal.ofBits .f32 0x43400000#32)) := by
  pointwise [scoresL]

/-- The rows' greatest scores, a batch's rows. -/
def topsL (s : FVec Ideal S4x8x2048x2304 .f32) : FVec Ideal S4x8x2048 .f32 :=
  maximumf (broadcastInDim S4x8x2048 ![] bcast_S_S4x8x2048 (constant S_ .f32 0xFF800000#32))
    (Host.reduce FloatOps.maximumf s (constant S_ .f32 0xFF800000#32) reducesTo_S4x8x2048x2304_S4x8x2048_d3 h_S_)

theorem dropL (b : Fin 4) (h : Fin 8) (q : Fin 2048) :
    reducesTo_S4x8x2048x2304_S4x8x2048_d3.drop (ix4 b h q 0) = ix3 b h q := by
  funext a
  apply Fin.ext
  fin_cases a
  · exact Shape.ReducesTo.drop_apply_val_of_eq reducesTo_S4x8x2048x2304_S4x8x2048_d3 (ix4 b h q 0) 0 0
  · exact Shape.ReducesTo.drop_apply_val_of_eq reducesTo_S4x8x2048x2304_S4x8x2048_d3 (ix4 b h q 0) 1 1
  · exact Shape.ReducesTo.drop_apply_val_of_eq reducesTo_S4x8x2048x2304_S4x8x2048_d3 (ix4 b h q 0) 2 2

theorem topsL_real (s : FVec Ideal S4x8x2048x2304 .f32) (hs : ∀ i, ∃ a : ℝ, s i = (a : EReal)) (b : Fin 4) (h : Fin 8) (q : Fin 2048) :
    ∃ M : ℝ, topsL s (ix3 b h q) = (M : EReal) := by
  unfold topsL
  exact floored_real _ s _ _ _ _ (dropL b h q) hs

/-- The exponentials of the scores less the row's greatest, a batch's rows. -/
def expsL (s : FVec Ideal S4x8x2048x2304 .f32) : FVec Ideal S4x8x2048x2304 .f32 :=
  Host.exp (subf s (broadcastInDim S4x8x2048x2304 ![0, 1, 2, 3] bcast_S4x8x2048x1_S4x8x2048x2304_0_1_2_3 (broadcastInDim S4x8x2048x1 ![0, 1, 2] bcast_S4x8x2048_S4x8x2048x1_0_1_2 (topsL s))))

theorem expsL_at (s : FVec Ideal S4x8x2048x2304 .f32) (b : Fin 4) (h : Fin 8) (q : Fin 2048) (k : Fin 2304) :
    expsL s (ix4 b h q k) = Ideal.exp (s (ix4 b h q k) - topsL s (ix3 b h q)) := by
  pointwise [expsL]

/-- The softmax of the scores, a batch's rows. -/
def softL (s : FVec Ideal S4x8x2048x2304 .f32) : FVec Ideal S4x8x2048x2304 .f32 :=
  Host.divf (expsL s) (broadcastInDim S4x8x2048x2304 ![0, 1, 2, 3] bcast_S4x8x2048x1_S4x8x2048x2304_0_1_2_3 (broadcastInDim S4x8x2048x1 ![0, 1, 2] bcast_S4x8x2048_S4x8x2048x1_0_1_2
    (Host.reduceAdd (expsL s) (constant S_ .f32 0x00000000#32) reducesTo_S4x8x2048x2304_S4x8x2048_d3 h_S_)))

theorem softL_at (s : FVec Ideal S4x8x2048x2304 .f32) (b : Fin 4) (h : Fin 8) (q : Fin 2048) (k : Fin 2304) :
    softL s (ix4 b h q k) = Ideal.div (expsL s (ix4 b h q k)) (∑ l : Fin 2304, expsL s (ix4 b h q l)) := by
  pointwise [softL]

/-- The values weighted by the softmax, a batch's rows. -/
def attL (s : FVec Ideal S4x8x2048x2304 .f32) (v : FVec Ideal S4x2304x8x128 .f32) : FVec Ideal S4x2048x8x128 .f32 :=
  transpose S4x2048x8x128 [0, 3, 1, 2] (Host.dotGeneral (φ₁ := .f32) (φ₂ := .f32) dot_S4x2304x8x128_S4x8x2048x2304_S4x8x128x2048_1_3_3_2_02_01 none v (softL s))
    transposes_S4x8x128x2048_S4x2048x8x128_0_3_1_2

theorem attL_at (s : FVec Ideal S4x8x2048x2304 .f32) (v : FVec Ideal S4x2304x8x128 .f32) (b : Fin 4) (q : Fin 2048) (h : Fin 8) (d : Fin 128) :
    attL s v (ix4 b q h d) = ∑ k : Fin 2304, v (ix4 b k h d) * softL s (ix4 b h q k) := by
  pointwise [attL]

/-- The scores divided by `√192`, a context's rows. -/
def scoresC (qn : FVec Ideal S4x256x8x128 .f32) (qr : FVec Ideal S4x256x8x64 .f32) (kn : FVec Ideal S4x256x8x128 .f32) (kr : FVec Ideal S4x256x64 .f32) :
    FVec Ideal S4x8x256x256 .f32 :=
  Host.divf (addf (Host.dotGeneral (φ₁ := .f32) (φ₂ := .f32) dot_S4x256x8x128_S4x256x8x128_S4x8x256x256_3_3_1_1_02_02 none qn kn)
      (transpose S4x8x256x256 [0, 3, 2, 1] (Host.dotGeneral (φ₁ := .f32) (φ₂ := .f32) dot_S4x256x64_S4x256x8x64_S4x256x256x8_2_3_1_12_0_0 none kr qr)
        transposes_S4x256x256x8_S4x8x256x256_0_3_2_1))
    (broadcastInDim S4x8x256x256 ![] bcast_S_S4x8x256x256 (Host.sqrt (constant S_ .f32 0x43400000#32)))

theorem scoresC_at (qn : FVec Ideal S4x256x8x128 .f32) (qr : FVec Ideal S4x256x8x64 .f32) (kn : FVec Ideal S4x256x8x128 .f32) (kr : FVec Ideal S4x256x64 .f32)
    (b : Fin 4) (h : Fin 8) (q : Fin 256) (k : Fin 256) :
    scoresC qn qr kn kr (ix4 b h q k)
      = Ideal.div ((∑ x : Fin 128, qn (ix4 b q h x) * kn (ix4 b k h x)) + ∑ x : Fin 64, kr (ix3 b k x) * qr (ix4 b q h x))
          (Ideal.sqrt (Ideal.ofBits .f32 0x43400000#32)) := by
  pointwise [scoresC]

/-- The rows' greatest scores, a context's rows. -/
def topsC (s : FVec Ideal S4x8x256x256 .f32) : FVec Ideal S4x8x256 .f32 :=
  maximumf (broadcastInDim S4x8x256 ![] bcast_S_S4x8x256 (constant S_ .f32 0xFF800000#32))
    (Host.reduce FloatOps.maximumf s (constant S_ .f32 0xFF800000#32) reducesTo_S4x8x256x256_S4x8x256_d3 h_S_)

theorem dropC (b : Fin 4) (h : Fin 8) (q : Fin 256) :
    reducesTo_S4x8x256x256_S4x8x256_d3.drop (ix4 b h q 0) = ix3 b h q := by
  funext a
  apply Fin.ext
  fin_cases a
  · exact Shape.ReducesTo.drop_apply_val_of_eq reducesTo_S4x8x256x256_S4x8x256_d3 (ix4 b h q 0) 0 0
  · exact Shape.ReducesTo.drop_apply_val_of_eq reducesTo_S4x8x256x256_S4x8x256_d3 (ix4 b h q 0) 1 1
  · exact Shape.ReducesTo.drop_apply_val_of_eq reducesTo_S4x8x256x256_S4x8x256_d3 (ix4 b h q 0) 2 2

theorem topsC_real (s : FVec Ideal S4x8x256x256 .f32) (hs : ∀ i, ∃ a : ℝ, s i = (a : EReal)) (b : Fin 4) (h : Fin 8) (q : Fin 256) :
    ∃ M : ℝ, topsC s (ix3 b h q) = (M : EReal) := by
  unfold topsC
  exact floored_real _ s _ _ _ _ (dropC b h q) hs

/-- The exponentials of the scores less the row's greatest, a context's rows. -/
def expsC (s : FVec Ideal S4x8x256x256 .f32) : FVec Ideal S4x8x256x256 .f32 :=
  Host.exp (subf s (broadcastInDim S4x8x256x256 ![0, 1, 2, 3] bcast_S4x8x256x1_S4x8x256x256_0_1_2_3 (broadcastInDim S4x8x256x1 ![0, 1, 2] bcast_S4x8x256_S4x8x256x1_0_1_2 (topsC s))))

theorem expsC_at (s : FVec Ideal S4x8x256x256 .f32) (b : Fin 4) (h : Fin 8) (q : Fin 256) (k : Fin 256) :
    expsC s (ix4 b h q k) = Ideal.exp (s (ix4 b h q k) - topsC s (ix3 b h q)) := by
  pointwise [expsC]

/-- The softmax of the scores, a context's rows. -/
def softC (s : FVec Ideal S4x8x256x256 .f32) : FVec Ideal S4x8x256x256 .f32 :=
  Host.divf (expsC s) (broadcastInDim S4x8x256x256 ![0, 1, 2, 3] bcast_S4x8x256x1_S4x8x256x256_0_1_2_3 (broadcastInDim S4x8x256x1 ![0, 1, 2] bcast_S4x8x256_S4x8x256x1_0_1_2
    (Host.reduceAdd (expsC s) (constant S_ .f32 0x00000000#32) reducesTo_S4x8x256x256_S4x8x256_d3 h_S_)))

theorem softC_at (s : FVec Ideal S4x8x256x256 .f32) (b : Fin 4) (h : Fin 8) (q : Fin 256) (k : Fin 256) :
    softC s (ix4 b h q k) = Ideal.div (expsC s (ix4 b h q k)) (∑ l : Fin 256, expsC s (ix4 b h q l)) := by
  pointwise [softC]

/-- The values weighted by the softmax, a context's rows. -/
def attC (s : FVec Ideal S4x8x256x256 .f32) (v : FVec Ideal S4x256x8x128 .f32) : FVec Ideal S4x256x8x128 .f32 :=
  transpose S4x256x8x128 [0, 3, 1, 2] (Host.dotGeneral (φ₁ := .f32) (φ₂ := .f32) dot_S4x256x8x128_S4x8x256x256_S4x8x128x256_1_3_3_2_02_01 none v (softC s))
    transposes_S4x8x128x256_S4x256x8x128_0_3_1_2

theorem attC_at (s : FVec Ideal S4x8x256x256 .f32) (v : FVec Ideal S4x256x8x128 .f32) (b : Fin 4) (q : Fin 256) (h : Fin 8) (d : Fin 128) :
    attC s v (ix4 b q h d) = ∑ k : Fin 256, v (ix4 b k h d) * softC s (ix4 b h q k) := by
  pointwise [attC]

/-- The reference's result. -/
def whole (qn : FVec Ideal S9216x8x128 .f32) (qr : FVec Ideal S9216x8x64 .f32) (kn : FVec Ideal S9216x8x128 .f32)
    (kr : FVec Ideal S9216x64 .f32) (v : FVec Ideal S9216x8x128 .f32) : FVec Ideal S9216x1024 .bf16 :=
  truncf .bf16 (concatenate S9216x1024 0
    [⟨S8192x1024, (shapeCast _ (attL (scoresL (headL qn) (rotL qr) (headK kn) (keyK kr)) (headK v)) shapeCasts_S4x2048x8x128_S8192x1024)⟩,
     ⟨S1024x1024, (shapeCast _ (attC (scoresC (headC qn) (rotC qr) (headC kn) (keyC kr)) (headC v)) shapeCasts_S4x256x8x128_S1024x1024)⟩]
    concatenates_S8192x1024_S1024x1024_S9216x1024_d0) bitsLt_bf16_f32

theorem whole_lat (qn : FVec Ideal S9216x8x128 .f32) (qr : FVec Ideal S9216x8x64 .f32) (kn : FVec Ideal S9216x8x128 .f32)
    (kr : FVec Ideal S9216x64 .f32) (v : FVec Ideal S9216x8x128 .f32) (r : Fin 9216) (j : Fin 1024) (h : r.val < 8192) :
    whole qn qr kn kr v (ix2 r j)
      = attL (scoresL (headL qn) (rotL qr) (headK kn) (keyK kr)) (headK v)
          (ix4 ⟨r.val / 2048, by omega⟩ ⟨r.val % 2048, by omega⟩ ⟨j.val / 128, by omega⟩ ⟨j.val % 128, by omega⟩) := by
  pointwise [whole, h]

theorem whole_ctx (qn : FVec Ideal S9216x8x128 .f32) (qr : FVec Ideal S9216x8x64 .f32) (kn : FVec Ideal S9216x8x128 .f32)
    (kr : FVec Ideal S9216x64 .f32) (v : FVec Ideal S9216x8x128 .f32) (r : Fin 9216) (j : Fin 1024) (h : ¬r.val < 8192) :
    whole qn qr kn kr v (ix2 r j)
      = attC (scoresC (headC qn) (rotC qr) (headC kn) (keyC kr)) (headC v)
          (ix4 ⟨(r.val - 8192) / 256, by omega⟩ ⟨(r.val - 8192) % 256, by omega⟩ ⟨j.val / 128, by omega⟩ ⟨j.val % 128, by omega⟩) := by
  pointwise [whole, h]

/-- The reference's run ends with `whole` of its arguments. -/
theorem res_eq (m : (ℓ : Loc nD τ sig) → Buf (Elt Ideal) ℓ) (c : Dev nD) :
    Cert.AttnRefIdeal.Value.res_main_v72 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.AttnRefValue

end
-- ==== Proof.AttnValue.lean ====
/- Attention: the kernel's scores are powers of two of the query and key products over `√192 log 2`, accumulated over
   three runs of keys; the reference's are exponentials of the same products over `√192`, in one softmax. Both are the
   values weighted by the same powers of two, over their sum. -/
module

public import proofs.«01_k».proof.Defs
public import proofs.«01_k».proof.Proof.AttnHost
public import proofs.«01_k».proof.Proof.AttnRefValue

@[expose] public section

set_option maxRecDepth 16384

noncomputable section

namespace Cert.AttnValue

open Idealize.ShloMosaic Idealize.ShloMosaic.TcCoe Idealize.SL.Sem
open Cert.AttnRefValue (keyRow whole)

/-- A head's 256 columns: 128 of its own, 64 rotary, 64 of filling. -/
theorem split_head (f : Fin 256 → EReal) :
    ∑ x, f x = (∑ x : Fin 128, f ⟨x.val, by omega⟩) + (∑ x : Fin 64, f ⟨128 + x.val, by omega⟩) + ∑ x : Fin 64, f ⟨192 + x.val, by omega⟩ := by
  refine (Fin.sum_univ_add (a := 128 + 64) (b := 64) f).trans ?_
  rw [Fin.sum_univ_add (a := 128) (b := 64)]
  rfl

/-- A batch's keys, as the three runs in which they are read. -/
theorem sum_keys {A : Type} [AddCommMonoid A] (f : Fin 9216 → A) (r : Fin 9216) (b : Fin 4) (hb : b.val = r.val / 2048) :
    ∑ k : Fin 2304, f (keyRow b k) = (∑ k, f (ctxKey r k)) + (∑ k, f (latKey r 0 (by omega) k)) + ∑ k, f (latKey r 1024 (by omega) k) := by
  refine (Fin.sum_univ_add (a := 256 + 1024) (b := 1024) fun k : Fin 2304 => f (keyRow b k)).trans ?_
  rw [Fin.sum_univ_add (a := 256) (b := 1024)]
  refine congrArg₂ (· + ·) (congrArg₂ (· + ·) ?_ ?_) ?_
  · refine Finset.sum_congr rfl fun k _ => congrArg f (Fin.ext ?_)
    simp only [keyRow, ctxKey, Fin.val_castAdd]
    rw [dif_pos (by omega)]
    dsimp only; omega
  · refine Finset.sum_congr rfl fun k _ => congrArg f (Fin.ext ?_)
    simp only [keyRow, latKey, Fin.val_castAdd, Fin.val_natAdd]
    rw [dif_neg (by omega)]
    dsimp only; omega
  · refine Finset.sum_congr rfl fun k _ => congrArg f (Fin.ext ?_)
    simp only [keyRow, latKey, Fin.val_natAdd]
    rw [dif_neg (by omega)]
    dsimp only; omega

section Entries
open Cert.AttnRefIdeal
variable (qn : FVec Ideal S9216x8x128 .f32) (qr : FVec Ideal S9216x8x64 .f32) (kn : FVec Ideal S9216x8x128 .f32)
  (kr : FVec Ideal S9216x64 .f32) (v : FVec Ideal S9216x8x128 .f32)

/-- The kernel's score, over its queries and keys as they are given. -/
theorem score_at (r : Fin 9216) (j : Fin 1024) (l : Fin 9216) :
    score (queries qn qr) (keys kn kr) r j l
      = (∑ x : Fin 128, Ideal.div (qn (ix3 r ⟨j.val / 128, by omega⟩ x)) root * kn (ix3 l ⟨j.val / 128, by omega⟩ x))
        + ∑ x : Fin 64, Ideal.div (qr (ix3 r ⟨j.val / 128, by omega⟩ x)) root * kr (ix2 l x) := by
  rw [score, split_head]
  refine (congrArg₂ (· + ·) (congrArg₂ (· + ·) ?_ ?_) ?_).trans (add_zero _)
  · exact Finset.sum_congr rfl fun x _ => congrArg₂ (· * ·) (queries_0 r j qn qr x) (keys_0 l j kn kr x)
  · exact Finset.sum_congr rfl fun x _ => congrArg₂ (· * ·) (queries_1 r j qn qr x) (keys_1 l j kn kr x)
  · exact Finset.sum_eq_zero fun x _ => (congrArg (· * _) (queries_2 r j qn qr x)).trans (zero_mul _)

variable (hqn : ∀ i, ∃ r : ℝ, qn i = (r : EReal)) (hqr : ∀ i, ∃ r : ℝ, qr i = (r : EReal)) (hkn : ∀ i, ∃ r : ℝ, kn i = (r : EReal))
  (hkr : ∀ i, ∃ r : ℝ, kr i = (r : EReal))
include hqn hqr hkn hkr

/-- A row's scores in a head: numbers `a` for the kernel, `a log 2` for the reference. -/
theorem row_scores (r : Fin 9216) (h : Fin 8) : ∃ a : Fin 9216 → ℝ, ∀ l,
    (∑ x : Fin 128, Ideal.div (qn (ix3 r h x)) root * kn (ix3 l h x)) + (∑ x : Fin 64, Ideal.div (qr (ix3 r h x)) root * kr (ix2 l x))
        = (a l : EReal)
      ∧ Ideal.div ((∑ x : Fin 128, qn (ix3 r h x) * kn (ix3 l h x)) + ∑ x : Fin 64, kr (ix2 l x) * qr (ix3 r h x))
          (Ideal.sqrt (Ideal.ofBits .f32 0x43400000#32)) = ((a l * Real.log 2 : ℝ) : EReal) := by
  have H := fun l => score_pair (fun x : Fin 128 => qn (ix3 r h x)) (fun x => kn (ix3 l h x)) (fun x : Fin 64 => qr (ix3 r h x))
    (fun x => kr (ix2 l x)) (fun x => hqn _) (fun x => hkn _) (fun x => hqr _) (fun x => hkr _)
  choose a ha using H
  refine ⟨a, fun l => ?_⟩
  rw [root, ofBits_192, ofBits_2]
  exact ha l

variable (r : Fin 9216) (j : Fin 1024) (a : Fin 9216 → ℝ)
  (ha : ∀ l, (∑ x : Fin 128, Ideal.div (qn (ix3 r ⟨j.val / 128, by omega⟩ x)) root * kn (ix3 l ⟨j.val / 128, by omega⟩ x))
        + (∑ x : Fin 64, Ideal.div (qr (ix3 r ⟨j.val / 128, by omega⟩ x)) root * kr (ix2 l x)) = (a l : EReal)
      ∧ Ideal.div ((∑ x : Fin 128, qn (ix3 r ⟨j.val / 128, by omega⟩ x) * kn (ix3 l ⟨j.val / 128, by omega⟩ x))
          + ∑ x : Fin 64, kr (ix2 l x) * qr (ix3 r ⟨j.val / 128, by omega⟩ x))
          (Ideal.sqrt (Ideal.ofBits .f32 0x43400000#32)) = ((a l * Real.log 2 : ℝ) : EReal))
include ha

omit hqn hqr hkn hkr in
theorem score_a (l : Fin 9216) : score (queries qn qr) (keys kn kr) r j l = (a l : EReal) := (score_at qn qr kn kr r j l).trans (ha l).1

omit hqn hqr hkn hkr ha in
/-- A value column and a column of ones of the padded values, at the output column `j`. -/
theorem padded_v (l : Fin 9216) : padded v (ix2 l (headCol j ⟨j.val % 128, by omega⟩)) = v (ix3 l ⟨j.val / 128, by omega⟩ ⟨j.val % 128, by omega⟩) :=
  padded_0 l j v ⟨j.val % 128, by omega⟩
omit hqn hqr hkn hkr ha in
theorem padded_o (l : Fin 9216) : padded v (ix2 l (headCol j ⟨128 + j.val % 128, by omega⟩)) = 1 :=
  padded_1 l j v ⟨j.val % 128, by omega⟩

omit hqn hqr hkn hkr in
/-- The kernel's entry in a batch's row. -/
theorem attended_lat (hr : r.val < 8192) :
    attended (queries qn qr) (keys kn kr) (padded v) r j
      = weighted (fun k : Fin 2304 => a (keyRow ⟨r.val / 2048, by omega⟩ k))
          (fun k => v (ix3 (keyRow ⟨r.val / 2048, by omega⟩ k) ⟨j.val / 128, by omega⟩ ⟨j.val % 128, by omega⟩)) := by
  have s := score_a qn qr kn kr r j a ha
  rw [attended, if_pos hr, latSum, latSum]
  refine (runs_eq (by decide) (by decide) _ _ _ _ _ _ _ _ _ (fun k => a (ctxKey r k)) (fun k => a (latKey r 0 (by omega) k))
    (fun k => a (latKey r 1024 (by omega) k)) (fun k => s _) (fun k => s _) (fun k => s _) (fun k => padded_o v j _)
    (fun k => padded_o v j _) (fun k => padded_o v j _)).trans ?_
  simp only [weighted, sums, padded_v]
  rw [sum_keys (fun l => ((pow2 (a l) : ℝ) : EReal) * v (ix3 l ⟨j.val / 128, by omega⟩ ⟨j.val % 128, by omega⟩)) r _ rfl,
    sum_keys (fun l => pow2 (a l)) r _ rfl]

omit hqn hqr hkn hkr in
/-- The kernel's entry in a context's row. -/
theorem attended_ctx (hr : ¬r.val < 8192) :
    attended (queries qn qr) (keys kn kr) (padded v) r j
      = weighted (fun k : Fin 256 => a (ownKey r k)) (fun k => v (ix3 (ownKey r k) ⟨j.val / 128, by omega⟩ ⟨j.val % 128, by omega⟩)) := by
  have s := score_a qn qr kn kr r j a ha
  rw [attended, if_neg hr, ctxSum, ctxSum]
  refine (run_eq (by decide) _ _ _ (fun k => a (ownKey r k)) (fun k => s _) (fun k => padded_o v j _)).trans ?_
  simp only [padded_v]

/-- The reference's entry in a batch's row. -/
theorem whole_lat (hr : r.val < 8192) :
    whole qn qr kn kr v (ix2 r j)
      = weighted (fun k : Fin 2304 => a (keyRow ⟨r.val / 2048, by omega⟩ k))
          (fun k => v (ix3 (keyRow ⟨r.val / 2048, by omega⟩ k) ⟨j.val / 128, by omega⟩ ⟨j.val % 128, by omega⟩)) := by
  rw [Cert.AttnRefValue.whole_lat qn qr kn kr v r j hr, Cert.AttnRefValue.attL_at]
  have er : (⟨r.val / 2048 * 2048 + r.val % 2048, by omega⟩ : Fin 9216) = r := Fin.ext (by dsimp only; omega)
  obtain ⟨M, hM⟩ := Cert.AttnRefValue.topsL_real (Cert.AttnRefValue.scoresL (Cert.AttnRefValue.headL qn) (Cert.AttnRefValue.rotL qr)
    (Cert.AttnRefValue.headK kn) (Cert.AttnRefValue.keyK kr)) (fun i => by
      idx_vars i
      obtain ⟨a, ha⟩ := row_scores qn qr kn kr hqn hqr hkn hkr ⟨i0.val * 2048 + i2.val, by omega⟩ i1
      rw [Cert.AttnRefValue.scoresL_at]
      simp only [Cert.AttnRefValue.headL_at, Cert.AttnRefValue.rotL_at, Cert.AttnRefValue.headK_at, Cert.AttnRefValue.keyK_at]
      exact ⟨_, (ha _).2⟩) ⟨r.val / 2048, by omega⟩ ⟨j.val / 128, by omega⟩ ⟨r.val % 2048, by omega⟩
  simp only [Cert.AttnRefValue.softL_at, Cert.AttnRefValue.expsL_at, hM, Cert.AttnRefValue.headK_at v]
  refine softmax_eq (by decide) M _ _ (fun k : Fin 2304 => a (keyRow ⟨r.val / 2048, by omega⟩ k)) fun k => ?_
  rw [Cert.AttnRefValue.scoresL_at]
  simp only [Cert.AttnRefValue.headL_at, Cert.AttnRefValue.rotL_at, Cert.AttnRefValue.headK_at, Cert.AttnRefValue.keyK_at, er]
  exact (ha _).2

/-- The reference's entry in a context's row. -/
theorem whole_ctx (hr : ¬r.val < 8192) :
    whole qn qr kn kr v (ix2 r j)
      = weighted (fun k : Fin 256 => a (ownKey r k)) (fun k => v (ix3 (ownKey r k) ⟨j.val / 128, by omega⟩ ⟨j.val % 128, by omega⟩)) := by
  rw [Cert.AttnRefValue.whole_ctx qn qr kn kr v r j hr, Cert.AttnRefValue.attC_at]
  have er : (⟨8192 + ((r.val - 8192) / 256 * 256 + (r.val - 8192) % 256), by omega⟩ : Fin 9216) = r := Fin.ext (by dsimp only; omega)
  have ek : ∀ k : Fin 256, (⟨8192 + ((r.val - 8192) / 256 * 256 + k.val), by omega⟩ : Fin 9216) = ownKey r k := fun k =>
    Fin.ext (by dsimp only [ownKey]; omega)
  obtain ⟨M, hM⟩ := Cert.AttnRefValue.topsC_real (Cert.AttnRefValue.scoresC (Cert.AttnRefValue.headC qn) (Cert.AttnRefValue.rotC qr)
    (Cert.AttnRefValue.headC kn) (Cert.AttnRefValue.keyC kr)) (fun i => by
      idx_vars i
      obtain ⟨a, ha⟩ := row_scores qn qr kn kr hqn hqr hkn hkr ⟨8192 + (i0.val * 256 + i2.val), by omega⟩ i1
      rw [Cert.AttnRefValue.scoresC_at]
      simp only [Cert.AttnRefValue.headC_at, Cert.AttnRefValue.rotC_at, Cert.AttnRefValue.keyC_at]
      exact ⟨_, (ha _).2⟩) ⟨(r.val - 8192) / 256, by omega⟩ ⟨j.val / 128, by omega⟩ ⟨(r.val - 8192) % 256, by omega⟩
  simp only [Cert.AttnRefValue.softC_at, Cert.AttnRefValue.expsC_at, hM, Cert.AttnRefValue.headC_at v, ek]
  refine softmax_eq (by decide) M _ _ (fun k : Fin 256 => a (ownKey r k)) fun k => ?_
  rw [Cert.AttnRefValue.scoresC_at]
  simp only [Cert.AttnRefValue.headC_at, Cert.AttnRefValue.rotC_at, Cert.AttnRefValue.keyC_at, er, ek]
  exact (ha _).2

end Entries

/-- Attention's value claim: from equal arguments whose queries and keys are numbers, the kernel and the reference leave
    equal result arrays. -/
theorem algebraic : Cert.algebraic_AttnIdeal_AttnRefIdeal_pre_finite_scores := by
  pair_intro
  · run_from Cert.AttnIdeal.Gen.run_main m g
  · run_from Cert.AttnRefIdeal.Value.run m' g'
    obtain ⟨hqn, hqr, hkn, hkr⟩ := pre_numbers m (by assumption) c
    obtain ⟨e0, e1, e2, e3, e4⟩ := hagree c
    rw [final m c, V_queries, V_keys, V_padded, Cert.AttnRefValue.res_eq, e0, e1, e2, e3, e4]
    funext j
    idx_vars j
    obtain ⟨a, ha⟩ := row_scores _ _ _ _ hqn hqr hkn hkr j0 ⟨j1.val / 128, by omega⟩
    by_cases hr : j0.val < 8192
    · exact (whole_lat _ _ _ _ _ hqn hqr hkn hkr j0 j1 a ha hr).trans (attended_lat _ _ _ _ _ j0 j1 a ha hr).symm
    · exact (whole_ctx _ _ _ _ _ hqn hqr hkn hkr j0 j1 a ha hr).trans (attended_ctx _ _ _ _ _ j0 j1 a ha hr).symm

end Cert.AttnValue

end
-- ==== Proof.InProjBlocks.lean ====
/-
  The input projection, the kernel's side: 9 row blocks of 1024 rows by 3 column blocks of 1024 columns. At a row block's
  first column block the rows are normalised and modulated into scratch, in four tiles of 256 rows, and the three column
  blocks' products read them there. The first two column blocks take the weights as they are, the last one takes the
  columns that the host laid out.
-/
module

public import proofs.«01_k».proof.Proof.Gen.InProjIdeal.Frame
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.InProjValue

open Idealize.ShloMosaic Idealize.ShloMosaic.TcCoe Idealize.SL.Sem
open Idealize.ShloMosaic.Pipeline (Dat)

section Kernel
open Cert.InProjIdeal Cert.InProjIdeal.Gen

variable (m : (ℓ : Loc nD τ sig) → Buf (Elt Ideal) ℓ)

/-- The windows' blocks at point `t`: row block `t / 3`, column block `t % 3`. -/
theorem idx : ∀ t : Fin cfg0.N, win0_0.index t = ![t.val / 3, 0] ∧ win0_1.index t = ![0, 0]
    ∧ win0_2.index t = ![0, min (t.val / 6) 4, 0, 0] ∧ win0_3.index t = ![0, min (t.val / 6) 4, 0, 1]
    ∧ win0_4.index t = ![0, 0, min (t.val % 3) 1] ∧ win0_5.index t = ![0, 0, 0]
    ∧ win0_6.index t = ![t.val / 3, t.val % 3] ∧ win0_7.index t = ![t.val / 3, 0] ∧ t.val < 27 :=
  (by decide +kernel : ∀ t : Fin grid0.N, _)

/-- The rows of a block normalised, weighted and modulated: entry `(r, k)`. -/
def tile (x : FVec Ideal S1024x2048 .f32) (g : FVec Ideal S1x2048 .f32) (sh sc : FVec Ideal S1x1x1x2048 .f32)
    (r : Fin 1024) (k : Fin 2048) : EReal :=
  x (ix2 r k) * Ideal.rsqrt (Ideal.div (∑ k : Fin 2048, x (ix2 r k) * x (ix2 r k)) (Ideal.ofBits .f32 0x45000000#32)
    + Ideal.ofBits .f32 0x358637BD#32) * g (ix2 0 k) * (1 + sc (ix4 0 0 0 k)) + sh (ix4 0 0 0 k)

/-- What the scratch holds after point `t`: the row block's rows, normalised and modulated. -/
theorem scr (c : Dev nD) (t : Fin cfg0.N) (y : S1024x2048.Idx) :
    (outsAt0 m c t.val t.isLt).2.2 y = tile (iblk m c 0 t) (iblk m c 1 t) (iblk m c 2 t) (iblk m c 3 t) (y 0) (y 1) := by
  rw [Pipeline.eq_of_write_hold_apply (fun n h => (outsAt0 m c n h).2.2) 3
    (fun t y => tile (iblk m c 0 t) (iblk m c 1 t) (iblk m c 2 t) (iblk m c 3 t) (y 0) (y 1))
    (fun t h y => by
      rw [outsAt0_A m c t h (by omega) (by omega)]
      frame_out
      canon_tiles x h
      all_goals
        pointwise [k0_pay1, k0_pay6, k0_pay7, k0_pay8, k0_pay9, k0_pay10, k0_pay11, k0_pay12, k0_pay13, k0_pay14, tile]
        blk_point)
    (fun t h y => by
      by_cases h1 : t.val % 3 ≤ 1
      · rw [outsAt0_B m c t h h1 (by omega)]; rfl
      · rw [outsAt0_C m c t h h1 (by omega)]; rfl) t y]
  unfold tile
  blk_point [iblk, V, idx t, idx ⟨3 * (t.val / 3), Pipeline.run_start_lt t⟩]

/-- Equal contractions of a block's rows. -/
def prod (x : FVec Ideal S1024x2048 .bf16) (w : FVec Ideal S1x2048x1024 .bf16) (r : Fin 1024) (l : Fin 1024) : EReal :=
  ∑ k : Fin 2048, x (ix2 r k) * w (ix3 0 k l)

/-- A row block's rows as the scratch holds them. -/
def rows (c : Dev nD) (t : Fin cfg0.N) : FVec Ideal S1024x2048 .bf16 :=
  fun y => tile (iblk m c 0 t) (iblk m c 1 t) (iblk m c 2 t) (iblk m c 3 t) (y 0) (y 1)

/-- At a point that is not a row block's first one the scratch arrives with the row block's rows. -/
theorem held (c : Dev nD) (t : Fin cfg0.N) (h : ¬t.val % 3 = 0) :
    (outsAt0 m c (t.val - 1) (Nat.lt_of_le_of_lt (Nat.sub_le _ _) t.isLt)).2.2 = rows m c t := by
  have hl : t.val - 1 < cfg0.N := Nat.lt_of_le_of_lt (Nat.sub_le _ _) t.isLt
  refine funext fun y => (scr m c ⟨t.val - 1, hl⟩ y).trans ?_
  unfold rows tile
  blk_point [iblk, V, idx t, idx ⟨t.val - 1, hl⟩]

/-- What the body leaves in the output block at the first two column blocks. -/
theorem out_main (c : Dev nD) (t : Fin cfg0.N) (h1 : t.val % 3 ≤ 1) (y : S1024x1024.Idx) :
    (outsAt0 m c t.val t.isLt).1 y = prod (rows m c t) (X0_4 m c t) (y 0) (y 1) := by
  by_cases h : t.val % 3 = 0
  · have e0 : (outsAt0 m c t.val t.isLt).2.2 = rows m c t := funext (scr m c t)
    rw [outsAt0_A m c t h h1 (by omega)] at e0 ⊢
    frame_out at e0
    frame_out
    rw [View.readCov_eq_canon', e0]
    pointwise [k0_pay2, prod]
  · have e0 := held m c t h
    rw [outsAt0_B m c t h h1 (by omega)]
    frame_out
    rw [read_unread_whole, e0]
    pointwise [k0_pay2, prod]

/-- What the body leaves in the output block at the last column block. -/
theorem out_tail (c : Dev nD) (t : Fin cfg0.N) (h2 : t.val % 3 = 2) (y : S1024x1024.Idx) :
    (outsAt0 m c t.val t.isLt).1 y = prod (rows m c t) (iblk m c 5 t) (y 0) (y 1) := by
  have e0 := held m c t (by omega)
  rw [outsAt0_C m c t (by omega) (by omega) h2]
  frame_out
  rw [read_unread_whole, e0]
  pointwise [k0_pay4, k0_pay3, prod]

/-- What the body leaves in the second output's block at the last column block: the product's first 512 columns. -/
theorem out_u (c : Dev nD) (t : Fin cfg0.N) (h2 : t.val % 3 = 2) (y : S1024x512.Idx) :
    (outsAt0 m c t.val t.isLt).2.1 y = prod (rows m c t) (iblk m c 5 t) (y 0) ⟨(y 1).val, by have : (y 1).val < 512 := (y 1).isLt; omega⟩ := by
  have e0 := held m c t (by omega)
  rw [outsAt0_C m c t (by omega) (by omega) h2]
  frame_out
  rw [read_unread_whole, e0]
  pointwise [k0_pay5, k0_pay3, prod]

/-- The modulation row of row `r`: its batch's, or the context's. -/
def modRow (r : Fin 9216) : Fin 8 := ⟨min (r.val / 2048) 4, by omega⟩

/-- The stream's rows normalised, weighted and modulated: entry `(r, k)`. -/
def normed (x : FVec Ideal S9216x2048 .f32) (g : FVec Ideal S2048 .f32) (md : FVec Ideal S4x8x1x12288 .f32)
    (r : Fin 9216) (k : Fin 2048) : EReal :=
  x (ix2 r k) * Ideal.rsqrt (Ideal.div (∑ k : Fin 2048, x (ix2 r k) * x (ix2 r k)) (Ideal.ofBits .f32 0x45000000#32)
    + Ideal.ofBits .f32 0x358637BD#32) * g (ix1 k) * (1 + md (ix4 0 (modRow r) 0 ⟨2048 + k.val, by omega⟩))
    + md (ix4 0 (modRow r) 0 ⟨k.val, by omega⟩)

/-- The gain as the host hands it over. -/
theorem V_gain (c : Dev nD) (k : Fin 2048) : V m c main_v14 (ix2 0 k) = m ((c : Thread nD τ).loc main_arg1) (ix1 k) := by
  have e : V m c main_v14 = shapeCast S1x2048 (m ((c : Thread nD τ).loc main_arg1)) shapeCasts_S2048_S1x2048 := by
    entry_read
    rfl
  rw [e]
  pointwise

/-- The stream's block at a point. -/
theorem blk0 (c : Dev nD) (t : Fin cfg0.N) (r : Fin 1024) (k : Fin 2048) :
    iblk m c 0 t (ix2 r k) = m ((c : Thread nD τ).loc main_arg0)
      (ix2 ⟨t.val / 3 * 1024 + r.val, by have := (idx t).2.2.2.2.2.2.2.2; omega⟩ k) := by
  blk_ext [iblk, V, idx t]

/-- The gain's block. -/
theorem blk1 (c : Dev nD) (t : Fin cfg0.N) (k : Fin 2048) :
    iblk m c 1 t (ix2 0 k) = m ((c : Thread nD τ).loc main_arg1) (ix1 k) := by
  refine Eq.trans ?_ (V_gain m c k)
  blk_ext [iblk, idx t]

/-- The shift's block: the row block's modulation row. -/
theorem blk2 (c : Dev nD) (t : Fin cfg0.N) (r : Fin 1024) (k : Fin 2048) :
    iblk m c 2 t (ix4 0 0 0 k) = m ((c : Thread nD τ).loc main_arg2)
      (ix4 0 (modRow ⟨t.val / 3 * 1024 + r.val, by have := (idx t).2.2.2.2.2.2.2.2; omega⟩) 0 ⟨k.val, by omega⟩) := by
  blk_ext [iblk, V, idx t, modRow]

/-- The scale's block: the row block's modulation row, 2048 columns on. -/
theorem blk3 (c : Dev nD) (t : Fin cfg0.N) (r : Fin 1024) (k : Fin 2048) :
    iblk m c 3 t (ix4 0 0 0 k) = m ((c : Thread nD τ).loc main_arg2)
      (ix4 0 (modRow ⟨t.val / 3 * 1024 + r.val, by have := (idx t).2.2.2.2.2.2.2.2; omega⟩) 0 ⟨2048 + k.val, by omega⟩) := by
  blk_ext [iblk, V, idx t, modRow]

/-- The block's rows are the stream's. -/
theorem rows_at (c : Dev nD) (t : Fin cfg0.N) (r : Fin 1024) (k : Fin 2048) :
    rows m c t (ix2 r k) = normed (m ((c : Thread nD τ).loc main_arg0)) (m ((c : Thread nD τ).loc main_arg1))
      (m ((c : Thread nD τ).loc main_arg2)) ⟨t.val / 3 * 1024 + r.val, by have := (idx t).2.2.2.2.2.2.2.2; omega⟩ k := by
  show tile (iblk m c 0 t) (iblk m c 1 t) (iblk m c 2 t) (iblk m c 3 t) r k = _
  unfold tile normed
  simp only [blk0 m c t, blk1 m c t, blk2 m c t r, blk3 m c t r]

/-- The weights as the host casts them. -/
def cast (w : FVec Ideal S4x2048x2880 .f32) : FVec Ideal S4x2048x2880 .bf16 := truncf .bf16 w bitsLt_bf16_f32

/-- The host's cast of the weights changes nothing. -/
theorem V_main (c : Dev nD) (j : S4x2048x2880.Idx) : V m c main_v13 j = m ((c : Thread nD τ).loc main_arg3) j := by
  have e : V m c main_v13 = cast (m ((c : Thread nD τ).loc main_arg3)) := by
    entry_read
    rfl
  rw [e]
  rfl

/-- The weights' block at the first two column blocks. -/
theorem blk4 (c : Dev nD) (t : Fin cfg0.N) (h : t.val % 3 ≤ 1) (k : Fin 2048) (l : Fin 1024) :
    X0_4 m c t (ix3 0 k l) = m ((c : Thread nD τ).loc main_arg3) (ix3 0 k ⟨t.val % 3 * 1024 + l.val, by omega⟩) := by
  unfold X0_4 Pipeline.Window.fill
  rw [dif_pos (moved0_4 t _)]
  refine Eq.trans ?_ (V_main m c _)
  blk_ext [iblk, idx t]

/-- The laid out columns' block. -/
theorem blk5 (c : Dev nD) (t : Fin cfg0.N) (k : Fin 2048) (l : Fin 1024) :
    iblk m c 5 t (ix3 0 k l) = V m c main_v12 (ix3 0 k l) := by
  blk_ext [iblk, idx t]

end Kernel

end Cert.InProjValue

end

end
-- ==== Proof.InProjHost.lean ====
/-
  The input projection's result arrays: the columns that the host lays out, and the two arrays after the run.
-/
module

public import proofs.«01_k».proof.Proof.InProjBlocks
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.InProjValue

open Idealize.ShloMosaic Idealize.ShloMosaic.TcCoe Idealize.SL.Sem
open Idealize.ShloMosaic.Pipeline (Dat)

/-- The column that a rotary key's column is paired with: the other half of its axis, 16 columns away. -/
def partner (e : Fin 64) : Fin 64 := if h : e.val % 32 < 16 then ⟨e.val + 16, by omega⟩ else ⟨e.val - 16, by omega⟩

section Kernel
open Cert.InProjIdeal Cert.InProjIdeal.Gen

variable (m : (ℓ : Loc nD τ sig) → Buf (Elt Ideal) ℓ)

/-- The index of each rotary column's partner, as the host prepares it. -/
def perm : IVec S64x1 32 :=
  broadcastInDim S64x1 ![0] bcast_S64_S64x1_0 (select (cmpi .slt (fun i => lit0 (S64.rowMajor i) : IVec S64 32)
    (broadcastInDim S64 ![] bcast_S_S64 (constantI S_ 32 0#32)))
    (addi (fun i => lit0 (S64.rowMajor i) : IVec S64 32) (broadcastInDim S64 ![] bcast_S_S64 (constantI S_ 32 64#32)))
    (fun i => lit0 (S64.rowMajor i) : IVec S64 32))

/-- Read as a number, clamped to the columns, it is the partner's. -/
theorem perm_at (e : Fin 64) : min (perm (ix2 e 0)).toInt.toNat 63 = (partner e).val := by
  have h : ∀ e : Fin 64, min (Scalar.select (IntOp.cmpi CmpIPredicate.slt (lit0 (S64.rowMajor (ix1 e))) 0#32)
      (IntOp.addi (lit0 (S64.rowMajor (ix1 e))) 64#32) (lit0 (S64.rowMajor (ix1 e)))).toInt.toNat 63 = (partner e).val := by
    decide +kernel
  refine Eq.trans ?_ (h e)
  pointwise [perm]

/-- The gather along the columns reads each column's partner. -/
theorem gather_at (x : FVec Ideal S4x2048x64 .f32) (a : Fin 4) (k : Fin 2048) (e : Fin 64) :
    Host.gather gather_S4x2048x64_S64x1_S4x2048x64_01_2_n_n_2_1_420481 x perm (ix3 a k e) = x (ix3 a k (partner e)) := by
  unfold Host.gather
  congr 1
  funext b
  refine Fin.ext ?_
  show (gather_S4x2048x64_S64x1_S4x2048x64_01_2_n_n_2_1_420481).start (ix3 a k e) perm b
    + (gather_S4x2048x64_S64x1_S4x2048x64_01_2_n_n_2_1_420481).batchCoord (ix3 a k e) b
    + (gather_S4x2048x64_S64x1_S4x2048x64_01_2_n_n_2_1_420481).offCoord (ix3 a k e) b = _
  rw [GatherDims.batchCoord_eq_zero _ _ _ List.not_mem_nil]
  match b with
  | ⟨0, _⟩ =>
    have h0 : (gather_S4x2048x64_S64x1_S4x2048x64_01_2_n_n_2_1_420481).start (ix3 a k e) perm (0 : Fin 3) = 0 :=
      dif_neg (show (0 : Fin 3) ∉ [(2 : Fin 3)] by decide)
    refine (congrArg (· + 0 + (gather_S4x2048x64_S64x1_S4x2048x64_01_2_n_n_2_1_420481).offCoord (ix3 a k e) (0 : Fin 3)) h0).trans ?_
    show 0 + 0 + a.val = a.val
    omega
  | ⟨1, _⟩ =>
    have h1 : (gather_S4x2048x64_S64x1_S4x2048x64_01_2_n_n_2_1_420481).start (ix3 a k e) perm (1 : Fin 3) = 0 :=
      dif_neg (show (1 : Fin 3) ∉ [(2 : Fin 3)] by decide)
    refine (congrArg (· + 0 + (gather_S4x2048x64_S64x1_S4x2048x64_01_2_n_n_2_1_420481).offCoord (ix3 a k e) (1 : Fin 3)) h1).trans ?_
    show 0 + 0 + k.val = k.val
    omega
  | ⟨2, _⟩ =>
    rw [GatherDims.offCoord_eq_zero _ _ _ (fun h => ((GatherDims.mem_sKept _ _).mp h).1 (List.mem_singleton.mpr rfl))]
    have hsi : (gather_S4x2048x64_S64x1_S4x2048x64_01_2_n_n_2_1_420481).siIdx (ix3 a k e)
        ⟨List.idxOf (2 : Fin 3) (gather_S4x2048x64_S64x1_S4x2048x64_01_2_n_n_2_1_420481).startIndexMap,
          List.idxOf_lt_length_iff.2 (List.mem_singleton.mpr rfl)⟩ = ix2 e 0 := by
      funext b
      refine Fin.ext ?_
      match b with
      | ⟨0, _⟩ => rfl
      | ⟨1, _⟩ => rfl
    have h2 : (gather_S4x2048x64_S64x1_S4x2048x64_01_2_n_n_2_1_420481).start (ix3 a k e) perm (2 : Fin 3) = (partner e).val := by
      refine (dif_pos (show (2 : Fin 3) ∈ [(2 : Fin 3)] by decide)).trans ?_
      show min (perm ((gather_S4x2048x64_S64x1_S4x2048x64_01_2_n_n_2_1_420481).siIdx (ix3 a k e) _)).toInt.toNat 63 = (partner e).val
      rw [hsi]
      exact perm_at e
    refine (congrArg (· + 0 + 0) h2).trans ?_
    show (partner e).val + 0 + 0 = (partner e).val
    omega

/-- The columns that the host lays out: the last 512, the 256 of the compressed keys, the 64 rotary ones, their partners,
    and 128 zeros. -/
def laid (w : FVec Ideal S4x2048x2880 .f32) : FVec Ideal S4x2048x1024 .bf16 :=
  truncf .bf16 (concatenate S4x2048x1024 2
    [⟨S4x2048x512, extractStridedSlice S4x2048x512 ![0, 0, 2368] w slices_S4x2048x2880_S4x2048x512_0_0_2368⟩,
     ⟨S4x2048x256, extractStridedSlice S4x2048x256 ![0, 0, 2048] w slices_S4x2048x2880_S4x2048x256_0_0_2048⟩,
     ⟨S4x2048x64, extractStridedSlice S4x2048x64 ![0, 0, 2304] w slices_S4x2048x2880_S4x2048x64_0_0_2304⟩,
     ⟨S4x2048x64, Host.gather gather_S4x2048x64_S64x1_S4x2048x64_01_2_n_n_2_1_420481
       (extractStridedSlice S4x2048x64 ![0, 0, 2304] w slices_S4x2048x2880_S4x2048x64_0_0_2304) perm⟩,
     ⟨S4x2048x128, broadcastInDim S4x2048x128 ![] bcast_S_S4x2048x128 (constant S_ .f32 0x00000000#32)⟩]
    concatenates_S4x2048x512_S4x2048x256_S4x2048x64_S4x2048x64_S4x2048x128_S4x2048x1024_d2) bitsLt_bf16_f32

set_option maxHeartbeats 4000000 in
/-- The host lays the columns out so. -/
theorem V_laid (c : Dev nD) : V m c main_v12 = laid (m ((c : Thread nD τ).loc main_arg3)) := by
  unfold laid perm
  after_results <;> rfl

/-- The laid out weights at an entry. -/
def tailCol (w : FVec Ideal S4x2048x2880 .f32) (k : Fin 2048) (e : Fin 1024) : EReal :=
  if h : e.val < 512 then w (ix3 0 k ⟨2368 + e.val, by omega⟩)
  else if h : e.val - 512 < 256 then w (ix3 0 k ⟨2048 + (e.val - 512), by omega⟩)
  else if h : e.val - 512 - 256 < 64 then w (ix3 0 k ⟨2304 + (e.val - 512 - 256), by omega⟩)
  else if h : e.val - 512 - 256 - 64 < 64 then
    w (ix3 0 k ⟨2304 + (partner ⟨e.val - 512 - 256 - 64, h⟩).val, by omega⟩)
  else 0

/-- The host's columns at an entry. -/
theorem laid_at (w : FVec Ideal S4x2048x2880 .f32) (k : Fin 2048) (e : Fin 1024) :
    laid w (ix3 0 k e) = tailCol w k e := by
  pointwise [laid, tailCol, gather_at]

/-- The projection's columns in the order in which the layer reads them: entry `(k, l)` of the weights. -/
def col (w : FVec Ideal S4x2048x2880 .f32) (k : Fin 2048) (l : Fin 3072) : EReal :=
  if h : l.val < 2048 then w (ix3 0 k ⟨l.val, by omega⟩) else tailCol w k ⟨l.val - 2048, by omega⟩

/-- The projected rows: entry `(r, l)`. -/
def projected (x : FVec Ideal S9216x2048 .f32) (g : FVec Ideal S2048 .f32) (md : FVec Ideal S4x8x1x12288 .f32)
    (w : FVec Ideal S4x2048x2880 .f32) (r : Fin 9216) (l : Fin 3072) : EReal :=
  ∑ k : Fin 2048, normed x g md r k * col w k l

/-- A contraction of the block's rows with weights that are the columns at column block `t % 3` is the stream's. -/
theorem prod_at (c : Dev nD) (t : Fin cfg0.N) (w : FVec Ideal S1x2048x1024 .bf16) (r l : Fin 1024)
    (hw : ∀ k, w (ix3 0 k l) = col (m ((c : Thread nD τ).loc main_arg3)) k ⟨t.val % 3 * 1024 + l.val, by omega⟩) :
    prod (rows m c t) w r l = projected (m ((c : Thread nD τ).loc main_arg0)) (m ((c : Thread nD τ).loc main_arg1))
      (m ((c : Thread nD τ).loc main_arg2)) (m ((c : Thread nD τ).loc main_arg3))
      ⟨t.val / 3 * 1024 + r.val, by have := (idx t).2.2.2.2.2.2.2.2; omega⟩ ⟨t.val % 3 * 1024 + l.val, by omega⟩ := by
  unfold prod projected
  refine Finset.sum_congr rfl fun k _ => ?_
  rw [rows_at m c t r k, hw k]

/-- The weights' block holds the first two column blocks' columns. -/
theorem blk4_at (c : Dev nD) (t : Fin cfg0.N) (h1 : t.val % 3 ≤ 1) (k : Fin 2048) (l : Fin 1024) :
    X0_4 m c t (ix3 0 k l) = col (m ((c : Thread nD τ).loc main_arg3)) k ⟨t.val % 3 * 1024 + l.val, by omega⟩ := by
  rw [blk4 m c t h1 k l]
  unfold col
  rw [dif_pos (by dsimp only; omega)]

/-- The laid out columns' block holds the last column block's columns. -/
theorem blk5_at (c : Dev nD) (t : Fin cfg0.N) (h2 : t.val % 3 = 2) (k : Fin 2048) (l : Fin 1024) :
    iblk m c 5 t (ix3 0 k l) = col (m ((c : Thread nD τ).loc main_arg3)) k ⟨t.val % 3 * 1024 + l.val, by omega⟩ := by
  rw [blk5 m c t k l, V_laid m c, laid_at]
  unfold col
  rw [dif_neg (by dsimp only; omega)]
  exact congrArg _ (Fin.ext (by dsimp only; omega))

/-- The projection at equal entries. -/
theorem at_eq (x : FVec Ideal S9216x2048 .f32) (g : FVec Ideal S2048 .f32) (md : FVec Ideal S4x8x1x12288 .f32)
    (w : FVec Ideal S4x2048x2880 .f32) {r r' : Fin 9216} {l l' : Fin 3072} (hr : r.val = r'.val) (hl : l.val = l'.val) :
    projected x g md w r l = projected x g md w r' l' := by
  rw [Fin.ext hr, Fin.ext hl]

/-- The first result array after the run, entry by entry. -/
theorem final6 (c : Dev nD) : (dats m 0 c).arrAt 6 (cfgs 0).N
    = fun j : S9216x3072.Idx => projected (m ((c : Thread nD τ).loc main_arg0)) (m ((c : Thread nD τ).loc main_arg1))
        (m ((c : Thread nD τ).loc main_arg2)) (m ((c : Thread nD τ).loc main_arg3)) (j 0) (j 1) := by
  refine (dats m 0 c).arrAt_eq_of_covers 6 _ (by decide +kernel) fun t _ y => ?_
  blk_simp
  rw [after0_6]
  by_cases h1 : t.val % 3 ≤ 1
  · rw [out_main m c t h1]
    refine (prod_at m c t (X0_4 m c t) (y 0) (y 1) fun k => blk4_at m c t h1 k (y 1)).trans ?_
    refine at_eq _ _ _ _ ?_ ?_ <;> simp [idx t]
  · rw [out_tail m c t (by omega)]
    refine (prod_at m c t (iblk m c 5 t) (y 0) (y 1) fun k => blk5_at m c t (by omega) k (y 1)).trans ?_
    refine at_eq _ _ _ _ ?_ ?_ <;> simp [idx t]

/-- The second result array after the run, entry by entry: the columns from 2048 on. -/
theorem final7 (c : Dev nD) : (dats m 0 c).arrAt 7 (cfgs 0).N
    = fun j : S9216x512.Idx => projected (m ((c : Thread nD τ).loc main_arg0)) (m ((c : Thread nD τ).loc main_arg1))
        (m ((c : Thread nD τ).loc main_arg2)) (m ((c : Thread nD τ).loc main_arg3)) (j 0)
        ⟨2048 + (j 1).val, by have : (j 1).val < 512 := (j 1).isLt; omega⟩ := by
  refine (dats m 0 c).arrAt_eq_of_covers 7 _ (by decide +kernel) fun t ht y => ?_
  have h2 : t.val % 3 = 2 := (flush0_7 t).mp ht
  blk_simp
  rw [after0_7, out_u m c t h2]
  have hy : (y 1).val < 1024 := Nat.lt_trans (show (y 1).val < 512 from (y 1).isLt) (by omega)
  refine (prod_at m c t (iblk m c 5 t) (y 0) ⟨(y 1).val, hy⟩ fun k => blk5_at m c t h2 k _).trans ?_
  refine at_eq _ _ _ _ ?_ ?_
  · simp [idx t]
  · simp [idx t]
    omega

end Kernel

end Cert.InProjValue

end

end
-- ==== Proof.InProjValue.lean ====
/-
  The input projection, the reference's side: its two results are, entry by entry, the formulas the kernel's arrays hold.
-/
module

public import proofs.«01_k».proof.Defs
public import proofs.«01_k».proof.Proof.InProjHost
public import proofs.«01_k».proof.Proof.Gen.InProjRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.InProjValue

open Idealize.ShloMosaic Idealize.ShloMosaic.TcCoe Idealize.SL.Sem
open Idealize.ShloMosaic.Pipeline (Dat)

section Reference
open Cert.InProjRefIdeal Cert.InProjRefIdeal.Gen

/-- The reference's scale rows. -/
def scaleRef (md : FVec Ideal S4x8x1x12288 .f32) : FVec Ideal S9216x2048 .f32 :=
  concatenate S9216x2048 0 [⟨S8192x2048, (shapeCast _ (broadcastInDim S4x2048x2048 ![0, 1, 2]
    bcast_S4x1x2048_S4x2048x2048_0_1_2 (broadcastInDim S4x1x2048 ![0, 2] bcast_S4x2048_S4x1x2048_0_2
    (extractStridedSlice S4x2048 ![0, 0] (extractStridedSlice S8x2048 ![0, 2048] (shapeCast _ (extractStridedSlice
    S1x8x1x12288 ![0, 0, 0, 0] md slices_S4x8x1x12288_S1x8x1x12288_0_0_0_0) shapeCasts_S1x8x1x12288_S8x12288)
    slices_S8x12288_S8x2048_0_2048) slices_S8x2048_S4x2048_0_0))) shapeCasts_S4x2048x2048_S8192x2048)⟩, ⟨S1024x2048,
    (broadcastInDim S1024x2048 ![0, 1] bcast_S1x2048_S1024x2048_0_1 (broadcastInDim S1x2048 ![1] bcast_S2048_S1x2048_1
    (shapeCast _ (extractStridedSlice S1x2048 ![4, 0] (extractStridedSlice S8x2048 ![0, 2048] (shapeCast _
    (extractStridedSlice S1x8x1x12288 ![0, 0, 0, 0] md slices_S4x8x1x12288_S1x8x1x12288_0_0_0_0)
    shapeCasts_S1x8x1x12288_S8x12288) slices_S8x12288_S8x2048_0_2048) slices_S8x2048_S1x2048_4_0)
    shapeCasts_S1x2048_S2048)))⟩] concatenates_S8192x2048_S1024x2048_S9216x2048_d0

/-- The reference's shift rows. -/
def shiftRef (md : FVec Ideal S4x8x1x12288 .f32) : FVec Ideal S9216x2048 .f32 :=
  concatenate S9216x2048 0 [⟨S8192x2048, (shapeCast _ (broadcastInDim S4x2048x2048 ![0, 1, 2]
    bcast_S4x1x2048_S4x2048x2048_0_1_2 (broadcastInDim S4x1x2048 ![0, 2] bcast_S4x2048_S4x1x2048_0_2
    (extractStridedSlice S4x2048 ![0, 0] (extractStridedSlice S8x2048 ![0, 0] (shapeCast _ (extractStridedSlice
    S1x8x1x12288 ![0, 0, 0, 0] md slices_S4x8x1x12288_S1x8x1x12288_0_0_0_0) shapeCasts_S1x8x1x12288_S8x12288)
    slices_S8x12288_S8x2048_0_0) slices_S8x2048_S4x2048_0_0))) shapeCasts_S4x2048x2048_S8192x2048)⟩, ⟨S1024x2048,
    (broadcastInDim S1024x2048 ![0, 1] bcast_S1x2048_S1024x2048_0_1 (broadcastInDim S1x2048 ![1] bcast_S2048_S1x2048_1
    (shapeCast _ (extractStridedSlice S1x2048 ![4, 0] (extractStridedSlice S8x2048 ![0, 0] (shapeCast _
    (extractStridedSlice S1x8x1x12288 ![0, 0, 0, 0] md slices_S4x8x1x12288_S1x8x1x12288_0_0_0_0)
    shapeCasts_S1x8x1x12288_S8x12288) slices_S8x12288_S8x2048_0_0) slices_S8x2048_S1x2048_4_0)
    shapeCasts_S1x2048_S2048)))⟩] concatenates_S8192x2048_S1024x2048_S9216x2048_d0

/-- The reference's projection, over its arguments. -/
def projRef (x : FVec Ideal S9216x2048 .f32) (g : FVec Ideal S2048 .f32) (md : FVec Ideal S4x8x1x12288 .f32)
    (w : FVec Ideal S4x2048x2880 .f32) : FVec Ideal S9216x2880 .f32 :=
  Host.dotGeneral (φ₁ := .f32) (φ₂ := .f32) dot_S9216x2048_S2048x2880_S9216x2880_1_0_0_1_n_n none (addf (mulf (mulf
    (mulf x (broadcastInDim S9216x2048 ![0, 1] bcast_S9216x1_S9216x2048_0_1 (Host.rsqrt (addf (Host.divf
    (broadcastInDim S9216x1 ![0] bcast_S9216_S9216x1_0 (Host.reduceAdd (mulf x x) (constant S_ .f32 0x00000000#32)
    reducesTo_S9216x2048_S9216_d1 h_S_)) (broadcastInDim S9216x1 ![] bcast_S_S9216x1 (constant S_ .f32
    0x45000000#32))) (broadcastInDim S9216x1 ![] bcast_S_S9216x1 (constant S_ .f32 0x358637BD#32)))))) (broadcastInDim
    S9216x2048 ![0, 1] bcast_S1x2048_S9216x2048_0_1 (broadcastInDim S1x2048 ![1] bcast_S2048_S1x2048_1 g))) (addf
    (broadcastInDim S9216x2048 ![] bcast_S_S9216x2048 (constant S_ .f32 0x3F800000#32)) (scaleRef md))) (shiftRef md))
    (shapeCast _ (extractStridedSlice S1x2048x2880 ![0, 0, 0] w slices_S4x2048x2880_S1x2048x2880_0_0_0)
    shapeCasts_S1x2048x2880_S2048x2880)

/-- The reference's first result, over the projection: the columns in the order in which the layer reads them. -/
def outRef (p : FVec Ideal S9216x2880 .f32) : FVec Ideal S9216x3072 .bf16 :=
  truncf .bf16 ((concatenate S9216x3072 1 [⟨S9216x2048, ((extractStridedSlice S9216x2048 ![0, 0] p
    slices_S9216x2880_S9216x2048_0_0) : FVec Ideal S9216x2048 .f32)⟩, ⟨S9216x512,
    ((extractStridedSlice S9216x512 ![0, 320] (extractStridedSlice S9216x832 ![0, 2048] p
    slices_S9216x2880_S9216x832_0_2048) slices_S9216x832_S9216x512_0_320) : FVec Ideal S9216x512 .f32)⟩, ⟨S9216x256, ((extractStridedSlice S9216x256 ![0, 0] (extractStridedSlice S9216x832 ![0, 2048] p
    slices_S9216x2880_S9216x832_0_2048) slices_S9216x832_S9216x256_0_0) : FVec Ideal S9216x256 .f32)⟩, ⟨S9216x64, ((extractStridedSlice S9216x64 ![0, 256] (extractStridedSlice S9216x832 ![0, 2048] p
    slices_S9216x2880_S9216x832_0_2048) slices_S9216x832_S9216x64_0_256) : FVec Ideal S9216x64 .f32)⟩, ⟨S9216x64, ((shapeCast _ (concatenate S9216x2x2x16 2 [⟨S9216x2x1x16, (extractStridedSlice S9216x2x1x16
    ![0, 0, 1, 0] (shapeCast _ (extractStridedSlice S9216x64 ![0, 256] (extractStridedSlice S9216x832 ![0, 2048] p
    slices_S9216x2880_S9216x832_0_2048) slices_S9216x832_S9216x64_0_256) shapeCasts_S9216x64_S9216x2x2x16)
    slices_S9216x2x2x16_S9216x2x1x16_0_0_1_0)⟩, ⟨S9216x2x1x16, (extractStridedSlice S9216x2x1x16 ![0, 0, 0, 0]
    (shapeCast _ (extractStridedSlice S9216x64 ![0, 256] (extractStridedSlice S9216x832 ![0, 2048] p
    slices_S9216x2880_S9216x832_0_2048) slices_S9216x832_S9216x64_0_256) shapeCasts_S9216x64_S9216x2x2x16)
    slices_S9216x2x2x16_S9216x2x1x16_0_0_0_0)⟩] concatenates_S9216x2x1x16_S9216x2x1x16_S9216x2x2x16_d2)
    shapeCasts_S9216x2x2x16_S9216x64) : FVec Ideal S9216x64 .f32)⟩, ⟨S9216x128,
    ((broadcastInDim S9216x128 ![] bcast_S_S9216x128 (constant S_ .f32 0x00000000#32)) : FVec Ideal S9216x128 .f32)⟩]
    concatenates_S9216x2048_S9216x512_S9216x256_S9216x64_S9216x64_S9216x128_S9216x3072_d1 : FVec Ideal S9216x3072 .f32)) bitsLt_bf16_f32

/-- The scale rows at an entry. -/
theorem scaleRef_at (md : FVec Ideal S4x8x1x12288 .f32) (r : Fin 9216) (k : Fin 2048) :
    scaleRef md (ix2 r k) = md (ix4 0 (modRow r) 0 ⟨2048 + k.val, by omega⟩) := by
  pointwise [scaleRef]
  by_cases h : (r : ℕ) < 8192
  · rw [dif_pos h]; blk_ext [modRow]
  · rw [dif_neg h]; blk_ext [modRow]

/-- The shift rows at an entry. -/
theorem shiftRef_at (md : FVec Ideal S4x8x1x12288 .f32) (r : Fin 9216) (k : Fin 2048) :
    shiftRef md (ix2 r k) = md (ix4 0 (modRow r) 0 ⟨k.val, by omega⟩) := by
  pointwise [shiftRef]
  by_cases h : (r : ℕ) < 8192
  · rw [dif_pos h]; blk_ext [modRow]
  · rw [dif_neg h]; blk_ext [modRow]

/-- The projection at an entry. -/
theorem projRef_at (x : FVec Ideal S9216x2048 .f32) (g : FVec Ideal S2048 .f32) (md : FVec Ideal S4x8x1x12288 .f32)
    (w : FVec Ideal S4x2048x2880 .f32) (r : Fin 9216) (l : Fin 2880) :
    projRef x g md w (ix2 r l) = ∑ k : Fin 2048, normed x g md r k * w (ix3 0 k l) := by
  pointwise [projRef, normed, scaleRef_at, shiftRef_at]

/-- The weights at equal columns. -/
theorem entry_eq (w : FVec Ideal S4x2048x2880 .f32) (k : Fin 2048) {a b : Fin 2880} (h : a.val = b.val) :
    w (ix3 0 k a) = w (ix3 0 k b) := by
  rw [Fin.ext h]

/-- The partner of a column in its axis's first half. -/
theorem partner_lo (e : Fin 64) (h : e.val % 32 < 16) : (partner e).val = e.val + 16 := by
  unfold partner
  rw [dif_pos h]

/-- The partner of a column in its axis's second half. -/
theorem partner_hi (e : Fin 64) (h : ¬e.val % 32 < 16) : (partner e).val = e.val - 16 := by
  unfold partner
  rw [dif_neg h]

section Columns
variable (w : FVec Ideal S4x2048x2880 .f32) (k : Fin 2048) (e : Fin 1024)

/-- The laid out columns, piece by piece: the last 512. -/
theorem tailCol_0 (h : e.val < 512) : tailCol w k e = w (ix3 0 k ⟨2368 + e.val, by omega⟩) := by
  unfold tailCol
  rw [dif_pos h]

/-- The 256 of the compressed keys. -/
theorem tailCol_1 (h : 512 ≤ e.val) (h' : e.val < 768) : tailCol w k e = w (ix3 0 k ⟨1536 + e.val, by omega⟩) := by
  unfold tailCol
  rw [dif_neg (by omega), dif_pos (by omega)]
  exact entry_eq w k (by dsimp only; omega)

/-- The 64 rotary ones. -/
theorem tailCol_2 (h : 768 ≤ e.val) (h' : e.val < 832) : tailCol w k e = w (ix3 0 k ⟨1536 + e.val, by omega⟩) := by
  unfold tailCol
  rw [dif_neg (by omega), dif_neg (by omega), dif_pos (by omega)]
  exact entry_eq w k (by dsimp only; omega)

/-- The partners of an axis's first half. -/
theorem tailCol_3 (h : 832 ≤ e.val) (h' : e.val < 896) (h5 : e.val / 16 % 2 = 0) :
    tailCol w k e = w (ix3 0 k ⟨1488 + e.val, by omega⟩) := by
  unfold tailCol
  rw [dif_neg (by omega), dif_neg (by omega), dif_neg (by omega), dif_pos (by omega)]
  have hp := partner_lo ⟨e.val - 512 - 256 - 64, by omega⟩ (by dsimp only; omega)
  exact entry_eq w k (by dsimp only at hp ⊢; omega)

/-- The partners of an axis's second half. -/
theorem tailCol_4 (h : 832 ≤ e.val) (h' : e.val < 896) (h5 : ¬e.val / 16 % 2 = 0) :
    tailCol w k e = w (ix3 0 k ⟨1456 + e.val, by omega⟩) := by
  unfold tailCol
  rw [dif_neg (by omega), dif_neg (by omega), dif_neg (by omega), dif_pos (by omega)]
  have hp := partner_hi ⟨e.val - 512 - 256 - 64, by omega⟩ (by dsimp only; omega)
  exact entry_eq w k (by dsimp only at hp ⊢; omega)

/-- The zeros. -/
theorem tailCol_5 (h : 896 ≤ e.val) : tailCol w k e = 0 := by
  unfold tailCol
  rw [dif_neg (by omega), dif_neg (by omega), dif_neg (by omega), dif_neg (by omega)]
end Columns

/-- The first result at an entry, when the projection's entries are contractions of one row with the weights: the same
    row's contraction with the columns in their order. -/
theorem outRef_at (p : FVec Ideal S9216x2880 .f32) (f : Fin 2048 → EReal) (w : FVec Ideal S4x2048x2880 .f32) (r : Fin 9216)
    (hp : ∀ l, p (ix2 r l) = ∑ k : Fin 2048, f k * w (ix3 0 k l)) (l : Fin 3072) :
    outRef p (ix2 r l) = ∑ k : Fin 2048, f k * col w k l := by
  pointwise [outRef]
  simp only [hp]
  by_cases h0 : (l : ℕ) < 2048
  · rw [dif_pos h0]
    refine Finset.sum_congr rfl fun k _ => congrArg (f k * ·) ?_
    unfold col
    rw [dif_pos h0]
  rw [dif_neg h0]
  have e : ∀ k, col w k l = tailCol w k ⟨l.val - 2048, by omega⟩ := fun k => by
    unfold col
    rw [dif_neg h0]
  simp only [e]
  by_cases h1 : (l : ℕ) - 2048 < 512
  · rw [dif_pos h1]
    refine Finset.sum_congr rfl fun k _ => congrArg (f k * ·) ?_
    exact (entry_eq w k (by dsimp only; omega)).trans (tailCol_0 w k ⟨l.val - 2048, by omega⟩ (by dsimp only; omega)).symm
  rw [dif_neg h1]
  by_cases h2 : (l : ℕ) - 2048 - 512 < 256
  · rw [dif_pos h2]
    refine Finset.sum_congr rfl fun k _ => congrArg (f k * ·) ?_
    exact (entry_eq w k (by dsimp only; omega)).trans (tailCol_1 w k ⟨l.val - 2048, by omega⟩ (by dsimp only; omega) (by dsimp only; omega)).symm
  rw [dif_neg h2]
  by_cases h3 : (l : ℕ) - 2048 - 512 - 256 < 64
  · rw [dif_pos h3]
    refine Finset.sum_congr rfl fun k _ => congrArg (f k * ·) ?_
    exact (entry_eq w k (by dsimp only; omega)).trans (tailCol_2 w k ⟨l.val - 2048, by omega⟩ (by dsimp only; omega) (by dsimp only; omega)).symm
  rw [dif_neg h3]
  by_cases h4 : (l : ℕ) - 2048 - 512 - 256 - 64 < 64
  · rw [dif_pos h4]
    by_cases h5 : ((l : ℕ) - 2048 - 512 - 256 - 64) / 16 % 2 < 1
    · rw [dif_pos h5]
      refine Finset.sum_congr rfl fun k _ => congrArg (f k * ·) ?_
      exact (entry_eq w k (by dsimp only; omega)).trans (tailCol_3 w k ⟨l.val - 2048, by omega⟩ (by dsimp only; omega) (by dsimp only; omega) (by dsimp only; omega)).symm
    · rw [dif_neg h5]
      refine Finset.sum_congr rfl fun k _ => congrArg (f k * ·) ?_
      exact (entry_eq w k (by dsimp only; omega)).trans (tailCol_4 w k ⟨l.val - 2048, by omega⟩ (by dsimp only; omega) (by dsimp only; omega) (by dsimp only; omega)).symm
  rw [dif_neg h4]
  refine (Finset.sum_eq_zero fun k _ => ?_).symm
  exact (congrArg (f k * ·) (tailCol_5 w k ⟨l.val - 2048, by omega⟩ (by dsimp only; omega))).trans (mul_zero _)

/-- The first result from equal arguments. -/
theorem outRef_eq {x x' : FVec Ideal S9216x2048 .f32} {g g' : FVec Ideal S2048 .f32} {md md' : FVec Ideal S4x8x1x12288 .f32}
    {w w' : FVec Ideal S4x2048x2880 .f32} (hx : x' = x) (hg : g' = g) (hmd : md' = md) (hw : w' = w) (r : Fin 9216)
    (l : Fin 3072) : outRef (projRef x' g' md' w') (ix2 r l) = projected x g md w r l := by
  subst hx hg hmd hw
  exact outRef_at _ (normed x' g' md' r) w' r (projRef_at x' g' md' w' r) l

/-- The second result, the projection's last 512 columns. -/
def uRef (p : FVec Ideal S9216x2880 .f32) : FVec Ideal S9216x512 .f32 :=
  extractStridedSlice S9216x512 ![0, 320] (extractStridedSlice S9216x832 ![0, 2048] p slices_S9216x2880_S9216x832_0_2048)
    slices_S9216x832_S9216x512_0_320

/-- The second result from equal arguments. -/
theorem uRef_eq {x x' : FVec Ideal S9216x2048 .f32} {g g' : FVec Ideal S2048 .f32} {md md' : FVec Ideal S4x8x1x12288 .f32}
    {w w' : FVec Ideal S4x2048x2880 .f32} (hx : x' = x) (hg : g' = g) (hmd : md' = md) (hw : w' = w) (r : Fin 9216)
    (l : Fin 512) : uRef (projRef x' g' md' w') (ix2 r l) = projected x g md w r ⟨2048 + l.val, by omega⟩ := by
  subst hx hg hmd hw
  pointwise [uRef]
  rw [projRef_at]
  refine Finset.sum_congr rfl fun k _ => congrArg (normed x' g' md' r k * ·) ?_
  unfold col
  rw [dif_neg (by dsimp only; omega)]
  exact (entry_eq w' k (by dsimp only; omega)).trans (tailCol_0 w' k ⟨2048 + l.val - 2048, by omega⟩ (by dsimp only; omega)).symm

end Reference

/-- The input projection's value claim: from equal arguments the kernel and the reference leave equal result arrays. -/
theorem algebraic : Cert.algebraic_InProjIdeal_InProjRefIdeal := by
  pair_intro
  · run_from Cert.InProjIdeal.Gen.run_main m g
  · run_from Cert.InProjRefIdeal.Value.run m' g'
    · rw [final6 m c]
      funext j
      idx_vars j
      obtain ⟨h0, h1, h2, h3⟩ := hagree c
      exact outRef_eq h0 h1 h2 h3 j0 j1
    · rw [final7 m c]
      funext j
      idx_vars j
      obtain ⟨h0, h1, h2, h3⟩ := hagree c
      exact uRef_eq rfl rfl h2 rfl j0 j1

end Cert.InProjValue

end

end
-- ==== Proof.QkvBlocks.lean ====
/-
  The projection of the queries, keys and values: blocks of 512 rows. What the body leaves in its three result blocks, from
  its two products, the rotary key's columns and the rotary tables' rows.
-/
module

public import proofs.«01_k».proof.Proof.Gen.QkvIdeal.Frame
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.QkvValue

open Idealize.ShloMosaic Idealize.ShloMosaic.TcCoe Idealize.SL.Sem
open Idealize.ShloMosaic.Pipeline (Dat)

section Kernel
open Cert.QkvIdeal Cert.QkvIdeal.Gen

/-- A row normalised over 512 columns and weighted. -/
def normed512 (x : Fin 512 → EReal) (g : Fin 512 → EReal) (k : Fin 512) : EReal :=
  x k * Ideal.rsqrt (Ideal.div (∑ k : Fin 512, x k * x k) (Ideal.ofBits .f32 0x44000000#32) + Ideal.ofBits .f32 0x358637BD#32) * g k

/-- A row normalised over 256 columns and weighted. -/
def normed256 (x : Fin 256 → EReal) (g : Fin 256 → EReal) (k : Fin 256) : EReal :=
  x k * Ideal.rsqrt (Ideal.div (∑ k : Fin 256, x k * x k) (Ideal.ofBits .f32 0x43800000#32) + Ideal.ofBits .f32 0x358637BD#32) * g k

/-- The queries' product in a block: entry `(r, l)`. -/
def qprod (x : FVec Ideal S512x512 .bf16) (g : FVec Ideal S1x512 .f32) (w : FVec Ideal S512x2048 .bf16) (r : Fin 512)
    (l : Fin 2048) : EReal :=
  ∑ k : Fin 512, normed512 (fun k => x (ix2 r k)) (fun k => g (ix2 0 k)) k * w (ix2 k l)

/-- The keys' and values' product in a block: entry `(r, l)`. -/
def kvprod (x : FVec Ideal S512x256 .bf16) (g : FVec Ideal S1x256 .f32) (w : FVec Ideal S256x2048 .bf16) (r : Fin 512)
    (l : Fin 2048) : EReal :=
  ∑ k : Fin 256, normed256 (fun k => x (ix2 r k)) (fun k => g (ix2 0 k)) k * w (ix2 k l)

variable (x0 : Vec Ideal S512x512 .bf16) (x1 : Vec Ideal S512x256 .bf16) (x2 : Vec Ideal S512x128 .bf16)
  (x3 : Vec Ideal S1x512 .f32) (x4 : Vec Ideal S1x256 .f32) (x5 : Vec Ideal S512x2048 .bf16) (x6 : Vec Ideal S256x2048 .bf16)
  (x7 : Vec Ideal S512x128 .f32) (x8 : Vec Ideal S512x128 .f32)

/-- The queries' product is what the body contracts. -/
theorem pay47_at (r : Fin 512) (l : Fin 2048) : k0_pay47 x0 x1 x2 x3 x4 x5 x6 x7 x8 (ix2 r l) = qprod x0 x3 x5 r l := by
  pointwise [k0_pay47, k0_pay3, qprod, normed512]

/-- The keys' and values' product is what the body contracts. -/
theorem pay51_at (r : Fin 512) (l : Fin 2048) : k0_pay51 x0 x1 x2 x3 x4 x5 x6 x7 x8 (ix2 r l) = kvprod x1 x4 x6 r l := by
  pointwise [k0_pay51, k0_pay50, k0_pay49, k0_pay48, k0_pay26, k0_pay25, k0_pay24, k0_pay23, kvprod, normed256]

/-- The values' block: a head's values, then ones. -/
def vOut (p : Fin 512 → Fin 2048 → EReal) (r : Fin 512) (l : Fin 2048) : EReal :=
  if h : l.val % 256 < 128 then p r ⟨1024 + l.val / 256 * 128 + l.val % 256, by omega⟩ else 1

theorem vOut_lo (p : Fin 512 → Fin 2048 → EReal) (r : Fin 512) (l : Fin 2048) (h : l.val % 256 < 128) (l' : Fin 2048)
    (e : l'.val = 1024 + l.val / 256 * 128 + l.val % 256) : p r l' = vOut p r l := by
  unfold vOut
  rw [dif_pos h]
  exact congrArg _ (Fin.ext e)

theorem vOut_hi (p : Fin 512 → Fin 2048 → EReal) (r : Fin 512) (l : Fin 2048) (h : ¬ l.val % 256 < 128) : 1 = vOut p r l := by
  unfold vOut
  rw [dif_neg h]

/-- The body leaves the values' block so. -/
theorem out11 (r : Fin 512) (l : Fin 2048) : out0_11 x0 x1 x2 x3 x4 x5 x6 x7 x8 (ix2 r l) = vOut (kvprod x1 x4 x6) r l := by
  unfold out0_11
  generalize hy : (ix2 r l : S512x2048.Idx) = y
  canon_tiles z h
  all_goals
    subst hy
    idx_vars z
    obtain rfl : r = z0 := Fin.ext h0
    replace h1 : l.val = _ := h1
    pointwise [k0_pay53, k0_pay36, k0_pay37, k0_pay38, k0_pay39, k0_pay40, k0_pay41, k0_pay42, k0_pay43, k0_pay44, pay51_at]
    first
    | exact vOut_hi _ _ _ (by omega)
    | exact vOut_lo _ _ _ (by omega) _ (by first | omega | (dsimp only; omega))

/-- The rotary key turned: entry `(r, e)` of 128, the columns after the first 64 being the partners of those. -/
def turned (x : Fin 512 → Fin 128 → EReal) (cs sn : FVec Ideal S512x128 .f32) (r : Fin 512) (e : Fin 128) : EReal :=
  x r e * cs (ix2 r e) + x r ⟨(e.val + 128 - 64) % 128, by omega⟩ * sn (ix2 r e)

/-- What the body computes for the rotary key. -/
theorem pay52_at (r : Fin 512) (e : Fin 128) :
    k0_pay52 x0 x1 x2 x3 x4 x5 x6 x7 x8 (ix2 r e) = turned (fun r e => x2 (ix2 r e)) x7 x8 r e := by
  pointwise [k0_pay52, k0_pay27, k0_pay45, k0_pay46, k0_pay1, k0_pay2, turned]

/-- The keys' block: a head's keys, then the rotary key turned. -/
def kOut (p : Fin 512 → Fin 2048 → EReal) (x : FVec Ideal S512x128 .bf16) (cs sn : FVec Ideal S512x128 .f32) (r : Fin 512)
    (l : Fin 2048) : EReal :=
  if h : l.val % 256 < 128 then p r ⟨l.val / 256 * 128 + l.val % 256, by omega⟩
  else turned (fun r e => x (ix2 r e)) cs sn r ⟨l.val % 256 - 128, by omega⟩

theorem kOut_lo (p : Fin 512 → Fin 2048 → EReal) (x : FVec Ideal S512x128 .bf16) (cs sn : FVec Ideal S512x128 .f32)
    (r : Fin 512) (l : Fin 2048) (h : l.val % 256 < 128) (l' : Fin 2048)
    (e : l'.val = l.val / 256 * 128 + l.val % 256) : p r l' = kOut p x cs sn r l := by
  unfold kOut
  rw [dif_pos h]
  exact congrArg _ (Fin.ext e)

theorem kOut_hi (p : Fin 512 → Fin 2048 → EReal) (x : FVec Ideal S512x128 .bf16) (cs sn : FVec Ideal S512x128 .f32)
    (r : Fin 512) (l : Fin 2048) (h : ¬ l.val % 256 < 128) (l' : Fin 128) (e : l'.val = l.val % 256 - 128) :
    turned (fun r e => x (ix2 r e)) cs sn r l' = kOut p x cs sn r l := by
  unfold kOut
  rw [dif_neg h]
  exact congrArg _ (Fin.ext e)

theorem pay27_eq : k0_pay27 (k0_pay45 x0 x1 x2 x3 x4 x5 x6 x7 x8) (k0_pay46 x0 x1 x2 x3 x4 x5 x6 x7 x8) (View.ld x2 r0_0)
    = k0_pay52 x0 x1 x2 x3 x4 x5 x6 x7 x8 := rfl

theorem pay26_eq : k0_pay26 (k0_pay48 x0 x1 x2 x3 x4 x5 x6 x7 x8) (k0_pay49 x0 x1 x2 x3 x4 x5 x6 x7 x8)
    (k0_pay50 x0 x1 x2 x3 x4 x5 x6 x7 x8) (View.ld x6 r0_22) = k0_pay51 x0 x1 x2 x3 x4 x5 x6 x7 x8 := rfl

/-- The body leaves the keys' block so. -/
theorem out10 (r : Fin 512) (l : Fin 2048) :
    out0_10 x0 x1 x2 x3 x4 x5 x6 x7 x8 (ix2 r l) = kOut (kvprod x1 x4 x6) x2 x7 x8 r l := by
  unfold out0_10
  simp only [pay27_eq, k0_pay28, k0_pay29, k0_pay30, k0_pay31, pay26_eq]
  generalize hy : (ix2 r l : S512x2048.Idx) = y
  canon_tiles z h
  all_goals
    subst hy
    idx_vars z
    obtain rfl : r = z0 := Fin.ext h0
    replace h1 : l.val = _ := h1
    pointwise [k0_pay32, k0_pay33, k0_pay34, k0_pay35, pay51_at, pay52_at]
    first
    | exact kOut_lo (kvprod x1 x4 x6) x2 x7 x8 r l (by omega) _ (by first | omega | (dsimp only; omega))
    | exact kOut_hi (kvprod x1 x4 x6) x2 x7 x8 r l (by omega) _ (by first | omega | (dsimp only; omega))

/-- The factor on the queries. -/
abbrev scale : EReal := Ideal.ofBits .f32 0x3DD53B95#32

/-- The queries' block: a head's queries, then its rotary columns turned, all scaled. -/
def qOut (p : Fin 512 → Fin 2048 → EReal) (cs sn : FVec Ideal S512x128 .f32) (r : Fin 512) (l : Fin 2048) : EReal :=
  if h : l.val % 256 < 128 then p r l * scale
  else turned (fun r e => p r ⟨l.val / 256 * 256 + 128 + e.val, by omega⟩) cs sn r ⟨l.val % 256 - 128, by omega⟩ * scale

theorem qOut_lo (p : Fin 512 → Fin 2048 → EReal) (cs sn : FVec Ideal S512x128 .f32)
    (r : Fin 512) (l : Fin 2048) (h : l.val % 256 < 128) (l' : Fin 2048) (e : l'.val = l.val) :
    p r l' * scale = qOut p cs sn r l := by
  unfold qOut
  rw [dif_pos h, Fin.ext e]

theorem qOut_hi (p : Fin 512 → Fin 2048 → EReal) (cs sn : FVec Ideal S512x128 .f32)
    (r : Fin 512) (l : Fin 2048) (h : ¬ l.val % 256 < 128) (a b : Fin 2048) (l' : Fin 128)
    (el : l'.val = l.val % 256 - 128) (ea : a.val = l.val / 256 * 256 + 128 + l'.val)
    (eb : b.val = l.val / 256 * 256 + 128 + (l'.val + 128 - 64) % 128) :
    (p r a * cs (ix2 r l') + p r b * sn (ix2 r l')) * scale = qOut p cs sn r l := by
  unfold qOut turned
  rw [dif_neg h]
  rw [show l' = (⟨l.val % 256 - 128, by omega⟩ : Fin 128) from Fin.ext el]
  refine congrArg (· * scale) (congrArg₂ (· + ·) (congrArg (· * _) (congrArg _ (Fin.ext ?_)))
    (congrArg (· * _) (congrArg _ (Fin.ext ?_))))
  · dsimp only; omega
  · dsimp only; omega

theorem pay3_at (r : Fin 512) (l : Fin 2048) : k0_pay3 (View.ld x0 r0_1) (View.ld x3 r0_2) (View.ld x5 r0_3) (ix2 r l)
    = qprod x0 x3 x5 r l := by
  pointwise [k0_pay3, qprod, normed512]

/-- The body leaves the queries' block so. -/
theorem out9 (r : Fin 512) (l : Fin 2048) :
    out0_9 x0 x1 x2 x3 x4 x5 x6 x7 x8 (ix2 r l) = qOut (qprod x0 x3 x5) x7 x8 r l := by
  unfold out0_9
  generalize hy : (ix2 r l : S512x2048.Idx) = y
  canon_tiles z h
  all_goals
    subst hy
    idx_vars z
    obtain rfl : r = z0 := Fin.ext h0
    replace h1 : l.val = _ := h1
    pointwise [k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay45, k0_pay46, k0_pay1, k0_pay2,
      pay47_at, pay3_at]
    first
    | exact qOut_lo _ _ _ _ _ (by omega) _ (by first | omega | (dsimp only; omega))
    | (refine qOut_hi (qprod x0 x3 x5) x7 x8 r l (by omega) _ _ _ ?_ ?_ ?_
       · first | omega | (dsimp only; omega)
       · first | omega | (dsimp only; omega)
       · first | omega | (dsimp only; omega))
end Kernel

end Cert.QkvValue

end

end
-- ==== Proof.QkvHost.lean ====
/-
  What the host prepares for the projection of the queries, keys and values: the columns that the call reads of the input
  projection, the two weights laid out head by head, and the rotary tables.
-/
module

public import proofs.«01_k».proof.Proof.QkvBlocks

@[expose] public section

set_option maxRecDepth 16384

noncomputable section

namespace Cert.QkvValue

open Idealize.ShloMosaic Idealize.ShloMosaic.TcCoe Idealize.SL.Sem
open Idealize.ShloMosaic.Pipeline (Dat)

/-- The column that a rotary column is paired with: the other half of its axis, 16 columns away. -/
def partner (e : Fin 64) : Fin 64 := if h : e.val % 32 < 16 then ⟨e.val + 16, by omega⟩ else ⟨e.val - 16, by omega⟩

theorem partner_lo (e : Fin 64) (h : e.val % 32 < 16) : (partner e).val = e.val + 16 := by
  unfold partner
  rw [dif_pos h]

theorem partner_hi (e : Fin 64) (h : ¬ e.val % 32 < 16) : (partner e).val = e.val - 16 := by
  unfold partner
  rw [dif_neg h]

section Kernel
open Cert.QkvIdeal Cert.QkvIdeal.Gen

variable (m : (ℓ : Loc nD τ sig) → Buf (Elt Ideal) ℓ)

/-- The index of each rotary column's partner, as the host prepares it. -/
def perm : IVec S64x1 32 :=
  broadcastInDim S64x1 ![0] bcast_S64_S64x1_0 (select (cmpi .slt (fun i => lit0 (S64.rowMajor i) : IVec S64 32)
    (broadcastInDim S64 ![] bcast_S_S64 (constantI S_ 32 0#32)))
    (addi (fun i => lit0 (S64.rowMajor i) : IVec S64 32) (broadcastInDim S64 ![] bcast_S_S64 (constantI S_ 32 64#32)))
    (fun i => lit0 (S64.rowMajor i) : IVec S64 32))

/-- The queries' weights, each head followed by its rotary columns' partners. -/
def wqLaid (w : FVec Ideal S512x1536 .f32) : FVec Ideal S512x2048 .bf16 :=
  truncf .bf16 (shapeCast S512x2048 (concatenate S512x8x256 2
    [⟨S512x8x192, shapeCast S512x8x192 w shapeCasts_S512x1536_S512x8x192⟩,
     ⟨S512x8x64, Host.gather gather_S512x8x64_S64x1_S512x8x64_01_2_n_n_2_1_51281
       (extractStridedSlice S512x8x64 ![0, 0, 128] (shapeCast S512x8x192 w shapeCasts_S512x1536_S512x8x192)
         slices_S512x8x192_S512x8x64_0_0_128) perm⟩]
    concatenates_S512x8x192_S512x8x64_S512x8x256_d2) shapeCasts_S512x8x256_S512x2048) bitsLt_bf16_f32

/-- The keys' and values' weights, all heads' keys before all heads' values. -/
def wkvLaid (w : FVec Ideal S256x2048 .f32) : FVec Ideal S256x2048 .bf16 :=
  truncf .bf16 (concatenate S256x2048 1
    [⟨S256x1024, shapeCast S256x1024 (extractStridedSlice S256x8x128 ![0, 0, 0]
       (shapeCast S256x8x256 w shapeCasts_S256x2048_S256x8x256) slices_S256x8x256_S256x8x128_0_0_0) shapeCasts_S256x8x128_S256x1024⟩,
     ⟨S256x1024, shapeCast S256x1024 (extractStridedSlice S256x8x128 ![0, 0, 128]
       (shapeCast S256x8x256 w shapeCasts_S256x2048_S256x8x256) slices_S256x8x256_S256x8x128_0_0_128) shapeCasts_S256x8x128_S256x1024⟩]
    concatenates_S256x1024_S256x1024_S256x2048_d1) bitsLt_bf16_f32

/-- The rotary key's columns with the halves of each axis exchanged. -/
def exchanged (kr : FVec Ideal S9216x64 .bf16) : FVec Ideal S9216x64 .bf16 :=
  shapeCast S9216x64 (concatenate S9216x2x2x16 2
    [⟨S9216x2x1x16, extractStridedSlice S9216x2x1x16 ![0, 0, 1, 0] (shapeCast S9216x2x2x16 kr shapeCasts_S9216x64_S9216x2x2x16)
       slices_S9216x2x2x16_S9216x2x1x16_0_0_1_0⟩,
     ⟨S9216x2x1x16, extractStridedSlice S9216x2x1x16 ![0, 0, 0, 0] (shapeCast S9216x2x2x16 kr shapeCasts_S9216x64_S9216x2x2x16)
       slices_S9216x2x2x16_S9216x2x1x16_0_0_0_0⟩]
    concatenates_S9216x2x1x16_S9216x2x1x16_S9216x2x2x16_d2) shapeCasts_S9216x2x2x16_S9216x64

/-- The columns that the call reads of the input projection, in their places. -/
def projLaid (cq : FVec Ideal S9216x512 .bf16) (ckv : FVec Ideal S9216x256 .bf16) (kr : FVec Ideal S9216x64 .bf16) :
    FVec Ideal S9216x3072 .bf16 :=
  concatenate S9216x3072 1
    [⟨S9216x1536, broadcastInDim S9216x1536 ![] bcast_S_S9216x1536 (constant S_ .bf16 0x0000#16)⟩, ⟨S9216x512, cq⟩,
     ⟨S9216x512, broadcastInDim S9216x512 ![] bcast_S_S9216x512 (constant S_ .bf16 0x0000#16)⟩, ⟨S9216x256, ckv⟩,
     ⟨S9216x64, kr⟩, ⟨S9216x64, exchanged kr⟩,
     ⟨S9216x128, broadcastInDim S9216x128 ![] bcast_S_S9216x128 (constant S_ .bf16 0x0000#16)⟩]
    concatenates_S9216x1536_S9216x512_S9216x512_S9216x256_S9216x64_S9216x64_S9216x128_S9216x3072_d1

/-- The 16 rotary frequencies. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The rotary angles along the grid's rows, of each position and frequency. -/
def rowAng : FVec Ideal S2048x16 .f32 :=
  mulf (broadcastInDim S2048x16 ![0, 1] bcast_S2048x1_S2048x16_0_1 (broadcastInDim S2048x1 ![0] bcast_S2048_S2048x1_0
      (shapeCast S2048 (broadcastInDim S32x64 ![0] bcast_S32_S32x64_0 (sitofp .f32 (iotaInDim S32 32 0))) shapeCasts_S32x64_S2048)))
    (broadcastInDim S2048x16 ![0, 1] bcast_S1x16_S2048x16_0_1 (broadcastInDim S1x16 ![1] bcast_S16_S1x16_1 freqs))

/-- The rotary angles along the grid's columns, of each position and frequency. -/
def colAng : FVec Ideal S2048x16 .f32 :=
  mulf (broadcastInDim S2048x16 ![0, 1] bcast_S2048x1_S2048x16_0_1 (broadcastInDim S2048x1 ![0] bcast_S2048_S2048x1_0
      (shapeCast S2048 (broadcastInDim S32x64 ![0, 1] bcast_S1x64_S32x64_0_1
        (shapeCast S1x64 (sitofp .f32 (iotaInDim S64 32 0)) shapeCasts_S64_S1x64)) shapeCasts_S32x64_S2048)))
    (broadcastInDim S2048x16 ![0, 1] bcast_S1x16_S2048x16_0_1 (broadcastInDim S1x16 ![1] bcast_S16_S1x16_1 freqs))

/-- The table of cosines: the positions' rows, then 512 rows for the context, each with 64 unused columns. -/
def cosLaid (a b : FVec Ideal S2048x16 .f32) : FVec Ideal S2560x128 .f32 :=
  concatenate S2560x128 1
    [⟨S2560x64, concatenate S2560x64 0
      [⟨S2048x64, concatenate S2048x64 1 [⟨S2048x16, Host.cos a⟩, ⟨S2048x16, Host.cos a⟩, ⟨S2048x16, Host.cos b⟩,
        ⟨S2048x16, Host.cos b⟩] concatenates_S2048x16_S2048x16_S2048x16_S2048x16_S2048x64_d1⟩,
       ⟨S512x64, broadcastInDim S512x64 ![] bcast_S_S512x64 (constant S_ .f32 0x3F800000#32)⟩]
      concatenates_S2048x64_S512x64_S2560x64_d0⟩,
     ⟨S2560x64, broadcastInDim S2560x64 ![] bcast_S_S2560x64 (constant S_ .f32 0x00000000#32)⟩]
    concatenates_S2560x64_S2560x64_S2560x128_d1

/-- The table of signed sines, laid out as the cosines'. -/
def sinLaid (a b : FVec Ideal S2048x16 .f32) : FVec Ideal S2560x128 .f32 :=
  concatenate S2560x128 1
    [⟨S2560x64, concatenate S2560x64 0
      [⟨S2048x64, concatenate S2048x64 1 [⟨S2048x16, Host.negf (Host.sin a)⟩, ⟨S2048x16, Host.sin a⟩,
        ⟨S2048x16, Host.negf (Host.sin b)⟩, ⟨S2048x16, Host.sin b⟩]
        concatenates_S2048x16_S2048x16_S2048x16_S2048x16_S2048x64_d1⟩,
       ⟨S512x64, broadcastInDim S512x64 ![] bcast_S_S512x64 (constant S_ .f32 0x00000000#32)⟩]
      concatenates_S2048x64_S512x64_S2560x64_d0⟩,
     ⟨S2560x64, broadcastInDim S2560x64 ![] bcast_S_S2560x64 (constant S_ .f32 0x00000000#32)⟩]
    concatenates_S2560x64_S2560x64_S2560x128_d1

end Kernel

end Cert.QkvValue

end

end
-- ==== Proof.QkvAt.lean ====
/-
  What the host prepares for the projection of the queries, keys and values: the columns that the call reads of the input
  projection, the two weights laid out head by head, and the rotary tables.
-/
module

public import proofs.«01_k».proof.Proof.QkvHost

@[expose] public section

set_option maxRecDepth 16384

noncomputable section

namespace Cert.QkvValue

open Idealize.ShloMosaic Idealize.ShloMosaic.TcCoe Idealize.SL.Sem
open Idealize.ShloMosaic.Pipeline (Dat)

section Kernel
open Cert.QkvIdeal Cert.QkvIdeal.Gen

/-- Read as a number, clamped to the columns, it is the partner's. -/
theorem perm_at (e : Fin 64) : min (perm (ix2 e 0)).toInt.toNat 63 = (partner e).val := by
  have h : ∀ e : Fin 64, min (Scalar.select (IntOp.cmpi CmpIPredicate.slt (lit0 (S64.rowMajor (ix1 e))) 0#32)
      (IntOp.addi (lit0 (S64.rowMajor (ix1 e))) 64#32) (lit0 (S64.rowMajor (ix1 e)))).toInt.toNat 63 = (partner e).val := by
    decide +kernel
  refine Eq.trans ?_ (h e)
  pointwise [perm]

/-- The gather along the columns reads each column's partner. -/
theorem gather_at (x : FVec Ideal S512x8x64 .f32) (a : Fin 512) (k : Fin 8) (e : Fin 64) :
    Host.gather gather_S512x8x64_S64x1_S512x8x64_01_2_n_n_2_1_51281 x perm (ix3 a k e) = x (ix3 a k (partner e)) := by
  unfold Host.gather
  congr 1
  funext b
  refine Fin.ext ?_
  show (gather_S512x8x64_S64x1_S512x8x64_01_2_n_n_2_1_51281).start (ix3 a k e) perm b
    + (gather_S512x8x64_S64x1_S512x8x64_01_2_n_n_2_1_51281).batchCoord (ix3 a k e) b
    + (gather_S512x8x64_S64x1_S512x8x64_01_2_n_n_2_1_51281).offCoord (ix3 a k e) b = _
  rw [GatherDims.batchCoord_eq_zero _ _ _ List.not_mem_nil]
  match b with
  | ⟨0, _⟩ =>
    have h0 : (gather_S512x8x64_S64x1_S512x8x64_01_2_n_n_2_1_51281).start (ix3 a k e) perm (0 : Fin 3) = 0 :=
      dif_neg (show (0 : Fin 3) ∉ [(2 : Fin 3)] by decide)
    refine (congrArg (· + 0 + (gather_S512x8x64_S64x1_S512x8x64_01_2_n_n_2_1_51281).offCoord (ix3 a k e) (0 : Fin 3)) h0).trans ?_
    show 0 + 0 + a.val = a.val
    omega
  | ⟨1, _⟩ =>
    have h1 : (gather_S512x8x64_S64x1_S512x8x64_01_2_n_n_2_1_51281).start (ix3 a k e) perm (1 : Fin 3) = 0 :=
      dif_neg (show (1 : Fin 3) ∉ [(2 : Fin 3)] by decide)
    refine (congrArg (· + 0 + (gather_S512x8x64_S64x1_S512x8x64_01_2_n_n_2_1_51281).offCoord (ix3 a k e) (1 : Fin 3)) h1).trans ?_
    show 0 + 0 + k.val = k.val
    omega
  | ⟨2, _⟩ =>
    rw [GatherDims.offCoord_eq_zero _ _ _ (fun h => ((GatherDims.mem_sKept _ _).mp h).1 (List.mem_singleton.mpr rfl))]
    have hsi : (gather_S512x8x64_S64x1_S512x8x64_01_2_n_n_2_1_51281).siIdx (ix3 a k e)
        ⟨List.idxOf (2 : Fin 3) (gather_S512x8x64_S64x1_S512x8x64_01_2_n_n_2_1_51281).startIndexMap,
          List.idxOf_lt_length_iff.2 (List.mem_singleton.mpr rfl)⟩ = ix2 e 0 := by
      funext b
      refine Fin.ext ?_
      match b with
      | ⟨0, _⟩ => rfl
      | ⟨1, _⟩ => rfl
    have h2 : (gather_S512x8x64_S64x1_S512x8x64_01_2_n_n_2_1_51281).start (ix3 a k e) perm (2 : Fin 3) = (partner e).val := by
      refine (dif_pos (show (2 : Fin 3) ∈ [(2 : Fin 3)] by decide)).trans ?_
      show min (perm ((gather_S512x8x64_S64x1_S512x8x64_01_2_n_n_2_1_51281).siIdx (ix3 a k e) _)).toInt.toNat 63 = (partner e).val
      rw [hsi]
      exact perm_at e
    refine (congrArg (· + 0 + 0) h2).trans ?_
    show (partner e).val + 0 + 0 = (partner e).val
    omega

/-- The queries' laid out weights at an entry. -/
def wqCol (w : FVec Ideal S512x1536 .f32) (k : Fin 512) (l : Fin 2048) : EReal :=
  if h : l.val % 256 < 192 then w (ix2 k ⟨l.val / 256 * 192 + l.val % 256, by omega⟩)
  else w (ix2 k ⟨l.val / 256 * 192 + (128 + (partner ⟨l.val % 256 - 192, by omega⟩).val), by omega⟩)

set_option maxHeartbeats 1000000 in
/-- The queries' weights at an entry. -/
theorem wq_at (w : FVec Ideal S512x1536 .f32) (k : Fin 512) (l : Fin 2048) : wqLaid w (ix2 k l) = wqCol w k l := by
  pointwise [wqLaid, wqCol, gather_at]

set_option maxHeartbeats 1000000 in
/-- The keys' and values' weights at an entry. -/
theorem wkv_at (w : FVec Ideal S256x2048 .f32) (k : Fin 256) (l : Fin 2048) :
    wkvLaid w (ix2 k l) = if h : l.val < 1024 then w (ix2 k ⟨l.val / 128 * 256 + l.val % 128, by omega⟩)
      else w (ix2 k ⟨(l.val - 1024) / 128 * 256 + (128 + (l.val - 1024) % 128), by omega⟩) := by
  pointwise [wkvLaid]

set_option maxHeartbeats 1000000 in
/-- The exchanged columns are the partners. -/
theorem exchanged_at (kr : FVec Ideal S9216x64 .bf16) (r : Fin 9216) (e : Fin 64) :
    exchanged kr (ix2 r e) = kr (ix2 r (partner e)) := by
  pointwise [exchanged]
  by_cases h : e.val % 32 < 16
  · have hp := partner_lo e h
    rw [dif_pos (by omega)]
    exact congrArg (fun z => kr (ix2 r z)) (Fin.ext (by dsimp only <;> omega))
  · have hp := partner_hi e h
    rw [dif_neg (by omega)]
    exact congrArg (fun z => kr (ix2 r z)) (Fin.ext (by dsimp only <;> omega))

/-- The columns of the input projection at an entry. -/
def projCol (cq : FVec Ideal S9216x512 .bf16) (ckv : FVec Ideal S9216x256 .bf16) (kr : FVec Ideal S9216x64 .bf16)
    (r : Fin 9216) (l : Fin 3072) : EReal :=
  if h : l.val < 1536 then 0
  else if h : l.val - 1536 < 512 then cq (ix2 r ⟨l.val - 1536, h⟩)
  else if h : l.val - 1536 - 512 < 512 then 0
  else if h : l.val - 1536 - 512 - 512 < 256 then ckv (ix2 r ⟨l.val - 1536 - 512 - 512, h⟩)
  else if h : l.val - 1536 - 512 - 512 - 256 < 64 then kr (ix2 r ⟨l.val - 1536 - 512 - 512 - 256, h⟩)
  else if h : l.val - 1536 - 512 - 512 - 256 - 64 < 64 then
    kr (ix2 r (partner ⟨l.val - 1536 - 512 - 512 - 256 - 64, h⟩))
  else 0

set_option maxHeartbeats 1000000 in
/-- The columns at an entry. -/
theorem proj_at (cq : FVec Ideal S9216x512 .bf16) (ckv : FVec Ideal S9216x256 .bf16) (kr : FVec Ideal S9216x64 .bf16)
    (r : Fin 9216) (l : Fin 3072) : projLaid cq ckv kr (ix2 r l) = projCol cq ckv kr r l := by
  pointwise [projLaid, projCol, exchanged_at]

/-- The rotary angle of position `p` and rotary column `e`. -/
def angOf (a b : FVec Ideal S2048x16 .f32) (p : Fin 2048) (e : Fin 64) : EReal :=
  if e.val < 32 then a (ix2 p ⟨e.val % 16, by omega⟩) else b (ix2 p ⟨e.val % 16, by omega⟩)

set_option maxHeartbeats 1000000 in
/-- The table of cosines at an entry. -/
theorem cos_at (a b : FVec Ideal S2048x16 .f32) (p : Fin 2560) (e : Fin 128) :
    cosLaid a b (ix2 p e) = if h : e.val < 64 then
      (if h' : p.val < 2048 then Ideal.cos (angOf a b ⟨p.val, h'⟩ ⟨e.val, h⟩) else 1) else 0 := by
  pointwise [cosLaid, angOf]
  by_cases h1 : e.val < 64
  · by_cases h2 : p.val < 2048
    · by_cases h3 : e.val < 16
      · have h6 : e.val < 32 := by omega
        simp only [h1, h2, h3, h6, ↓reduceIte, ↓reduceDIte]
        exact congrArg (fun z => Ideal.cos (a (ix2 _ z))) (Fin.ext (by dsimp only <;> omega))
      · by_cases h4 : e.val - 16 < 16
        · have h6 : e.val < 32 := by omega
          simp only [h1, h2, h3, h4, h6, ↓reduceIte, ↓reduceDIte]
          exact congrArg (fun z => Ideal.cos (a (ix2 _ z))) (Fin.ext (by dsimp only <;> omega))
        · by_cases h5 : e.val - 16 - 16 < 16
          · have h6 : ¬ e.val < 32 := by omega
            simp only [h1, h2, h3, h4, h5, h6, ↓reduceIte, ↓reduceDIte]
            exact congrArg (fun z => Ideal.cos (b (ix2 _ z))) (Fin.ext (by dsimp only <;> omega))
          · have h6 : ¬ e.val < 32 := by omega
            simp only [h1, h2, h3, h4, h5, h6, ↓reduceIte, ↓reduceDIte]
            exact congrArg (fun z => Ideal.cos (b (ix2 _ z))) (Fin.ext (by dsimp only <;> omega))
    · simp only [h1, h2, ↓reduceIte, ↓reduceDIte]
  · simp only [h1, ↓reduceIte, ↓reduceDIte]

set_option maxHeartbeats 1000000 in
/-- The table of signed sines at an entry. -/
theorem sin_at (a b : FVec Ideal S2048x16 .f32) (p : Fin 2560) (e : Fin 128) :
    sinLaid a b (ix2 p e) = if h : e.val < 64 then
      (if h' : p.val < 2048 then
        (if e.val % 32 < 16 then -Ideal.sin (angOf a b ⟨p.val, h'⟩ ⟨e.val, h⟩)
          else Ideal.sin (angOf a b ⟨p.val, h'⟩ ⟨e.val, h⟩)) else 0) else 0 := by
  pointwise [sinLaid, angOf]
  by_cases h1 : e.val < 64
  · by_cases h2 : p.val < 2048
    · by_cases h3 : e.val < 16
      · have h6 : e.val < 32 := by omega
        have h7 : e.val % 32 < 16 := by omega
        simp only [h1, h2, h3, h6, h7, ↓reduceIte, ↓reduceDIte]
        exact congrArg (fun z => -Ideal.sin (a (ix2 _ z))) (Fin.ext (by dsimp only <;> omega))
      · by_cases h4 : e.val - 16 < 16
        · have h6 : e.val < 32 := by omega
          have h7 : ¬ e.val % 32 < 16 := by omega
          simp only [h1, h2, h3, h4, h6, h7, ↓reduceIte, ↓reduceDIte]
          exact congrArg (fun z => Ideal.sin (a (ix2 _ z))) (Fin.ext (by dsimp only <;> omega))
        · by_cases h5 : e.val - 16 - 16 < 16
          · have h6 : ¬ e.val < 32 := by omega
            have h7 : e.val % 32 < 16 := by omega
            simp only [h1, h2, h3, h4, h5, h6, h7, ↓reduceIte, ↓reduceDIte]
            exact congrArg (fun z => -Ideal.sin (b (ix2 _ z))) (Fin.ext (by dsimp only <;> omega))
          · have h6 : ¬ e.val < 32 := by omega
            have h7 : ¬ e.val % 32 < 16 := by omega
            simp only [h1, h2, h3, h4, h5, h6, h7, ↓reduceIte, ↓reduceDIte]
            exact congrArg (fun z => Ideal.sin (b (ix2 _ z))) (Fin.ext (by dsimp only <;> omega))
    · simp only [h1, h2, ↓reduceIte, ↓reduceDIte]
  · simp only [h1, ↓reduceIte, ↓reduceDIte]

end Kernel

/-- The rotation of 64 columns `f` by the angles `a` for row `r`: the latents' columns are turned with their partners, the
    context's are left. -/
def turn (f : Fin 64 → EReal) (a : Fin 2048 → Fin 64 → EReal) (r : Fin 9216) (i : Fin 64) : EReal :=
  if r.val < 8192 then
    (if i.val % 32 < 16 then
      f i * Ideal.cos (a ⟨r.val % 2048, by omega⟩ i) - f (partner i) * Ideal.sin (a ⟨r.val % 2048, by omega⟩ i)
    else f i * Ideal.cos (a ⟨r.val % 2048, by omega⟩ i) + f (partner i) * Ideal.sin (a ⟨r.val % 2048, by omega⟩ i))
  else f i

end Cert.QkvValue

end

end
-- ==== Proof.QkvEntry.lean ====
/-
  What the host prepares for the projection of the queries, keys and values: the columns that the call reads of the input
  projection, the two weights laid out head by head, and the rotary tables.
-/
module

public import proofs.«01_k».proof.Proof.QkvHost

@[expose] public section

set_option maxRecDepth 16384

noncomputable section

namespace Cert.QkvValue

open Idealize.ShloMosaic Idealize.ShloMosaic.TcCoe Idealize.SL.Sem
open Idealize.ShloMosaic.Pipeline (Dat)

section Kernel
open Cert.QkvIdeal Cert.QkvIdeal.Gen

variable (m : (ℓ : Loc nD τ sig) → Buf (Elt Ideal) ℓ)

set_option maxHeartbeats 4000000 in
/-- The call's windows find these arrays. -/
theorem V_proj (c : Dev nD) : V m c main_v8 = projLaid (m ((c : Thread nD τ).loc main_arg0)) (m ((c : Thread nD τ).loc main_arg1))
    (m ((c : Thread nD τ).loc main_arg2)) := by
  unfold projLaid exchanged
  after_results <;> rfl

set_option maxHeartbeats 4000000 in
theorem V_wq (c : Dev nD) : V m c main_v62 = wqLaid (m ((c : Thread nD τ).loc main_arg5)) := by
  unfold wqLaid perm
  after_results <;> rfl

set_option maxHeartbeats 4000000 in
theorem V_wkv (c : Dev nD) : V m c main_v69 = wkvLaid (m ((c : Thread nD τ).loc main_arg6)) := by
  unfold wkvLaid
  unfold V
  after_results <;> rfl

set_option maxHeartbeats 8000000 in
theorem V_cos (c : Dev nD) : V m c main_v49 = cosLaid rowAng colAng := by
  unfold cosLaid rowAng colAng freqs
  after_results <;> rfl

set_option maxHeartbeats 8000000 in
theorem V_sin (c : Dev nD) : V m c main_v50 = sinLaid rowAng colAng := by
  unfold sinLaid rowAng colAng freqs
  after_results <;> rfl

end Kernel

end Cert.QkvValue

end

end
-- ==== Proof.QkvFinal.lean ====
/-
  The projection of the queries, keys and values, the kernel's side: its three result arrays after the run.
-/
module

public import proofs.«01_k».proof.Proof.QkvAt
public import proofs.«01_k».proof.Proof.QkvEntry

@[expose] public section

set_option maxRecDepth 16384

noncomputable section

namespace Cert.QkvValue

open Idealize.ShloMosaic Idealize.ShloMosaic.TcCoe Idealize.SL.Sem
open Idealize.ShloMosaic.Pipeline (Dat)

section Kernel
open Cert.QkvIdeal Cert.QkvIdeal.Gen

/-- The queries' columns before the rotation: entry `(r, n)`. -/
def qlat (cq : FVec Ideal S9216x512 .bf16) (qn : FVec Ideal S512 .f32) (wq : FVec Ideal S512x1536 .f32) (r : Fin 9216)
    (n : Fin 1536) : EReal :=
  ∑ k : Fin 512, normed512 (fun k => cq (ix2 r k)) (fun k => qn (ix1 k)) k * wq (ix2 k n)

/-- The keys' and values' columns: entry `(r, n)`. -/
def kvlat (ckv : FVec Ideal S9216x256 .bf16) (kvn : FVec Ideal S256 .f32) (wkv : FVec Ideal S256x2048 .f32) (r : Fin 9216)
    (n : Fin 2048) : EReal :=
  ∑ k : Fin 256, normed256 (fun k => ckv (ix2 r k)) (fun k => kvn (ix1 k)) k * wkv (ix2 k n)

/-- The queries: a head's columns, its rotary columns turned, all scaled, then zeros. -/
def queries (cq : FVec Ideal S9216x512 .bf16) (qn : FVec Ideal S512 .f32) (wq : FVec Ideal S512x1536 .f32) (r : Fin 9216)
    (l : Fin 2048) : EReal :=
  if h : l.val % 256 < 128 then qlat cq qn wq r ⟨l.val / 256 * 192 + l.val % 256, by omega⟩ * scale
  else if h : l.val % 256 - 128 < 64 then
    turn (fun i => qlat cq qn wq r ⟨l.val / 256 * 192 + (128 + i.val), by omega⟩) (angOf rowAng colAng) r
      ⟨l.val % 256 - 128, h⟩ * scale
  else 0

/-- The keys: a head's columns, the rotary key turned, then zeros. -/
def keys (ckv : FVec Ideal S9216x256 .bf16) (kr : FVec Ideal S9216x64 .bf16) (kvn : FVec Ideal S256 .f32)
    (wkv : FVec Ideal S256x2048 .f32) (r : Fin 9216) (l : Fin 2048) : EReal :=
  if h : l.val % 256 < 128 then kvlat ckv kvn wkv r l
  else if h : l.val % 256 - 128 < 64 then
    turn (fun i => kr (ix2 r i)) (angOf rowAng colAng) r ⟨l.val % 256 - 128, h⟩
  else 0

/-- The values: a head's columns, then ones. -/
def values (ckv : FVec Ideal S9216x256 .bf16) (kvn : FVec Ideal S256 .f32) (wkv : FVec Ideal S256x2048 .f32) (r : Fin 9216)
    (l : Fin 2048) : EReal :=
  if h : l.val % 256 < 128 then kvlat ckv kvn wkv r ⟨l.val / 256 * 256 + (128 + l.val % 256), by omega⟩ else 1

variable (m : (ℓ : Loc nD τ sig) → Buf (Elt Ideal) ℓ)

/-- The windows' blocks at point `t`: the `t`-th 512 rows, the whole weights, and the tables' rows of those positions. -/
theorem idx : ∀ t : Fin cfg0.N, win0_0.index t = ![t.val, 3] ∧ win0_1.index t = ![t.val, 10] ∧ win0_2.index t = ![t.val, 22]
    ∧ win0_3.index t = ![0, 0] ∧ win0_4.index t = ![0, 0] ∧ win0_5.index t = ![0, 0] ∧ win0_6.index t = ![0, 0]
    ∧ win0_7.index t = ![if t.val < 16 then t.val % 4 else 4, 0] ∧ win0_8.index t = ![if t.val < 16 then t.val % 4 else 4, 0]
    ∧ win0_9.index t = ![t.val, 0] ∧ win0_10.index t = ![t.val, 0] ∧ win0_11.index t = ![t.val, 0] ∧ t.val < 18 :=
  (by decide +kernel : ∀ t : Fin grid0.N, _)

/-- The row of the stream that is row `p` of point `t`'s blocks. -/
def rowOf (t : Fin cfg0.N) (p : Fin 512) : Fin 9216 :=
  ⟨t.val * 512 + p.val, by have := (idx t).2.2.2.2.2.2.2.2.2.2.2.2; omega⟩

/-- The row of the tables that is row `p` of point `t`'s blocks. -/
def posOf (t : Fin cfg0.N) (p : Fin 512) : Fin 2560 :=
  ⟨(if t.val < 16 then t.val % 4 else 4) * 512 + p.val, by split <;> omega⟩

/-- The first block holds the queries' latent columns. -/
theorem blk0 (c : Dev nD) (t : Fin cfg0.N) (p k : Fin 512) :
    iblk m c 0 t (ix2 p k) = m ((c : Thread nD τ).loc main_arg0) (ix2 (rowOf t p) k) := by
  have e : iblk m c 0 t (ix2 p k) = V m c main_v8 (ix2 (rowOf t p) ⟨1536 + k.val, by omega⟩) := by
    blk_ext [iblk, idx t, rowOf]
  rw [e, V_proj m c, proj_at]
  unfold projCol
  rw [dif_neg (by dsimp only; omega), dif_pos (by dsimp only; omega)]
  exact congrArg (fun z => m ((c : Thread nD τ).loc main_arg0) (ix2 (rowOf t p) z)) (Fin.ext (by dsimp only; omega))

/-- The second block holds the keys' and values' latent columns. -/
theorem blk1 (c : Dev nD) (t : Fin cfg0.N) (p : Fin 512) (k : Fin 256) :
    iblk m c 1 t (ix2 p k) = m ((c : Thread nD τ).loc main_arg1) (ix2 (rowOf t p) k) := by
  have e : iblk m c 1 t (ix2 p k) = V m c main_v8 (ix2 (rowOf t p) ⟨2560 + k.val, by omega⟩) := by
    blk_ext [iblk, idx t, rowOf]
  rw [e, V_proj m c, proj_at]
  unfold projCol
  rw [dif_neg (by dsimp only; omega), dif_neg (by dsimp only; omega), dif_neg (by dsimp only; omega),
    dif_pos (by dsimp only; omega)]
  exact congrArg (fun z => m ((c : Thread nD τ).loc main_arg1) (ix2 (rowOf t p) z)) (Fin.ext (by dsimp only; omega))

/-- The third block's first half holds the rotary key's columns. -/
theorem blk2_lo (c : Dev nD) (t : Fin cfg0.N) (p : Fin 512) (e : Fin 128) (i : Fin 64) (h : e.val = i.val) :
    iblk m c 2 t (ix2 p e) = m ((c : Thread nD τ).loc main_arg2) (ix2 (rowOf t p) i) := by
  have e' : iblk m c 2 t (ix2 p e) = V m c main_v8 (ix2 (rowOf t p) ⟨2816 + e.val, by omega⟩) := by
    blk_ext [iblk, idx t, rowOf]
  rw [e', V_proj m c, proj_at]
  unfold projCol
  rw [dif_neg (by dsimp only; omega), dif_neg (by dsimp only; omega), dif_neg (by dsimp only; omega),
    dif_neg (by dsimp only; omega), dif_pos (by dsimp only; omega)]
  exact congrArg (fun z => m ((c : Thread nD τ).loc main_arg2) (ix2 (rowOf t p) z)) (Fin.ext (by dsimp only; omega))

/-- The third block's second half holds their partners. -/
theorem blk2_hi (c : Dev nD) (t : Fin cfg0.N) (p : Fin 512) (e : Fin 128) (i : Fin 64) (h : e.val = i.val + 64) :
    iblk m c 2 t (ix2 p e) = m ((c : Thread nD τ).loc main_arg2) (ix2 (rowOf t p) (partner i)) := by
  have e' : iblk m c 2 t (ix2 p e) = V m c main_v8 (ix2 (rowOf t p) ⟨2816 + e.val, by omega⟩) := by
    blk_ext [iblk, idx t, rowOf]
  rw [e', V_proj m c, proj_at]
  unfold projCol
  rw [dif_neg (by dsimp only; omega), dif_neg (by dsimp only; omega), dif_neg (by dsimp only; omega),
    dif_neg (by dsimp only; omega), dif_neg (by dsimp only; omega), dif_pos (by dsimp only; omega)]
  exact congrArg (fun z => m ((c : Thread nD τ).loc main_arg2) (ix2 (rowOf t p) (partner z))) (Fin.ext (by dsimp only; omega))

set_option maxHeartbeats 4000000 in
/-- The gains' windows hold the gains. -/
theorem V_gq (c : Dev nD) :
    V m c main_v70 = shapeCast S1x512 (m ((c : Thread nD τ).loc main_arg3)) shapeCasts_S512_S1x512 := by
  unfold V
  after_results <;> rfl

set_option maxHeartbeats 4000000 in
theorem V_gkv (c : Dev nD) :
    V m c main_v71 = shapeCast S1x256 (m ((c : Thread nD τ).loc main_arg4)) shapeCasts_S256_S1x256 := by
  unfold V
  after_results <;> rfl

/-- The gains' blocks. -/
theorem blk3 (c : Dev nD) (t : Fin cfg0.N) (k : Fin 512) :
    iblk m c 3 t (ix2 0 k) = m ((c : Thread nD τ).loc main_arg3) (ix1 k) := by
  have e : iblk m c 3 t (ix2 0 k) = V m c main_v70 (ix2 0 k) := by
    blk_ext [iblk, idx t]
  rw [e, V_gq m c]
  pointwise []

theorem blk4 (c : Dev nD) (t : Fin cfg0.N) (k : Fin 256) :
    iblk m c 4 t (ix2 0 k) = m ((c : Thread nD τ).loc main_arg4) (ix1 k) := by
  have e : iblk m c 4 t (ix2 0 k) = V m c main_v71 (ix2 0 k) := by
    blk_ext [iblk, idx t]
  rw [e, V_gkv m c]
  pointwise []

/-- The weights' blocks. -/
theorem blk5 (c : Dev nD) (t : Fin cfg0.N) (k : Fin 512) (l : Fin 2048) :
    iblk m c 5 t (ix2 k l) = wqCol (m ((c : Thread nD τ).loc main_arg5)) k l := by
  rw [← wq_at, ← V_wq m c]
  blk_ext [iblk, idx t]

theorem blk6 (c : Dev nD) (t : Fin cfg0.N) (k : Fin 256) (l : Fin 2048) :
    iblk m c 6 t (ix2 k l) = wkvLaid (m ((c : Thread nD τ).loc main_arg6)) (ix2 k l) := by
  rw [← V_wkv m c]
  blk_ext [iblk, idx t]

/-- The tables' blocks. -/
theorem blk7 (c : Dev nD) (t : Fin cfg0.N) (p : Fin 512) (e : Fin 128) :
    iblk m c 7 t (ix2 p e) = cosLaid rowAng colAng (ix2 (posOf t p) e) := by
  rw [← V_cos m c]
  blk_ext [iblk, idx t, posOf]

theorem blk8 (c : Dev nD) (t : Fin cfg0.N) (p : Fin 512) (e : Fin 128) :
    iblk m c 8 t (ix2 p e) = sinLaid rowAng colAng (ix2 (posOf t p) e) := by
  rw [← V_sin m c]
  blk_ext [iblk, idx t, posOf]

/-- What the body computes of 64 columns and their partners is their rotation, and zero past them. -/
theorem turned_at (c : Dev nD) (t : Fin cfg0.N) (x : Fin 512 → Fin 128 → EReal) (p : Fin 512) (f : Fin 64 → EReal)
    (hlo : ∀ (e : Fin 128) (i : Fin 64), e.val = i.val → x p e = f i)
    (hhi : ∀ (e : Fin 128) (i : Fin 64), e.val = i.val + 64 → x p e = f (partner i)) (e : Fin 128) :
    turned x (iblk m c 7 t) (iblk m c 8 t) p e
      = if h : e.val < 64 then turn f (angOf rowAng colAng) (rowOf t p) ⟨e.val, h⟩ else 0 := by
  unfold turned
  rw [blk7, blk8, cos_at, sin_at]
  have ht := (idx t).2.2.2.2.2.2.2.2.2.2.2.2
  by_cases h : e.val < 64
  · rw [hlo e ⟨e.val, h⟩ rfl, hhi ⟨(e.val + 128 - 64) % 128, by omega⟩ ⟨e.val, h⟩ (by dsimp only; omega)]
    simp only [h, ↓reduceDIte]
    unfold turn
    by_cases h1 : t.val < 16
    · have h2 : (posOf t p).val < 2048 := by
        unfold posOf
        simp only [h1, ↓reduceIte]
        omega
      have h3 : (rowOf t p).val < 8192 := by
        unfold rowOf
        dsimp only
        omega
      have e1 : (⟨(posOf t p).val, h2⟩ : Fin 2048) = ⟨(rowOf t p).val % 2048, by omega⟩ := by
        refine Fin.ext ?_
        unfold posOf rowOf
        simp only [h1, ↓reduceIte]
        omega
      simp only [h2, h3, e1, ↓reduceIte, ↓reduceDIte]
      by_cases h4 : e.val % 32 < 16
      · simp only [h4, ↓reduceIte]
        rw [mul_neg, sub_eq_add_neg]
      · simp only [h4, ↓reduceIte]
    · have h2 : ¬ (posOf t p).val < 2048 := by
        unfold posOf
        simp only [h1, ↓reduceIte]
        omega
      have h3 : ¬ (rowOf t p).val < 8192 := by
        unfold rowOf
        dsimp only
        omega
      simp only [h2, h3, ↓reduceIte, ↓reduceDIte, mul_one, mul_zero, add_zero]
  · simp only [h, ↓reduceDIte, mul_zero, add_zero]

/-- The queries' product in a block is the stream's. -/
theorem qprod_at (c : Dev nD) (t : Fin cfg0.N) (p : Fin 512) (l : Fin 2048) (n : Fin 1536)
    (h : ∀ k, wqCol (m ((c : Thread nD τ).loc main_arg5)) k l = m ((c : Thread nD τ).loc main_arg5) (ix2 k n)) :
    qprod (iblk m c 0 t) (iblk m c 3 t) (iblk m c 5 t) p l = qlat (m ((c : Thread nD τ).loc main_arg0))
      (m ((c : Thread nD τ).loc main_arg3)) (m ((c : Thread nD τ).loc main_arg5)) (rowOf t p) n := by
  unfold qprod qlat
  have e0 : (fun k : Fin 512 => iblk m c 0 t (ix2 p k)) = fun k => m ((c : Thread nD τ).loc main_arg0) (ix2 (rowOf t p) k) :=
    funext fun k => blk0 m c t p k
  have e3 : (fun k : Fin 512 => iblk m c 3 t (ix2 0 k)) = fun k => m ((c : Thread nD τ).loc main_arg3) (ix1 k) :=
    funext fun k => blk3 m c t k
  refine Finset.sum_congr rfl fun k _ => ?_
  exact congr (congrArg (· * ·) (congr (congr (congrArg normed512 e0) e3) rfl)) ((blk5 m c t k l).trans (h k))

/-- The keys' and values' product in a block is the stream's. -/
theorem kvprod_at (c : Dev nD) (t : Fin cfg0.N) (p : Fin 512) (l n : Fin 2048)
    (h : ∀ k, wkvLaid (m ((c : Thread nD τ).loc main_arg6)) (ix2 k l) = m ((c : Thread nD τ).loc main_arg6) (ix2 k n)) :
    kvprod (iblk m c 1 t) (iblk m c 4 t) (iblk m c 6 t) p l = kvlat (m ((c : Thread nD τ).loc main_arg1))
      (m ((c : Thread nD τ).loc main_arg4)) (m ((c : Thread nD τ).loc main_arg6)) (rowOf t p) n := by
  unfold kvprod kvlat
  have e0 : (fun k : Fin 256 => iblk m c 1 t (ix2 p k)) = fun k => m ((c : Thread nD τ).loc main_arg1) (ix2 (rowOf t p) k) :=
    funext fun k => blk1 m c t p k
  have e3 : (fun k : Fin 256 => iblk m c 4 t (ix2 0 k)) = fun k => m ((c : Thread nD τ).loc main_arg4) (ix1 k) :=
    funext fun k => blk4 m c t k
  refine Finset.sum_congr rfl fun k _ => ?_
  exact congr (congrArg (· * ·) (congr (congr (congrArg normed256 e0) e3) rfl)) ((blk6 m c t k l).trans (h k))

/-- The columns of the queries' weights below 192 of each 256. -/
theorem wqCol_lo (w : FVec Ideal S512x1536 .f32) (k : Fin 512) (l : Fin 2048) (n : Fin 1536) (h : l.val % 256 < 192)
    (e : n.val = l.val / 256 * 192 + l.val % 256) : wqCol w k l = w (ix2 k n) := by
  unfold wqCol
  rw [dif_pos h]
  exact congrArg (fun z => w (ix2 k z)) (Fin.ext e.symm)

/-- The columns of the queries' weights from 192 of each 256 on. -/
theorem wqCol_hi (w : FVec Ideal S512x1536 .f32) (k : Fin 512) (l : Fin 2048) (n : Fin 1536) (i : Fin 64)
    (h : l.val % 256 = 192 + i.val) (e : n.val = l.val / 256 * 192 + (128 + (partner i).val)) : wqCol w k l = w (ix2 k n) := by
  unfold wqCol
  rw [dif_neg (by omega)]
  have hi : (⟨l.val % 256 - 192, by omega⟩ : Fin 64) = i := Fin.ext (by dsimp only; omega)
  refine congrArg (fun z => w (ix2 k z)) (Fin.ext ?_)
  dsimp only
  rw [hi]
  exact e.symm

/-- The keys' columns. -/
theorem wkv_lo (w : FVec Ideal S256x2048 .f32) (k : Fin 256) (l n : Fin 2048) (h : l.val < 1024)
    (e : n.val = l.val / 128 * 256 + l.val % 128) : wkvLaid w (ix2 k l) = w (ix2 k n) := by
  rw [wkv_at, dif_pos h]
  exact congrArg (fun z => w (ix2 k z)) (Fin.ext e.symm)

/-- The values' columns. -/
theorem wkv_hi (w : FVec Ideal S256x2048 .f32) (k : Fin 256) (l n : Fin 2048) (h : ¬ l.val < 1024)
    (e : n.val = (l.val - 1024) / 128 * 256 + (128 + (l.val - 1024) % 128)) : wkvLaid w (ix2 k l) = w (ix2 k n) := by
  rw [wkv_at, dif_neg h]
  exact congrArg (fun z => w (ix2 k z)) (Fin.ext e.symm)

/-- Head `H`'s rotary columns in a block are the stream's. -/
theorem qturn_lo (c : Dev nD) (t : Fin cfg0.N) (p : Fin 512) (H : ℕ) (hH : H < 8) (e : Fin 128) (i : Fin 64)
    (he : e.val = i.val) : qprod (iblk m c 0 t) (iblk m c 3 t) (iblk m c 5 t) p ⟨H * 256 + 128 + e.val, by omega⟩
      = qlat (m ((c : Thread nD τ).loc main_arg0)) (m ((c : Thread nD τ).loc main_arg3))
        (m ((c : Thread nD τ).loc main_arg5)) (rowOf t p) ⟨H * 192 + (128 + i.val), by omega⟩ := by
  have h1 : (H * 256 + 128 + e.val) % 256 < 192 := by omega
  have h2 : H * 192 + (128 + i.val) = (H * 256 + 128 + e.val) / 256 * 192 + (H * 256 + 128 + e.val) % 256 := by omega
  exact qprod_at m c t p _ _ fun k => wqCol_lo _ k _ _ h1 h2

/-- The 64 columns after them are their partners. -/
theorem qturn_hi (c : Dev nD) (t : Fin cfg0.N) (p : Fin 512) (H : ℕ) (hH : H < 8) (e : Fin 128) (i : Fin 64)
    (he : e.val = i.val + 64) : qprod (iblk m c 0 t) (iblk m c 3 t) (iblk m c 5 t) p ⟨H * 256 + 128 + e.val, by omega⟩
      = qlat (m ((c : Thread nD τ).loc main_arg0)) (m ((c : Thread nD τ).loc main_arg3))
        (m ((c : Thread nD τ).loc main_arg5)) (rowOf t p) ⟨H * 192 + (128 + (partner i).val), by omega⟩ := by
  have h1 : (H * 256 + 128 + e.val) % 256 = 192 + i.val := by omega
  have h2 : H * 192 + (128 + (partner i).val) = (H * 256 + 128 + e.val) / 256 * 192 + (128 + (partner i).val) := by omega
  exact qprod_at m c t p _ _ fun k => wqCol_hi _ k _ _ i h1 h2

/-- The queries' block at an entry. -/
theorem q_at (c : Dev nD) (t : Fin cfg0.N) (p : Fin 512) (l : Fin 2048) :
    qOut (qprod (iblk m c 0 t) (iblk m c 3 t) (iblk m c 5 t)) (iblk m c 7 t) (iblk m c 8 t) p l
      = queries (m ((c : Thread nD τ).loc main_arg0)) (m ((c : Thread nD τ).loc main_arg3))
        (m ((c : Thread nD τ).loc main_arg5)) (rowOf t p) l := by
  unfold qOut queries
  by_cases h : l.val % 256 < 128
  · rw [dif_pos h, dif_pos h]
    refine congrArg (· * scale) (qprod_at m c t p l _ fun k => wqCol_lo _ k l _ (by omega) rfl)
  · rw [dif_neg h, dif_neg h]
    refine (congrArg (· * scale) (turned_at m c t
      (fun r e => qprod (iblk m c 0 t) (iblk m c 3 t) (iblk m c 5 t) r ⟨l.val / 256 * 256 + 128 + e.val, by omega⟩) p
      (fun i => qlat (m ((c : Thread nD τ).loc main_arg0)) (m ((c : Thread nD τ).loc main_arg3))
        (m ((c : Thread nD τ).loc main_arg5)) (rowOf t p) ⟨l.val / 256 * 192 + (128 + i.val), by omega⟩)
      (qturn_lo m c t p (l.val / 256) (by omega)) (qturn_hi m c t p (l.val / 256) (by omega)) _)).trans ?_
    dsimp only
    by_cases h2 : l.val % 256 - 128 < 64
    · rw [dif_pos h2, dif_pos h2]
    · rw [dif_neg h2, dif_neg h2, zero_mul]

/-- The keys' block at an entry. -/
theorem k_at (c : Dev nD) (t : Fin cfg0.N) (p : Fin 512) (l : Fin 2048) :
    kOut (kvprod (iblk m c 1 t) (iblk m c 4 t) (iblk m c 6 t)) (iblk m c 2 t) (iblk m c 7 t) (iblk m c 8 t) p l
      = keys (m ((c : Thread nD τ).loc main_arg1)) (m ((c : Thread nD τ).loc main_arg2))
        (m ((c : Thread nD τ).loc main_arg4)) (m ((c : Thread nD τ).loc main_arg6)) (rowOf t p) l := by
  unfold kOut keys
  by_cases h : l.val % 256 < 128
  · rw [dif_pos h, dif_pos h]
    exact kvprod_at m c t p _ _ fun k => wkv_lo _ k _ _ (by dsimp only; omega) (by dsimp only; omega)
  · rw [dif_neg h, dif_neg h]
    exact turned_at m c t (fun r e => iblk m c 2 t (ix2 r e)) p
      (fun i => m ((c : Thread nD τ).loc main_arg2) (ix2 (rowOf t p) i))
      (fun e i he => blk2_lo m c t p e i he) (fun e i he => blk2_hi m c t p e i he) _

/-- The values' block at an entry. -/
theorem v_at (c : Dev nD) (t : Fin cfg0.N) (p : Fin 512) (l : Fin 2048) :
    vOut (kvprod (iblk m c 1 t) (iblk m c 4 t) (iblk m c 6 t)) p l
      = values (m ((c : Thread nD τ).loc main_arg1))
        (m ((c : Thread nD τ).loc main_arg4)) (m ((c : Thread nD τ).loc main_arg6)) (rowOf t p) l := by
  unfold vOut values
  by_cases h : l.val % 256 < 128
  · rw [dif_pos h, dif_pos h]
    exact kvprod_at m c t p _ _ fun k => wkv_hi _ k _ _ (by dsimp only; omega) (by dsimp only; omega)
  · rw [dif_neg h, dif_neg h]

/-- A formula of rows and columns at equal entries. -/
theorem at_eq (f : Fin 9216 → Fin 2048 → EReal) {r r' : Fin 9216} {l l' : Fin 2048} (hr : r.val = r'.val)
    (hl : l.val = l'.val) : f r l = f r' l' := by
  rw [Fin.ext hr, Fin.ext hl]

/-- The queries' array after the run, entry by entry. -/
theorem final9 (c : Dev nD) : (dats m 0 c).arrAt 9 (cfgs 0).N
    = fun j : S9216x2048.Idx => queries (m ((c : Thread nD τ).loc main_arg0)) (m ((c : Thread nD τ).loc main_arg3))
        (m ((c : Thread nD τ).loc main_arg5)) (j 0) (j 1) := by
  refine (dats m 0 c).arrAt_eq_of_covers 9 _ (by decide +kernel) fun t _ y => ?_
  blk_simp
  rw [after0_9]
  have hy : (y : S512x2048.Idx) = ix2 (y 0) (y 1) := by
    funext i
    fin_cases i <;> rfl
  refine ((congrArg (out0_9 (iblk m c 0 t) (iblk m c 1 t) (iblk m c 2 t) (iblk m c 3 t) (iblk m c 4 t) (iblk m c 5 t)
    (iblk m c 6 t) (iblk m c 7 t) (iblk m c 8 t)) hy).trans ((out9 _ _ _ _ _ _ _ _ _ _ _).trans (q_at m c t (y 0) (y 1)))).trans ?_
  refine at_eq _ ?_ ?_ <;> simp [idx t, rowOf]

/-- The keys' array after the run, entry by entry. -/
theorem final10 (c : Dev nD) : (dats m 0 c).arrAt 10 (cfgs 0).N
    = fun j : S9216x2048.Idx => keys (m ((c : Thread nD τ).loc main_arg1)) (m ((c : Thread nD τ).loc main_arg2))
        (m ((c : Thread nD τ).loc main_arg4)) (m ((c : Thread nD τ).loc main_arg6)) (j 0) (j 1) := by
  refine (dats m 0 c).arrAt_eq_of_covers 10 _ (by decide +kernel) fun t _ y => ?_
  blk_simp
  rw [after0_10]
  have hy : (y : S512x2048.Idx) = ix2 (y 0) (y 1) := by
    funext i
    fin_cases i <;> rfl
  refine ((congrArg (out0_10 (iblk m c 0 t) (iblk m c 1 t) (iblk m c 2 t) (iblk m c 3 t) (iblk m c 4 t) (iblk m c 5 t)
    (iblk m c 6 t) (iblk m c 7 t) (iblk m c 8 t)) hy).trans ((out10 _ _ _ _ _ _ _ _ _ _ _).trans (k_at m c t (y 0) (y 1)))).trans ?_
  refine at_eq _ ?_ ?_ <;> simp [idx t, rowOf]

/-- The values' array after the run, entry by entry. -/
theorem final11 (c : Dev nD) : (dats m 0 c).arrAt 11 (cfgs 0).N
    = fun j : S9216x2048.Idx => values (m ((c : Thread nD τ).loc main_arg1))
        (m ((c : Thread nD τ).loc main_arg4)) (m ((c : Thread nD τ).loc main_arg6)) (j 0) (j 1) := by
  refine (dats m 0 c).arrAt_eq_of_covers 11 _ (by decide +kernel) fun t _ y => ?_
  blk_simp
  rw [after0_11]
  have hy : (y : S512x2048.Idx) = ix2 (y 0) (y 1) := by
    funext i
    fin_cases i <;> rfl
  refine ((congrArg (out0_11 (iblk m c 0 t) (iblk m c 1 t) (iblk m c 2 t) (iblk m c 3 t) (iblk m c 4 t) (iblk m c 5 t)
    (iblk m c 6 t) (iblk m c 7 t) (iblk m c 8 t)) hy).trans ((out11 _ _ _ _ _ _ _ _ _ _ _).trans (v_at m c t (y 0) (y 1)))).trans ?_
  refine at_eq _ ?_ ?_ <;> simp [idx t, rowOf]

end Kernel

end Cert.QkvValue

end

end
-- ==== Proof.QkvRead.lean ====
/-
  The reference of the projection of queries, keys and values, read entry by entry.
-/
module

public import proofs.«01_k».proof.Proof.QkvAt
public import proofs.«01_k».proof.Proof.Gen.QkvRefIdeal.Run

@[expose] public section

set_option maxRecDepth 16384

noncomputable section

namespace Cert.QkvValue

open Idealize.ShloMosaic Idealize.ShloMosaic.TcCoe Idealize.SL.Sem
open Idealize.ShloMosaic.Pipeline (Dat)

section Reference
open Cert.QkvRefIdeal Cert.QkvRefIdeal.Gen

/-- The queries' columns: normalized, projected. -/
def qRef (cq : FVec Ideal S9216x512 .bf16) (qn : FVec Ideal S512 .f32) (wq : FVec Ideal S512x1536 .f32) : FVec Ideal
    S9216x1536 .f32 :=
  Host.dotGeneral (φ₁ := .f32) (φ₂ := .f32) dot_S9216x512_S512x1536_S9216x1536_1_0_0_1_n_n none (mulf (mulf (extf .f32
    cq bitsLt_bf16_f32) (broadcastInDim S9216x512 ![0, 1] bcast_S9216x1_S9216x512_0_1 (Host.rsqrt (addf (Host.divf
    (broadcastInDim S9216x1 ![0] bcast_S9216_S9216x1_0 (Host.reduceAdd (mulf (extf .f32 cq bitsLt_bf16_f32) (extf .f32
    cq bitsLt_bf16_f32)) (constant S_ .f32 0x00000000#32) reducesTo_S9216x512_S9216_d1 h_S_)) (broadcastInDim S9216x1
    ![] bcast_S_S9216x1 (constant S_ .f32 0x44000000#32))) (broadcastInDim S9216x1 ![] bcast_S_S9216x1 (constant S_
    .f32 0x358637BD#32)))))) (broadcastInDim S9216x512 ![0, 1] bcast_S1x512_S9216x512_0_1 (broadcastInDim S1x512 ![1]
    bcast_S512_S1x512_1 qn))) wq

/-- The keys' and values' columns: normalized, projected. -/
def kvRef (ckv : FVec Ideal S9216x256 .bf16) (kvn : FVec Ideal S256 .f32) (wkv : FVec Ideal S256x2048 .f32) : FVec
    Ideal S9216x2048 .f32 :=
  Host.dotGeneral (φ₁ := .f32) (φ₂ := .f32) dot_S9216x256_S256x2048_S9216x2048_1_0_0_1_n_n none (mulf (mulf (extf .f32
    ckv bitsLt_bf16_f32) (broadcastInDim S9216x256 ![0, 1] bcast_S9216x1_S9216x256_0_1 (Host.rsqrt (addf (Host.divf
    (broadcastInDim S9216x1 ![0] bcast_S9216_S9216x1_0 (Host.reduceAdd (mulf (extf .f32 ckv bitsLt_bf16_f32) (extf
    .f32 ckv bitsLt_bf16_f32)) (constant S_ .f32 0x00000000#32) reducesTo_S9216x256_S9216_d1 h_S_)) (broadcastInDim
    S9216x1 ![] bcast_S_S9216x1 (constant S_ .f32 0x43800000#32))) (broadcastInDim S9216x1 ![] bcast_S_S9216x1
    (constant S_ .f32 0x358637BD#32)))))) (broadcastInDim S9216x256 ![0, 1] bcast_S1x256_S9216x256_0_1 (broadcastInDim
    S1x256 ![1] bcast_S256_S1x256_1 kvn))) wkv

/-- The 16 rotary frequencies. -/
def freqsRef : FVec Ideal S16 .f32 :=
  Host.powf (broadcastInDim S16 ![] bcast_S_S16 (constant S_ .f32 0x461C4000#32)) (Host.divf (Host.negf (sitofp .f32
    (iotaInDim S16 32 0))) (broadcastInDim S16 ![] bcast_S_S16 (constant S_ .f32 0x41800000#32)))

/-- The angles along the grid's rows. -/
def rowAngRef : FVec Ideal S2048x16 .f32 :=
  mulf (broadcastInDim S2048x16 ![0, 1] bcast_S2048x1_S2048x16_0_1 (broadcastInDim S2048x1 ![0] bcast_S2048_S2048x1_0
    (shapeCast _ (broadcastInDim S32x64 ![0] bcast_S32_S32x64_0 (sitofp .f32 (iotaInDim S32 32 0)))
    shapeCasts_S32x64_S2048))) (broadcastInDim S2048x16 ![0, 1] bcast_S1x16_S2048x16_0_1 (broadcastInDim S1x16 ![1]
    bcast_S16_S1x16_1 freqsRef))

/-- The angles along the grid's columns. -/
def colAngRef : FVec Ideal S2048x16 .f32 :=
  mulf (broadcastInDim S2048x16 ![0, 1] bcast_S2048x1_S2048x16_0_1 (broadcastInDim S2048x1 ![0] bcast_S2048_S2048x1_0
    (shapeCast _ (broadcastInDim S32x64 ![0, 1] bcast_S1x64_S32x64_0_1 (shapeCast _ (sitofp .f32 (iotaInDim S64 32 0))
    shapeCasts_S64_S1x64)) shapeCasts_S32x64_S2048))) (broadcastInDim S2048x16 ![0, 1] bcast_S1x16_S2048x16_0_1
    (broadcastInDim S1x16 ![1] bcast_S16_S1x16_1 freqsRef))

/-- Both axes' angles. -/
def angRef : FVec Ideal S2048x2x16 .f32 :=
  concatenate S2048x2x16 1 [⟨S2048x1x16, (broadcastInDim S2048x1x16 ![0, 2] bcast_S2048x16_S2048x1x16_0_2 rowAngRef)⟩,
    ⟨S2048x1x16, (broadcastInDim S2048x1x16 ![0, 2] bcast_S2048x16_S2048x1x16_0_2 colAngRef)⟩]
    concatenates_S2048x1x16_S2048x1x16_S2048x2x16_d1

/-- The latents' rotary columns turned, the context's as they are. -/
def rotQ (x : FVec Ideal S9216x8x64 .f32) (g : FVec Ideal S2048x2x16 .f32) : FVec Ideal S9216x8x64 .f32 :=
  concatenate S9216x8x64 0 [⟨S8192x8x64, (shapeCast _ (shapeCast _ (concatenate S4x2048x8x2x2x16 4 [⟨S4x2048x8x2x1x16,
    (broadcastInDim S4x2048x8x2x1x16 ![0, 1, 2, 3, 5] bcast_S4x2048x8x2x16_S4x2048x8x2x1x16_0_1_2_3_5 (subf (mulf
    (shapeCast _ (extractStridedSlice S4x2048x8x2x1x16 ![0, 0, 0, 0, 0, 0] (shapeCast _ (shapeCast _
    (extractStridedSlice S8192x8x64 ![0, 0, 0] x slices_S9216x8x64_S8192x8x64_0_0_0)
    shapeCasts_S8192x8x64_S4x2048x8x64) shapeCasts_S4x2048x8x64_S4x2048x8x2x2x16)
    slices_S4x2048x8x2x2x16_S4x2048x8x2x1x16_0_0_0_0_0_0) shapeCasts_S4x2048x8x2x1x16_S4x2048x8x2x16) (broadcastInDim
    S4x2048x8x2x16 ![0, 1, 2, 3, 4] bcast_S1x2048x1x2x16_S4x2048x8x2x16_0_1_2_3_4 (broadcastInDim S1x2048x1x2x16 ![1,
    2, 3, 4] bcast_S2048x1x2x16_S1x2048x1x2x16_1_2_3_4 (broadcastInDim S2048x1x2x16 ![0, 2, 3]
    bcast_S2048x2x16_S2048x1x2x16_0_2_3 (Host.cos g))))) (mulf (shapeCast _ (extractStridedSlice S4x2048x8x2x1x16 ![0,
    0, 0, 0, 1, 0] (shapeCast _ (shapeCast _ (extractStridedSlice S8192x8x64 ![0, 0, 0] x
    slices_S9216x8x64_S8192x8x64_0_0_0) shapeCasts_S8192x8x64_S4x2048x8x64) shapeCasts_S4x2048x8x64_S4x2048x8x2x2x16)
    slices_S4x2048x8x2x2x16_S4x2048x8x2x1x16_0_0_0_0_1_0) shapeCasts_S4x2048x8x2x1x16_S4x2048x8x2x16) (broadcastInDim
    S4x2048x8x2x16 ![0, 1, 2, 3, 4] bcast_S1x2048x1x2x16_S4x2048x8x2x16_0_1_2_3_4 (broadcastInDim S1x2048x1x2x16 ![1,
    2, 3, 4] bcast_S2048x1x2x16_S1x2048x1x2x16_1_2_3_4 (broadcastInDim S2048x1x2x16 ![0, 2, 3]
    bcast_S2048x2x16_S2048x1x2x16_0_2_3 (Host.sin g)))))))⟩, ⟨S4x2048x8x2x1x16, (broadcastInDim S4x2048x8x2x1x16 ![0,
    1, 2, 3, 5] bcast_S4x2048x8x2x16_S4x2048x8x2x1x16_0_1_2_3_5 (addf (mulf (shapeCast _ (extractStridedSlice
    S4x2048x8x2x1x16 ![0, 0, 0, 0, 1, 0] (shapeCast _ (shapeCast _ (extractStridedSlice S8192x8x64 ![0, 0, 0] x
    slices_S9216x8x64_S8192x8x64_0_0_0) shapeCasts_S8192x8x64_S4x2048x8x64) shapeCasts_S4x2048x8x64_S4x2048x8x2x2x16)
    slices_S4x2048x8x2x2x16_S4x2048x8x2x1x16_0_0_0_0_1_0) shapeCasts_S4x2048x8x2x1x16_S4x2048x8x2x16) (broadcastInDim
    S4x2048x8x2x16 ![0, 1, 2, 3, 4] bcast_S1x2048x1x2x16_S4x2048x8x2x16_0_1_2_3_4 (broadcastInDim S1x2048x1x2x16 ![1,
    2, 3, 4] bcast_S2048x1x2x16_S1x2048x1x2x16_1_2_3_4 (broadcastInDim S2048x1x2x16 ![0, 2, 3]
    bcast_S2048x2x16_S2048x1x2x16_0_2_3 (Host.cos g))))) (mulf (shapeCast _ (extractStridedSlice S4x2048x8x2x1x16 ![0,
    0, 0, 0, 0, 0] (shapeCast _ (shapeCast _ (extractStridedSlice S8192x8x64 ![0, 0, 0] x
    slices_S9216x8x64_S8192x8x64_0_0_0) shapeCasts_S8192x8x64_S4x2048x8x64) shapeCasts_S4x2048x8x64_S4x2048x8x2x2x16)
    slices_S4x2048x8x2x2x16_S4x2048x8x2x1x16_0_0_0_0_0_0) shapeCasts_S4x2048x8x2x1x16_S4x2048x8x2x16) (broadcastInDim
    S4x2048x8x2x16 ![0, 1, 2, 3, 4] bcast_S1x2048x1x2x16_S4x2048x8x2x16_0_1_2_3_4 (broadcastInDim S1x2048x1x2x16 ![1,
    2, 3, 4] bcast_S2048x1x2x16_S1x2048x1x2x16_1_2_3_4 (broadcastInDim S2048x1x2x16 ![0, 2, 3]
    bcast_S2048x2x16_S2048x1x2x16_0_2_3 (Host.sin g)))))))⟩]
    concatenates_S4x2048x8x2x1x16_S4x2048x8x2x1x16_S4x2048x8x2x2x16_d4) shapeCasts_S4x2048x8x2x2x16_S4x2048x8x64)
    shapeCasts_S4x2048x8x64_S8192x8x64)⟩, ⟨S1024x8x64, (extractStridedSlice S1024x8x64 ![8192, 0, 0] x
    slices_S9216x8x64_S1024x8x64_8192_0_0)⟩] concatenates_S8192x8x64_S1024x8x64_S9216x8x64_d0

/-- The rotary key turned for the latents, as it is for the context. -/
def rotK (x : FVec Ideal S9216x64 .f32) (g : FVec Ideal S2048x2x16 .f32) : FVec Ideal S9216x64 .f32 :=
  concatenate S9216x64 0 [⟨S8192x64, (shapeCast _ (shapeCast _ (concatenate S4x2048x2x2x16 3 [⟨S4x2048x2x1x16,
    (broadcastInDim S4x2048x2x1x16 ![0, 1, 2, 4] bcast_S4x2048x2x16_S4x2048x2x1x16_0_1_2_4 (subf (mulf (shapeCast _
    (extractStridedSlice S4x2048x2x1x16 ![0, 0, 0, 0, 0] (shapeCast _ (shapeCast _ (extractStridedSlice S8192x64 ![0,
    0] x slices_S9216x64_S8192x64_0_0) shapeCasts_S8192x64_S4x2048x64) shapeCasts_S4x2048x64_S4x2048x2x2x16)
    slices_S4x2048x2x2x16_S4x2048x2x1x16_0_0_0_0_0) shapeCasts_S4x2048x2x1x16_S4x2048x2x16) (broadcastInDim
    S4x2048x2x16 ![0, 1, 2, 3] bcast_S1x2048x2x16_S4x2048x2x16_0_1_2_3 (broadcastInDim S1x2048x2x16 ![1, 2, 3]
    bcast_S2048x2x16_S1x2048x2x16_1_2_3 (Host.cos g)))) (mulf (shapeCast _ (extractStridedSlice S4x2048x2x1x16 ![0, 0,
    0, 1, 0] (shapeCast _ (shapeCast _ (extractStridedSlice S8192x64 ![0, 0] x slices_S9216x64_S8192x64_0_0)
    shapeCasts_S8192x64_S4x2048x64) shapeCasts_S4x2048x64_S4x2048x2x2x16)
    slices_S4x2048x2x2x16_S4x2048x2x1x16_0_0_0_1_0) shapeCasts_S4x2048x2x1x16_S4x2048x2x16) (broadcastInDim
    S4x2048x2x16 ![0, 1, 2, 3] bcast_S1x2048x2x16_S4x2048x2x16_0_1_2_3 (broadcastInDim S1x2048x2x16 ![1, 2, 3]
    bcast_S2048x2x16_S1x2048x2x16_1_2_3 (Host.sin g))))))⟩, ⟨S4x2048x2x1x16, (broadcastInDim S4x2048x2x1x16 ![0, 1, 2,
    4] bcast_S4x2048x2x16_S4x2048x2x1x16_0_1_2_4 (addf (mulf (shapeCast _ (extractStridedSlice S4x2048x2x1x16 ![0, 0,
    0, 1, 0] (shapeCast _ (shapeCast _ (extractStridedSlice S8192x64 ![0, 0] x slices_S9216x64_S8192x64_0_0)
    shapeCasts_S8192x64_S4x2048x64) shapeCasts_S4x2048x64_S4x2048x2x2x16)
    slices_S4x2048x2x2x16_S4x2048x2x1x16_0_0_0_1_0) shapeCasts_S4x2048x2x1x16_S4x2048x2x16) (broadcastInDim
    S4x2048x2x16 ![0, 1, 2, 3] bcast_S1x2048x2x16_S4x2048x2x16_0_1_2_3 (broadcastInDim S1x2048x2x16 ![1, 2, 3]
    bcast_S2048x2x16_S1x2048x2x16_1_2_3 (Host.cos g)))) (mulf (shapeCast _ (extractStridedSlice S4x2048x2x1x16 ![0, 0,
    0, 0, 0] (shapeCast _ (shapeCast _ (extractStridedSlice S8192x64 ![0, 0] x slices_S9216x64_S8192x64_0_0)
    shapeCasts_S8192x64_S4x2048x64) shapeCasts_S4x2048x64_S4x2048x2x2x16)
    slices_S4x2048x2x2x16_S4x2048x2x1x16_0_0_0_0_0) shapeCasts_S4x2048x2x1x16_S4x2048x2x16) (broadcastInDim
    S4x2048x2x16 ![0, 1, 2, 3] bcast_S1x2048x2x16_S4x2048x2x16_0_1_2_3 (broadcastInDim S1x2048x2x16 ![1, 2, 3]
    bcast_S2048x2x16_S1x2048x2x16_1_2_3 (Host.sin g))))))⟩]
    concatenates_S4x2048x2x1x16_S4x2048x2x1x16_S4x2048x2x2x16_d3) shapeCasts_S4x2048x2x2x16_S4x2048x64)
    shapeCasts_S4x2048x64_S8192x64)⟩, ⟨S1024x64, (extractStridedSlice S1024x64 ![8192, 0] x
    slices_S9216x64_S1024x64_8192_0)⟩] concatenates_S8192x64_S1024x64_S9216x64_d0

/-- The queries of the reference. -/
def resQ (cq : FVec Ideal S9216x512 .bf16) (qn : FVec Ideal S512 .f32) (wq : FVec Ideal S512x1536 .f32) : FVec Ideal
    S9216x2048 .bf16 :=
  truncf .bf16 (shapeCast _ ((concatenate S9216x8x256 2 [⟨S9216x8x128, ((mulf (extractStridedSlice S9216x8x128 ![0, 0,
    0] (shapeCast _ (qRef cq qn wq) shapeCasts_S9216x1536_S9216x8x192) slices_S9216x8x192_S9216x8x128_0_0_0)
    (broadcastInDim S9216x8x128 ![] bcast_S_S9216x8x128 (constant S_ .f32 0x3DD53B95#32))) : FVec Ideal S9216x8x128
    .f32)⟩, ⟨S9216x8x64, ((mulf (rotQ (extractStridedSlice S9216x8x64 ![0, 0, 128] (shapeCast _ (qRef cq qn wq)
    shapeCasts_S9216x1536_S9216x8x192) slices_S9216x8x192_S9216x8x64_0_0_128) angRef) (broadcastInDim S9216x8x64 ![]
    bcast_S_S9216x8x64 (constant S_ .f32 0x3DD53B95#32))) : FVec Ideal S9216x8x64 .f32)⟩, ⟨S9216x8x64,
    ((broadcastInDim S9216x8x64 ![] bcast_S_S9216x8x64 (constant S_ .f32 0x00000000#32)) : FVec Ideal S9216x8x64
    .f32)⟩] concatenates_S9216x8x128_S9216x8x64_S9216x8x64_S9216x8x256_d2 : FVec Ideal S9216x8x256 .f32))
    shapeCasts_S9216x8x256_S9216x2048) bitsLt_bf16_f32

/-- The keys of the reference. -/
def resK (ckv : FVec Ideal S9216x256 .bf16) (kr : FVec Ideal S9216x64 .bf16) (kvn : FVec Ideal S256 .f32) (wkv : FVec
    Ideal S256x2048 .f32) : FVec Ideal S9216x2048 .bf16 :=
  truncf .bf16 (shapeCast _ ((concatenate S9216x8x256 2 [⟨S9216x8x128, ((extractStridedSlice S9216x8x128 ![0, 0, 0]
    (shapeCast _ (kvRef ckv kvn wkv) shapeCasts_S9216x2048_S9216x8x256) slices_S9216x8x256_S9216x8x128_0_0_0) : FVec
    Ideal S9216x8x128 .f32)⟩, ⟨S9216x8x64, ((broadcastInDim S9216x8x64 ![0, 1, 2] bcast_S9216x1x64_S9216x8x64_0_1_2
    (broadcastInDim S9216x1x64 ![0, 2] bcast_S9216x64_S9216x1x64_0_2 (rotK (extf .f32 kr bitsLt_bf16_f32) angRef))) :
    FVec Ideal S9216x8x64 .f32)⟩, ⟨S9216x8x64, ((broadcastInDim S9216x8x64 ![] bcast_S_S9216x8x64 (constant S_ .f32
    0x00000000#32)) : FVec Ideal S9216x8x64 .f32)⟩] concatenates_S9216x8x128_S9216x8x64_S9216x8x64_S9216x8x256_d2 :
    FVec Ideal S9216x8x256 .f32)) shapeCasts_S9216x8x256_S9216x2048) bitsLt_bf16_f32

/-- The values of the reference. -/
def resV (ckv : FVec Ideal S9216x256 .bf16) (kvn : FVec Ideal S256 .f32) (wkv : FVec Ideal S256x2048 .f32) : FVec
    Ideal S9216x2048 .bf16 :=
  truncf .bf16 (shapeCast _ (concatenate S9216x8x256 2 [⟨S9216x8x128, (extractStridedSlice S9216x8x128 ![0, 0, 128]
    (shapeCast _ (kvRef ckv kvn wkv) shapeCasts_S9216x2048_S9216x8x256) slices_S9216x8x256_S9216x8x128_0_0_128)⟩,
    ⟨S9216x8x128, (broadcastInDim S9216x8x128 ![] bcast_S_S9216x8x128 (constant S_ .f32 0x3F800000#32))⟩]
    concatenates_S9216x8x128_S9216x8x128_S9216x8x256_d2) shapeCasts_S9216x8x256_S9216x2048) bitsLt_bf16_f32

set_option maxHeartbeats 1000000 in
/-- The queries' columns at an entry. -/
theorem qRef_at (cq : FVec Ideal S9216x512 .bf16) (qn : FVec Ideal S512 .f32) (wq : FVec Ideal S512x1536 .f32)
    (r : Fin 9216) (n : Fin 1536) : qRef cq qn wq (ix2 r n)
      = ∑ k : Fin 512, normed512 (fun k => cq (ix2 r k)) (fun k => qn (ix1 k)) k * wq (ix2 k n) := by
  pointwise [qRef, normed512]

set_option maxHeartbeats 1000000 in
/-- The keys' and values' columns at an entry. -/
theorem kvRef_at (ckv : FVec Ideal S9216x256 .bf16) (kvn : FVec Ideal S256 .f32) (wkv : FVec Ideal S256x2048 .f32)
    (r : Fin 9216) (n : Fin 2048) : kvRef ckv kvn wkv (ix2 r n)
      = ∑ k : Fin 256, normed256 (fun k => ckv (ix2 r k)) (fun k => kvn (ix1 k)) k * wkv (ix2 k n) := by
  pointwise [kvRef, normed256]

set_option maxHeartbeats 1000000 in
/-- Both axes' angles at an entry. -/
theorem angRef_at (p : Fin 2048) (x : Fin 2) (f : Fin 16) :
    angRef (ix3 p x f) = if h : x.val < 1 then rowAngRef (ix2 p f) else colAngRef (ix2 p f) := by
  pointwise [angRef]

set_option maxHeartbeats 2000000 in
/-- The turned columns of the queries at an entry. -/
theorem rotQ_at (x : FVec Ideal S9216x8x64 .f32) (g : FVec Ideal S2048x2x16 .f32) (r : Fin 9216) (h : Fin 8) (e : Fin 64) :
    rotQ x g (ix3 r h e) = turn (fun i => x (ix3 r h i)) (fun p i => g (ix3 p ⟨i.val / 32, by omega⟩ ⟨i.val % 16, by omega⟩)) r e := by
  pointwise [rotQ, turn]
  have hr : r.val / 2048 * 2048 + r.val % 2048 = r.val := by omega
  by_cases h1 : r.val < 8192
  · by_cases h2 : e.val % 32 < 16
    · have h3 : e.val / 16 % 2 < 1 := by omega
      have hp := partner_lo e h2
      have e1 : e.val / 32 * 32 + e.val % 16 = e.val := by omega
      have e2 : e.val / 32 * 32 + 16 + e.val % 16 = (partner e).val := by omega
      simp only [h1, h2, h3, hr, e1, e2, Fin.eta, ↓reduceIte, ↓reduceDIte]
    · have h3 : ¬ e.val / 16 % 2 < 1 := by omega
      have hp := partner_hi e h2
      have e1 : e.val / 32 * 32 + e.val % 16 = (partner e).val := by omega
      have e2 : e.val / 32 * 32 + 16 + e.val % 16 = e.val := by omega
      simp only [h1, h2, h3, hr, e1, e2, Fin.eta, ↓reduceIte, ↓reduceDIte]
  · have e3 : 8192 + (r.val - 8192) = r.val := by omega
    simp only [h1, e3, Fin.eta, ↓reduceIte, ↓reduceDIte]

set_option maxHeartbeats 2000000 in
/-- The turned columns of the key at an entry. -/
theorem rotK_at (x : FVec Ideal S9216x64 .f32) (g : FVec Ideal S2048x2x16 .f32) (r : Fin 9216) (e : Fin 64) :
    rotK x g (ix2 r e) = turn (fun i => x (ix2 r i)) (fun p i => g (ix3 p ⟨i.val / 32, by omega⟩ ⟨i.val % 16, by omega⟩)) r e := by
  pointwise [rotK, turn]
  have hr : r.val / 2048 * 2048 + r.val % 2048 = r.val := by omega
  by_cases h1 : r.val < 8192
  · by_cases h2 : e.val % 32 < 16
    · have h3 : e.val / 16 % 2 < 1 := by omega
      have hp := partner_lo e h2
      have e1 : e.val / 32 * 32 + e.val % 16 = e.val := by omega
      have e2 : e.val / 32 * 32 + 16 + e.val % 16 = (partner e).val := by omega
      simp only [h1, h2, h3, hr, e1, e2, Fin.eta, ↓reduceIte, ↓reduceDIte]
    · have h3 : ¬ e.val / 16 % 2 < 1 := by omega
      have hp := partner_hi e h2
      have e1 : e.val / 32 * 32 + e.val % 16 = (partner e).val := by omega
      have e2 : e.val / 32 * 32 + 16 + e.val % 16 = e.val := by omega
      simp only [h1, h2, h3, hr, e1, e2, Fin.eta, ↓reduceIte, ↓reduceDIte]
  · have e3 : 8192 + (r.val - 8192) = r.val := by omega
    simp only [h1, e3, Fin.eta, ↓reduceIte, ↓reduceDIte]

set_option maxHeartbeats 1000000 in
/-- The queries at an entry. -/
theorem resQ_at (cq : FVec Ideal S9216x512 .bf16) (qn : FVec Ideal S512 .f32) (wq : FVec Ideal S512x1536 .f32)
    (r : Fin 9216) (l : Fin 2048) : resQ cq qn wq (ix2 r l) =
      if h : l.val % 256 < 128 then qRef cq qn wq (ix2 r ⟨l.val / 256 * 192 + l.val % 256, by omega⟩) * scale
      else if h : l.val % 256 - 128 < 64 then
        turn (fun i => qRef cq qn wq (ix2 r ⟨l.val / 256 * 192 + (128 + i.val), by omega⟩))
          (fun p i => angRef (ix3 p ⟨i.val / 32, by omega⟩ ⟨i.val % 16, by omega⟩)) r ⟨l.val % 256 - 128, h⟩ * scale
      else 0 := by
  pointwise [resQ, rotQ_at, scale]

set_option maxHeartbeats 1000000 in
/-- The keys at an entry. -/
theorem resK_at (ckv : FVec Ideal S9216x256 .bf16) (kr : FVec Ideal S9216x64 .bf16) (kvn : FVec Ideal S256 .f32)
    (wkv : FVec Ideal S256x2048 .f32) (r : Fin 9216) (l : Fin 2048) : resK ckv kr kvn wkv (ix2 r l) =
      if h : l.val % 256 < 128 then kvRef ckv kvn wkv (ix2 r l)
      else if h : l.val % 256 - 128 < 64 then
        turn (fun i => kr (ix2 r i))
          (fun p i => angRef (ix3 p ⟨i.val / 32, by omega⟩ ⟨i.val % 16, by omega⟩)) r ⟨l.val % 256 - 128, h⟩
      else 0 := by
  pointwise [resK, rotK_at]

set_option maxHeartbeats 1000000 in
/-- The values at an entry. -/
theorem resV_at (ckv : FVec Ideal S9216x256 .bf16) (kvn : FVec Ideal S256 .f32)
    (wkv : FVec Ideal S256x2048 .f32) (r : Fin 9216) (l : Fin 2048) : resV ckv kvn wkv (ix2 r l) =
      if h : l.val % 256 < 128 then kvRef ckv kvn wkv (ix2 r ⟨l.val / 256 * 256 + (128 + l.val % 256), by omega⟩) else 1 := by
  pointwise [resV]

end Reference

end Cert.QkvValue

end

end
-- ==== Proof.QkvValue.lean ====
/-
  The projection of the queries, keys and values: its value claim.
-/
module

public import proofs.«01_k».proof.Defs
public import proofs.«01_k».proof.Proof.Gen.Qkv.Frame
public import proofs.«01_k».proof.Proof.QkvFinal
public import proofs.«01_k».proof.Proof.QkvRead

@[expose] public section

set_option maxRecDepth 16384

noncomputable section

namespace Cert.QkvValue

open Idealize.ShloMosaic Idealize.ShloMosaic.TcCoe Idealize.SL.Sem
open Idealize.ShloMosaic.Pipeline (Dat)

section Reference
open Cert.QkvRefIdeal Cert.QkvRefIdeal.Gen

/-- The two sides prepare the same angles. -/
theorem rowAng_eq : rowAngRef = rowAng := rfl

theorem colAng_eq : colAngRef = colAng := rfl

/-- The reference's angles are the tables'. -/
theorem ang_eq : (fun (p : Fin 2048) (i : Fin 64) => angRef (ix3 p ⟨i.val / 32, by omega⟩ ⟨i.val % 16, by omega⟩))
    = angOf rowAng colAng := by
  funext p i
  rw [angRef_at, rowAng_eq, colAng_eq]
  unfold angOf
  by_cases h : i.val < 32
  · have h1 : i.val / 32 < 1 := by omega
    simp only [h, h1, ↓reduceIte, ↓reduceDIte]
  · have h1 : ¬ i.val / 32 < 1 := by omega
    simp only [h, h1, ↓reduceIte, ↓reduceDIte]

/-- The queries from equal arguments. -/
theorem resQ_eq {cq cq' : FVec Ideal S9216x512 .bf16} {qn qn' : FVec Ideal S512 .f32} {wq wq' : FVec Ideal S512x1536 .f32}
    (h0 : cq' = cq) (h1 : qn' = qn) (h2 : wq' = wq) (r : Fin 9216) (l : Fin 2048) :
    resQ cq' qn' wq' (ix2 r l) = queries cq qn wq r l := by
  subst h0 h1 h2
  rw [resQ_at, ang_eq]
  simp only [qRef_at]
  rfl

/-- The keys from equal arguments. -/
theorem resK_eq {ckv ckv' : FVec Ideal S9216x256 .bf16} {kr kr' : FVec Ideal S9216x64 .bf16} {kvn kvn' : FVec Ideal S256 .f32}
    {wkv wkv' : FVec Ideal S256x2048 .f32} (h0 : ckv' = ckv) (h1 : kr' = kr) (h2 : kvn' = kvn) (h3 : wkv' = wkv)
    (r : Fin 9216) (l : Fin 2048) : resK ckv' kr' kvn' wkv' (ix2 r l) = keys ckv kr kvn wkv r l := by
  subst h0 h1 h2 h3
  rw [resK_at, ang_eq]
  simp only [kvRef_at]
  rfl

/-- The values from equal arguments. -/
theorem resV_eq {ckv ckv' : FVec Ideal S9216x256 .bf16} {kvn kvn' : FVec Ideal S256 .f32}
    {wkv wkv' : FVec Ideal S256x2048 .f32} (h0 : ckv' = ckv) (h2 : kvn' = kvn) (h3 : wkv' = wkv)
    (r : Fin 9216) (l : Fin 2048) : resV ckv' kvn' wkv' (ix2 r l) = values ckv kvn wkv r l := by
  subst h0 h2 h3
  rw [resV_at]
  simp only [kvRef_at]
  rfl

end Reference

set_option maxHeartbeats 8000000 in
/-- The value claim: from equal arguments the kernel and the reference leave equal queries, keys and values. -/
theorem algebraic : Cert.algebraic_QkvIdeal_QkvRefIdeal := by
  pair_intro
  · run_from Cert.QkvIdeal.Gen.run_main m g
  · run_from Cert.QkvRefIdeal.Value.run m' g'
    · rw [final9 m c]
      funext j
      idx_vars j
      obtain ⟨h0, h1, h2, h3, h4, h5, h6⟩ := hagree c
      exact resQ_eq h0 h3 h5 j0 j1
    · rw [final10 m c]
      funext j
      idx_vars j
      obtain ⟨h0, h1, h2, h3, h4, h5, h6⟩ := hagree c
      exact resK_eq h1 h2 h4 h6 j0 j1
    · rw [final11 m c]
      funext j
      idx_vars j
      obtain ⟨h0, h1, h2, h3, h4, h5, h6⟩ := hagree c
      exact resV_eq h1 h4 h6 j0 j1

end Cert.QkvValue

end

end
-- ==== Proof.ConvBlocks.lean ====
/-
  The short convolution's body: what a point's block of the result holds.
-/
module

public import proofs.«01_k».proof.Defs
public import proofs.«01_k».proof.Proof.Gen.ConvIdeal.Frame
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.ConvValue

open Idealize.ShloMosaic Idealize.ShloMosaic.TcCoe Idealize.SL.Sem
open Idealize.ShloMosaic.Pipeline (Dat)

section Kernel
open Cert.ConvIdeal Cert.ConvIdeal.Gen

variable (m : (ℓ : Loc nD τ sig) → Buf (Elt Ideal) ℓ)

/-- The windows' blocks at point `t`. -/
theorem idx : ∀ t : Fin cfg0.N, win0_0.index t = ![t.val, 0] ∧ win0_1.index t = ![t.val, 1]
    ∧ win0_2.index t = ![t.val, 2] ∧ win0_3.index t = ![16 * t.val - 1, 0] ∧ win0_4.index t = ![16 * t.val - 1, 2]
    ∧ win0_5.index t = ![min (16 * (t.val + 1)) 575, 0] ∧ win0_6.index t = ![min (16 * (t.val + 1)) 575, 2]
    ∧ win0_7.index t = ![0, 0] ∧ win0_8.index t = ![0, 0] ∧ win0_9.index t = ![t.val, 0] ∧ t.val < 36
    ∧ ((cfg0.grid.coords t) 0).val = t.val :=
  (by decide +kernel : ∀ t : Fin grid0.N, _)

/-- What the scratch holds from its row 7 on: a row before the block's rows, the block's rows, a row after. -/
def padded (p4 : FVec Ideal S1x512 .f32) (p5 : FVec Ideal S256x512 .f32) (p6 : FVec Ideal S1x512 .f32)
    (r : ℕ) (k : Fin 512) : EReal :=
  if r = 0 then p4 (ix2 0 k) else if h : r ≤ 256 then p5 (ix2 ⟨r - 1, by omega⟩ k) else p6 (ix2 0 k)

/-- The scratch after its three stores, row by row. -/
theorem padded_at (p4 : FVec Ideal S1x512 .f32) (p5 : FVec Ideal S256x512 .f32) (p6 : FVec Ideal S1x512 .f32)
    (y : S272x512.Idx) (r : ℕ) (k : Fin 512) (h0 : (y 0).val = 7 + r) (hr : r ≤ 257) (h1 : (y 1).val = k.val) :
    View.canon (Val := Elt Ideal) (e := .f32) [⟨Rect.unit ![264, 0] ![1, 512] inb_S272x512_S1x512_264_0, p6⟩,
      ⟨Rect.unit ![8, 0] ![256, 512] inb_S272x512_S256x512_8_0, p5⟩,
      ⟨Rect.unit ![7, 0] ![1, 512] inb_S272x512_S1x512_7_0, p4⟩] y = padded p4 p5 p6 r k := by
  refine View.canon_eq_of_allAt _ y _ ?_ ?_
  · by_cases a : r = 0
    · have hm : y ∈ (Rect.unit (s := S272x512) ![7, 0] ![1, 512] inb_S272x512_S1x512_7_0).set :=
        Rect.mem_set_unit.mpr (Fin.forall_fin_two.mpr ⟨⟨show 7 ≤ (y 0).val by omega, show (y 0).val < 7 + 1 by omega⟩,
          show 0 ≤ (y 1).val by omega, show (y 1).val < 0 + 512 by omega⟩)
      exact ⟨⟨Rect.unit (s := S272x512) ![7, 0] ![1, 512] inb_S272x512_S1x512_7_0, p4⟩, List.mem_cons_of_mem _ (List.mem_cons_of_mem _ List.mem_cons_self), hm⟩
    · by_cases b : r ≤ 256
      · have hm : y ∈ (Rect.unit (s := S272x512) ![8, 0] ![256, 512] inb_S272x512_S256x512_8_0).set :=
          Rect.mem_set_unit.mpr (Fin.forall_fin_two.mpr ⟨⟨show 8 ≤ (y 0).val by omega, show (y 0).val < 8 + 256 by omega⟩,
            show 0 ≤ (y 1).val by omega, show (y 1).val < 0 + 512 by omega⟩)
        exact ⟨⟨Rect.unit (s := S272x512) ![8, 0] ![256, 512] inb_S272x512_S256x512_8_0, p5⟩, List.mem_cons_of_mem _ List.mem_cons_self, hm⟩
      · have hm : y ∈ (Rect.unit (s := S272x512) ![264, 0] ![1, 512] inb_S272x512_S1x512_264_0).set :=
          Rect.mem_set_unit.mpr (Fin.forall_fin_two.mpr ⟨⟨show 264 ≤ (y 0).val by omega, show (y 0).val < 264 + 1 by omega⟩,
            show 0 ≤ (y 1).val by omega, show (y 1).val < 0 + 512 by omega⟩)
        exact ⟨⟨Rect.unit (s := S272x512) ![264, 0] ![1, 512] inb_S272x512_S1x512_264_0, p6⟩, List.mem_cons_self, hm⟩
  · refine View.allAt_cons_unit _ _ _ _ _ (fun x hx => ?_) (View.allAt_cons_unit _ _ _ _ _ (fun x hx => ?_)
      (View.allAt_cons_unit _ _ _ _ _ (fun x hx => ?_) (View.allAt_nil _ _)))
    · have e0 : (y 0).val = 264 + (x 0).val := hx 0
      have e1 : (y 1).val = 0 + (x 1).val := hx 1
      have l0 : (x 0).val < 1 := (x 0).isLt
      unfold padded
      rw [if_neg (by omega), dif_neg (by omega)]
      congr 1
      funext i
      fin_cases i
      · exact Fin.ext (show (x 0).val = 0 by omega)
      · exact Fin.ext (show (x 1).val = k.val by omega)
    · have e0 : (y 0).val = 8 + (x 0).val := hx 0
      have e1 : (y 1).val = 0 + (x 1).val := hx 1
      have l0 : (x 0).val < 256 := (x 0).isLt
      unfold padded
      rw [if_neg (by omega), dif_pos (by omega)]
      congr 1
      funext i
      fin_cases i
      · exact Fin.ext (show (x 0).val = r - 1 by omega)
      · exact Fin.ext (show (x 1).val = k.val by omega)
    · have e0 : (y 0).val = 7 + (x 0).val := hx 0
      have e1 : (y 1).val = 0 + (x 1).val := hx 1
      have l0 : (x 0).val < 1 := (x 0).isLt
      unfold padded
      rw [if_pos (by omega)]
      congr 1
      funext i
      fin_cases i
      · exact Fin.ext (show (x 0).val = 0 by omega)
      · exact Fin.ext (show (x 1).val = k.val by omega)

/-- The rows that the body reads of the scratch from row 7 on. -/
theorem rows7 (v : View sig .tc .vmem S272x512 .f32) (p4 : FVec Ideal S1x512 .f32) (p5 : FVec Ideal S256x512 .f32)
    (p6 : FVec Ideal S1x512 .f32) :
    v.readCov (Val := Elt Ideal) [⟨Rect.unit ![264, 0] ![1, 512] inb_S272x512_S1x512_264_0, p6⟩,
      ⟨Rect.unit ![8, 0] ![256, 512] inb_S272x512_S256x512_8_0, p5⟩,
      ⟨Rect.unit ![7, 0] ![1, 512] inb_S272x512_S1x512_7_0, p4⟩]
      (Rect.unit ![7, 0] ![256, 512] inb_S272x512_S256x512_7_0).toLoadRect
      = fun j : S256x512.Idx => padded p4 p5 p6 (0 + (j 0).val) (j 1) := by
  rw [View.readCov_eq_canon']
  funext j
  have l0 : (j 0).val < 256 := (j 0).isLt
  refine padded_at p4 p5 p6 _ _ _ ?_ (by omega) ?_
  · show 7 + 1 * (j 0).val = _
    omega
  · show 0 + 1 * (j 1).val = _
    omega

/-- The rows that the body reads of the scratch from row 8 on. -/
theorem rows8 (v : View sig .tc .vmem S272x512 .f32) (p4 : FVec Ideal S1x512 .f32) (p5 : FVec Ideal S256x512 .f32)
    (p6 : FVec Ideal S1x512 .f32) :
    v.readCov (Val := Elt Ideal) [⟨Rect.unit ![264, 0] ![1, 512] inb_S272x512_S1x512_264_0, p6⟩,
      ⟨Rect.unit ![8, 0] ![256, 512] inb_S272x512_S256x512_8_0, p5⟩,
      ⟨Rect.unit ![7, 0] ![1, 512] inb_S272x512_S1x512_7_0, p4⟩]
      (Rect.unit ![8, 0] ![256, 512] inb_S272x512_S256x512_8_0).toLoadRect
      = fun j : S256x512.Idx => padded p4 p5 p6 (1 + (j 0).val) (j 1) := by
  rw [View.readCov_eq_canon']
  funext j
  have l0 : (j 0).val < 256 := (j 0).isLt
  refine padded_at p4 p5 p6 _ _ _ ?_ (by omega) ?_
  · show 8 + 1 * (j 0).val = _
    omega
  · show 0 + 1 * (j 1).val = _
    omega

/-- The rows that the body reads of the scratch from row 9 on. -/
theorem rows9 (v : View sig .tc .vmem S272x512 .f32) (p4 : FVec Ideal S1x512 .f32) (p5 : FVec Ideal S256x512 .f32)
    (p6 : FVec Ideal S1x512 .f32) :
    v.readCov (Val := Elt Ideal) [⟨Rect.unit ![264, 0] ![1, 512] inb_S272x512_S1x512_264_0, p6⟩,
      ⟨Rect.unit ![8, 0] ![256, 512] inb_S272x512_S256x512_8_0, p5⟩,
      ⟨Rect.unit ![7, 0] ![1, 512] inb_S272x512_S1x512_7_0, p4⟩]
      (Rect.unit ![9, 0] ![256, 512] inb_S272x512_S256x512_9_0).toLoadRect
      = fun j : S256x512.Idx => padded p4 p5 p6 (2 + (j 0).val) (j 1) := by
  rw [View.readCov_eq_canon']
  funext j
  have l0 : (j 0).val < 256 := (j 0).isLt
  refine padded_at p4 p5 p6 _ _ _ ?_ (by omega) ?_
  · show 9 + 1 * (j 0).val = _
    omega
  · show 0 + 1 * (j 1).val = _
    omega

/-- Whether a point's rows are the first of their sequence, as the body finds it. -/
theorem first_flag : ∀ t : Fin grid0.N, (Scalar.ori
      (Scalar.cmpi CmpIPredicate.eq
        (Scalar.select
          (Scalar.andi
            (Scalar.xori (Scalar.cmpi CmpIPredicate.slt (Scalar.remsi (BitVec.ofNat 32 ↑(grid0.coords t 0)) 8#32) 0#32) 0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32)
      (Scalar.cmpi CmpIPredicate.sge (BitVec.ofNat 32 ↑(grid0.coords t 0)) 32#32))
    = if t.val % 8 = 0 ∨ 32 ≤ t.val then 1#1 else 0#1 :=
  by decide +kernel

/-- Whether a point's rows are the last of their sequence, as the body finds it. -/
theorem last_flag : ∀ t : Fin grid0.N, (Scalar.ori
      (Scalar.cmpi CmpIPredicate.eq
        (Scalar.select
          (Scalar.andi
            (Scalar.xori (Scalar.cmpi CmpIPredicate.slt (Scalar.remsi (BitVec.ofNat 32 ↑(grid0.coords t 0)) 8#32) 0#32) 0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32)
      (Scalar.cmpi CmpIPredicate.sge (BitVec.ofNat 32 ↑(grid0.coords t 0)) 32#32))
    = if t.val % 8 = 7 ∨ 32 ≤ t.val then 1#1 else 0#1 :=
  by decide +kernel

/-- The padded products of point `t`'s block. -/
def zBlk (t : ℕ) (x0 x2 : FVec Ideal S256x512 .bf16) (x3 x4 x5 x6 : FVec Ideal S16x512 .bf16) (r : ℕ) (k : Fin 512) : EReal :=
  if r = 0 then if t % 8 = 0 ∨ 32 ≤ t then 0 else x4 (ix2 15 k) * x3 (ix2 15 k)
  else if h : r ≤ 256 then x2 (ix2 ⟨r - 1, by omega⟩ k) * x0 (ix2 ⟨r - 1, by omega⟩ k)
  else if t % 8 = 7 ∨ 32 ≤ t then 0 else x6 (ix2 0 k) * x5 (ix2 0 k)

/-- The scratch holds the padded products. -/
theorem padded_eq (t : ℕ) (x0 x2 : FVec Ideal S256x512 .bf16) (x3 x4 x5 x6 : FVec Ideal S16x512 .bf16) (r : ℕ) (k : Fin 512) :
    padded (k0_pay4 (if t % 8 = 0 ∨ 32 ≤ t then 1#1 else 0#1)
        (k0_pay2 (View.ld (Val := Elt Ideal) (e' := .bf16) x4 (Rect.unit (s := S16x512) ![15, 0] ![1, 512] inb_S16x512_S1x512_15_0))
          (View.ld (Val := Elt Ideal) (e' := .bf16) x3 (Rect.unit (s := S16x512) ![15, 0] ![1, 512] inb_S16x512_S1x512_15_0))) (0 : EReal))
      (k0_pay5 x2 x0)
      (k0_pay6 (if t % 8 = 7 ∨ 32 ≤ t then 1#1 else 0#1)
        (k0_pay3 (View.ld (Val := Elt Ideal) (e' := .bf16) x6 (Rect.unit (s := S16x512) ![0, 0] ![1, 512] inb_S16x512_S1x512_0_0))
          (View.ld (Val := Elt Ideal) (e' := .bf16) x5 (Rect.unit (s := S16x512) ![0, 0] ![1, 512] inb_S16x512_S1x512_0_0)))) r k
    = zBlk t x0 x2 x3 x4 x5 x6 r k := by
  unfold padded zBlk
  by_cases a : r = 0
  · rw [if_pos a, if_pos a]
    by_cases f : t % 8 = 0 ∨ 32 ≤ t
    · rw [if_pos f, if_pos f]
      pointwise [k0_pay4]
    · rw [if_neg f, if_neg f]
      pointwise [k0_pay4, k0_pay2]
  · rw [if_neg a, if_neg a]
    by_cases b : r ≤ 256
    · rw [dif_pos b, dif_pos b]
      pointwise [k0_pay5]
    · rw [dif_neg b, dif_neg b]
      by_cases f : t % 8 = 7 ∨ 32 ≤ t
      · rw [if_pos f, if_pos f]
        pointwise [k0_pay6]
      · rw [if_neg f, if_neg f]
        pointwise [k0_pay6, k0_pay3]

/-- A block's rows gated: entry `(r, k)`, of the rows' padded products, the gate and the taps. -/
def gatedBlk (z : ℕ → Fin 512 → EReal) (b : FVec Ideal S256x512 .bf16) (w : FVec Ideal S3x512 .f32) (r : Fin 256) (k : Fin 512) :
    EReal :=
  b (ix2 r k) * (w (ix2 0 k) * z r.val k + w (ix2 1 k) * z (1 + r.val) k + w (ix2 2 k) * z (2 + r.val) k)

/-- Rows normalised and weighted: entry `k` of a row `y`. -/
def normRow (y : Fin 512 → EReal) (g : Fin 512 → EReal) (k : Fin 512) : EReal :=
  y k * Ideal.rsqrt (Ideal.div (∑ k : Fin 512, y k * y k) (Ideal.ofBits .f32 0x44000000#32)
    + Ideal.ofBits .f32 0x358637BD#32) * g k

/-- What the body leaves in the result's block: the rows gated, normalised and weighted. -/
theorem out (c : Dev nD) (t : Fin cfg0.N) (r : Fin 256) (k : Fin 512) : outsAt0 m c t (ix2 r k)
    = normRow (gatedBlk (zBlk t.val (iblk m c 0 t) (iblk m c 2 t) (iblk m c 3 t) (iblk m c 4 t) (iblk m c 5 t) (iblk m c 6 t)) (iblk m c 1 t) (iblk m c 7 t) r)
      (fun k => (iblk m c 8 t : FVec Ideal S1x512 .f32) (ix2 0 k)) k := by
  unfold outsAt0
  frame_out
  rw [first_flag, last_flag, rows7, rows8, rows9]
  pointwise [k0_pay1, k0_pay7, k0_pay8, k0_pay9, normRow, gatedBlk]
  simp only [padded_eq]

/-- A row's product of the third and the first column block. -/
def z (p : FVec Ideal S9216x3072 .bf16) (r : Fin 9216) (k : Fin 512) : EReal :=
  p (ix2 r ⟨1024 + k.val, by omega⟩) * p (ix2 r ⟨k.val, by omega⟩)

/-- The product one row before, zero at a sequence's start. -/
def before (p : FVec Ideal S9216x3072 .bf16) (r : Fin 9216) (k : Fin 512) : EReal :=
  if r.val % 256 = 0 ∧ (r.val % 2048 = 0 ∨ 8192 ≤ r.val) then 0 else z p ⟨r.val - 1, by omega⟩ k

/-- The product one row after, zero at a sequence's end. -/
def after (p : FVec Ideal S9216x3072 .bf16) (r : Fin 9216) (k : Fin 512) : EReal :=
  if h : r.val % 256 = 255 ∧ (r.val % 2048 = 2047 ∨ 8192 ≤ r.val) then 0 else z p ⟨r.val + 1, by omega⟩ k

/-- A row of the result. -/
def row (p : FVec Ideal S9216x3072 .bf16) (w : FVec Ideal S3x512 .f32) (r : Fin 9216) (k : Fin 512) : EReal :=
  p (ix2 r ⟨512 + k.val, by omega⟩) * (w (ix2 0 k) * before p r k + w (ix2 1 k) * z p r k + w (ix2 2 k) * after p r k)

/-- A block's row in the whole. -/
def rowOf (t : Fin cfg0.N) (r : Fin 256) : Fin 9216 :=
  ⟨256 * t.val + r.val, by have := (idx t).2.2.2.2.2.2.2.2.2.2.1; omega⟩

/-- A block's padded products one row up are the products one row before, zero at a sequence's start. -/
theorem zBlk_before (c : Dev nD) (t : Fin cfg0.N) (r : Fin 256) (k : Fin 512) :
    zBlk t.val (iblk m c 0 t) (iblk m c 2 t) (iblk m c 3 t) (iblk m c 4 t) (iblk m c 5 t) (iblk m c 6 t) r.val k
      = before (m ((c : Thread nD τ).loc main_arg0)) (rowOf t r) k := by
  have ht := (idx t).2.2.2.2.2.2.2.2.2.2.1
  unfold zBlk before rowOf z
  by_cases a : r.val = 0
  · rw [if_pos a]
    by_cases f : t.val % 8 = 0 ∨ 32 ≤ t.val
    · rw [if_pos f, if_pos (by dsimp only; omega)]
    · rw [if_neg f, if_neg (by dsimp only; omega)]
      blk_point [iblk, V, idx t]
  · rw [if_neg a, dif_pos (by omega), if_neg (by dsimp only; omega)]
    blk_point [iblk, V, idx t]

/-- A block's padded products at its own rows are the rows' products. -/
theorem zBlk_at (c : Dev nD) (t : Fin cfg0.N) (r : Fin 256) (k : Fin 512) :
    zBlk t.val (iblk m c 0 t) (iblk m c 2 t) (iblk m c 3 t) (iblk m c 4 t) (iblk m c 5 t) (iblk m c 6 t) (1 + r.val) k
      = z (m ((c : Thread nD τ).loc main_arg0)) (rowOf t r) k := by
  have ht := (idx t).2.2.2.2.2.2.2.2.2.2.1
  unfold zBlk rowOf z
  rw [if_neg (by omega), dif_pos (by omega)]
  blk_point [iblk, V, idx t]

/-- A block's padded products one row down are the products one row after, zero at a sequence's end. -/
theorem zBlk_after (c : Dev nD) (t : Fin cfg0.N) (r : Fin 256) (k : Fin 512) :
    zBlk t.val (iblk m c 0 t) (iblk m c 2 t) (iblk m c 3 t) (iblk m c 4 t) (iblk m c 5 t) (iblk m c 6 t) (2 + r.val) k
      = after (m ((c : Thread nD τ).loc main_arg0)) (rowOf t r) k := by
  have ht := (idx t).2.2.2.2.2.2.2.2.2.2.1
  unfold zBlk after rowOf z
  rw [if_neg (by omega)]
  by_cases a : r.val = 255
  · rw [dif_neg (by omega)]
    by_cases f : t.val % 8 = 7 ∨ 32 ≤ t.val
    · rw [if_pos f, dif_pos (by dsimp only; omega)]
    · rw [if_neg f, dif_neg (by dsimp only; omega)]
      blk_point [iblk, V, idx t]
  · rw [dif_pos (by omega), dif_neg (by dsimp only; omega)]
    blk_point [iblk, V, idx t]

/-- The gain as the host hands it over. -/
theorem V_gain (c : Dev nD) (k : Fin 512) : V m c main_v0 (ix2 0 k) = m ((c : Thread nD τ).loc main_arg2) (ix1 k) := by
  have e : V m c main_v0 = shapeCast S1x512 (m ((c : Thread nD τ).loc main_arg2)) shapeCasts_S512_S1x512 := by
    unfold V
    after_results <;> rfl
  rw [e]
  pointwise

/-- A point's gated rows are the whole's. -/
theorem gated_eq (c : Dev nD) (t : Fin cfg0.N) (r : Fin 256) :
    gatedBlk (zBlk t.val (iblk m c 0 t) (iblk m c 2 t) (iblk m c 3 t) (iblk m c 4 t) (iblk m c 5 t) (iblk m c 6 t))
      (iblk m c 1 t) (iblk m c 7 t) r
    = row (m ((c : Thread nD τ).loc main_arg0)) (m ((c : Thread nD τ).loc main_arg1)) (rowOf t r) := by
  funext k
  unfold gatedBlk row
  rw [zBlk_before, zBlk_at, zBlk_after]
  unfold rowOf
  blk_point [iblk, V, idx t]

/-- The gain's block. -/
theorem gain_eq (c : Dev nD) (t : Fin cfg0.N) (k : Fin 512) : (iblk m c 8 t : FVec Ideal S1x512 .f32) (ix2 0 k)
    = m ((c : Thread nD τ).loc main_arg2) (ix1 k) := by
  rw [← V_gain m c k]
  blk_point [iblk, idx t]

/-- The gain, column by column. -/
def gain (c : Dev nD) (k : Fin 512) : EReal := m ((c : Thread nD τ).loc main_arg2) (ix1 k)

/-- What the body leaves in the result's block, of the whole arrays. -/
theorem out_row (c : Dev nD) (t : Fin cfg0.N) (r : Fin 256) (k : Fin 512) : outsAt0 m c t (ix2 r k)
    = normRow (row (m ((c : Thread nD τ).loc main_arg0)) (m ((c : Thread nD τ).loc main_arg1)) (rowOf t r)) (gain m c) k := by
  rw [out, gated_eq]
  exact congrArg (fun g => normRow _ g k) (funext fun k => gain_eq m c t k)

/-- A row of the result, at equal places. -/
theorem row_eq (p : FVec Ideal S9216x3072 .bf16) (w : FVec Ideal S3x512 .f32) (g : Fin 512 → EReal) {a b : Fin 9216} {a' b' : Fin 512}
    (h : a.val = b.val) (h' : a'.val = b'.val) : normRow (row p w a) g a' = normRow (row p w b) g b' := by
  rw [Fin.ext h, Fin.ext h']

/-- The result array after the run, entry by entry. -/
theorem final (c : Dev nD) : (dats m 0 c).arrAt 9 (cfgs 0).N
    = fun j : S9216x512.Idx => normRow (row (m ((c : Thread nD τ).loc main_arg0)) (m ((c : Thread nD τ).loc main_arg1)) (j 0))
        (gain m c) (j 1) := by
  refine (dats m 0 c).arrAt_eq_of_covers 9 _ (by decide +kernel) fun t _ y => ?_
  blk_simp
  rw [after0_9]
  have hy : (y : S256x512.Idx) = ix2 (y 0) (y 1) := by funext i; fin_cases i <;> rfl
  refine ((congrArg (outsAt0 m c t) hy).trans (out_row m c t (y 0) (y 1))).trans ?_
  refine row_eq _ _ _ ?_ ?_
  · simp [idx t, rowOf]
    omega
  · simp [idx t, rowOf]

end Kernel

end Cert.ConvValue

end

end
-- ==== Proof.ConvValue.lean ====
/-
  The short convolution: the reference read entry by entry, and the value claim.
-/
module

public import proofs.«01_k».proof.Defs
public import proofs.«01_k».proof.Proof.ConvBlocks
public import proofs.«01_k».proof.Proof.Gen.ConvRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.ConvValue

open Idealize.ShloMosaic Idealize.ShloMosaic.TcCoe Idealize.SL.Sem
open Idealize.ShloMosaic.Pipeline (Dat)

section Reference
open Cert.ConvRefIdeal Cert.ConvRefIdeal.Gen

/-- The products that the taps weigh. -/
def zRef (p : FVec Ideal S9216x3072 .bf16) : FVec Ideal S9216x512 .f32 :=
  mulf (extractStridedSlice S9216x512 ![0, 1024] (extf .f32 (extractStridedSlice S9216x1536 ![0, 0] p
    slices_S9216x3072_S9216x1536_0_0) bitsLt_bf16_f32) slices_S9216x1536_S9216x512_0_1024) (extractStridedSlice
    S9216x512 ![0, 0] (extf .f32 (extractStridedSlice S9216x1536 ![0, 0] p slices_S9216x3072_S9216x1536_0_0)
    bitsLt_bf16_f32) slices_S9216x1536_S9216x512_0_0)

/-- The row before, in the latents' sequences. -/
def befLat (x : FVec Ideal S9216x512 .f32) : FVec Ideal S4x2048x512 .f32 :=
  concatenate S4x2048x512 1 [⟨S4x1x512, (broadcastInDim S4x1x512 ![] bcast_S_S4x1x512 (constant S_ .f32
    0x00000000#32))⟩, ⟨S4x2047x512, (extractStridedSlice S4x2047x512 ![0, 0, 0] (shapeCast _ (extractStridedSlice
    S8192x512 ![0, 0] x slices_S9216x512_S8192x512_0_0) shapeCasts_S8192x512_S4x2048x512)
    slices_S4x2048x512_S4x2047x512_0_0_0)⟩] concatenates_S4x1x512_S4x2047x512_S4x2048x512_d1

/-- The row after, in the latents' sequences. -/
def aftLat (x : FVec Ideal S9216x512 .f32) : FVec Ideal S4x2048x512 .f32 :=
  concatenate S4x2048x512 1 [⟨S4x2047x512, (extractStridedSlice S4x2047x512 ![0, 1, 0] (shapeCast _
    (extractStridedSlice S8192x512 ![0, 0] x slices_S9216x512_S8192x512_0_0) shapeCasts_S8192x512_S4x2048x512)
    slices_S4x2048x512_S4x2047x512_0_1_0)⟩, ⟨S4x1x512, (broadcastInDim S4x1x512 ![] bcast_S_S4x1x512 (constant S_ .f32
    0x00000000#32))⟩] concatenates_S4x2047x512_S4x1x512_S4x2048x512_d1

/-- The taps over the latents' sequences. -/
def tapsLat (x : FVec Ideal S9216x512 .f32) (w : FVec Ideal S3x512 .f32) : FVec Ideal S8192x512 .f32 :=
  shapeCast _ (addf (addf (mulf (broadcastInDim S4x2048x512 ![0, 1, 2] bcast_S1x1x512_S4x2048x512_0_1_2
    (broadcastInDim S1x1x512 ![2] bcast_S512_S1x1x512_2 (shapeCast _ (extractStridedSlice S1x512 ![0, 0] w
    slices_S3x512_S1x512_0_0) shapeCasts_S1x512_S512))) (befLat x)) (mulf (broadcastInDim S4x2048x512 ![0, 1, 2]
    bcast_S1x1x512_S4x2048x512_0_1_2 (broadcastInDim S1x1x512 ![2] bcast_S512_S1x1x512_2 (shapeCast _
    (extractStridedSlice S1x512 ![1, 0] w slices_S3x512_S1x512_1_0) shapeCasts_S1x512_S512))) (shapeCast _
    (extractStridedSlice S8192x512 ![0, 0] x slices_S9216x512_S8192x512_0_0) shapeCasts_S8192x512_S4x2048x512))) (mulf
    (broadcastInDim S4x2048x512 ![0, 1, 2] bcast_S1x1x512_S4x2048x512_0_1_2 (broadcastInDim S1x1x512 ![2]
    bcast_S512_S1x1x512_2 (shapeCast _ (extractStridedSlice S1x512 ![2, 0] w slices_S3x512_S1x512_2_0)
    shapeCasts_S1x512_S512))) (aftLat x))) shapeCasts_S4x2048x512_S8192x512

/-- The row before, in the context's sequences. -/
def befCtx (x : FVec Ideal S9216x512 .f32) : FVec Ideal S4x256x512 .f32 :=
  concatenate S4x256x512 1 [⟨S4x1x512, (broadcastInDim S4x1x512 ![] bcast_S_S4x1x512 (constant S_ .f32
    0x00000000#32))⟩, ⟨S4x255x512, (extractStridedSlice S4x255x512 ![0, 0, 0] (shapeCast _ (extractStridedSlice
    S1024x512 ![8192, 0] x slices_S9216x512_S1024x512_8192_0) shapeCasts_S1024x512_S4x256x512)
    slices_S4x256x512_S4x255x512_0_0_0)⟩] concatenates_S4x1x512_S4x255x512_S4x256x512_d1

/-- The row after, in the context's sequences. -/
def aftCtx (x : FVec Ideal S9216x512 .f32) : FVec Ideal S4x256x512 .f32 :=
  concatenate S4x256x512 1 [⟨S4x255x512, (extractStridedSlice S4x255x512 ![0, 1, 0] (shapeCast _ (extractStridedSlice
    S1024x512 ![8192, 0] x slices_S9216x512_S1024x512_8192_0) shapeCasts_S1024x512_S4x256x512)
    slices_S4x256x512_S4x255x512_0_1_0)⟩, ⟨S4x1x512, (broadcastInDim S4x1x512 ![] bcast_S_S4x1x512 (constant S_ .f32
    0x00000000#32))⟩] concatenates_S4x255x512_S4x1x512_S4x256x512_d1

/-- The taps over the context's sequences. -/
def tapsCtx (x : FVec Ideal S9216x512 .f32) (w : FVec Ideal S3x512 .f32) : FVec Ideal S1024x512 .f32 :=
  shapeCast _ (addf (addf (mulf (broadcastInDim S4x256x512 ![0, 1, 2] bcast_S1x1x512_S4x256x512_0_1_2 (broadcastInDim
    S1x1x512 ![2] bcast_S512_S1x1x512_2 (shapeCast _ (extractStridedSlice S1x512 ![0, 0] w slices_S3x512_S1x512_0_0)
    shapeCasts_S1x512_S512))) (befCtx x)) (mulf (broadcastInDim S4x256x512 ![0, 1, 2] bcast_S1x1x512_S4x256x512_0_1_2
    (broadcastInDim S1x1x512 ![2] bcast_S512_S1x1x512_2 (shapeCast _ (extractStridedSlice S1x512 ![1, 0] w
    slices_S3x512_S1x512_1_0) shapeCasts_S1x512_S512))) (shapeCast _ (extractStridedSlice S1024x512 ![8192, 0] x
    slices_S9216x512_S1024x512_8192_0) shapeCasts_S1024x512_S4x256x512))) (mulf (broadcastInDim S4x256x512 ![0, 1, 2]
    bcast_S1x1x512_S4x256x512_0_1_2 (broadcastInDim S1x1x512 ![2] bcast_S512_S1x1x512_2 (shapeCast _
    (extractStridedSlice S1x512 ![2, 0] w slices_S3x512_S1x512_2_0) shapeCasts_S1x512_S512))) (aftCtx x)))
    shapeCasts_S4x256x512_S1024x512

/-- The gated rows. -/
def yRef (p : FVec Ideal S9216x3072 .bf16) (w : FVec Ideal S3x512 .f32) : FVec Ideal S9216x512 .f32 :=
  mulf (extractStridedSlice S9216x512 ![0, 512] (extf .f32 (extractStridedSlice S9216x1536 ![0, 0] p
    slices_S9216x3072_S9216x1536_0_0) bitsLt_bf16_f32) slices_S9216x1536_S9216x512_0_512) (concatenate S9216x512 0
    [⟨S8192x512, (tapsLat (zRef p) w)⟩, ⟨S1024x512, (tapsCtx (zRef p) w)⟩]
    concatenates_S8192x512_S1024x512_S9216x512_d0)

/-- The result of the reference. -/
def res (p : FVec Ideal S9216x3072 .bf16) (w : FVec Ideal S3x512 .f32) (g : FVec Ideal S512 .f32) : FVec Ideal
    S9216x512 .bf16 :=
  truncf .bf16 (mulf (mulf (yRef p w) (broadcastInDim S9216x512 ![0, 1] bcast_S9216x1_S9216x512_0_1 (Host.rsqrt (addf
    (Host.divf (broadcastInDim S9216x1 ![0] bcast_S9216_S9216x1_0 (Host.reduceAdd (mulf (yRef p w) (yRef p w))
    (constant S_ .f32 0x00000000#32) reducesTo_S9216x512_S9216_d1 h_S_)) (broadcastInDim S9216x1 ![] bcast_S_S9216x1
    (constant S_ .f32 0x44000000#32))) (broadcastInDim S9216x1 ![] bcast_S_S9216x1 (constant S_ .f32
    0x358637BD#32)))))) (broadcastInDim S9216x512 ![0, 1] bcast_S1x512_S9216x512_0_1 (broadcastInDim S1x512 ![1]
    bcast_S512_S1x512_1 g))) bitsLt_bf16_f32

/-- The products, entry by entry. -/
theorem zRef_at (p : FVec Ideal S9216x3072 .bf16) (r : Fin 9216) (k : Fin 512) : zRef p (ix2 r k) = z p r k := by
  pointwise [zRef, z]

/-- The row before in the latents' sequences. -/
theorem befLat_at (x : FVec Ideal S9216x512 .f32) (b : Fin 4) (s : Fin 2048) (k : Fin 512) : befLat x (ix3 b s k)
    = if s.val = 0 then 0 else x (ix2 ⟨2048 * b.val + s.val - 1, by omega⟩ k) := by
  pointwise [befLat]
  by_cases h : s.val = 0
  · rw [dif_pos (by omega), if_pos h]
  · rw [dif_neg (by omega), if_neg h]
    congr 2
    exact Fin.ext (by dsimp only; omega)

/-- The row after in the latents' sequences. -/
theorem aftLat_at (x : FVec Ideal S9216x512 .f32) (b : Fin 4) (s : Fin 2048) (k : Fin 512) : aftLat x (ix3 b s k)
    = if h : s.val = 2047 then 0 else x (ix2 ⟨2048 * b.val + s.val + 1, by omega⟩ k) := by
  pointwise [aftLat]
  by_cases h : s.val = 2047
  · rw [dif_neg (by omega), dif_pos h]
  · rw [dif_pos (by omega), dif_neg h]
    congr 2
    exact Fin.ext (by dsimp only; omega)

/-- The taps over the latents' sequences, entry by entry. -/
theorem tapsLat_at (x : FVec Ideal S9216x512 .f32) (w : FVec Ideal S3x512 .f32) (r : Fin 8192) (k : Fin 512) : tapsLat x w (ix2 r k)
    = w (ix2 0 k) * befLat x (ix3 ⟨r.val / 2048, by omega⟩ ⟨r.val % 2048, by omega⟩ k) + w (ix2 1 k) * x (ix2 ⟨r.val, by omega⟩ k)
      + w (ix2 2 k) * aftLat x (ix3 ⟨r.val / 2048, by omega⟩ ⟨r.val % 2048, by omega⟩ k) := by
  pointwise [tapsLat]

/-- The row before in the context's sequences. -/
theorem befCtx_at (x : FVec Ideal S9216x512 .f32) (b : Fin 4) (s : Fin 256) (k : Fin 512) : befCtx x (ix3 b s k)
    = if s.val = 0 then 0 else x (ix2 ⟨8192 + 256 * b.val + s.val - 1, by omega⟩ k) := by
  pointwise [befCtx]
  by_cases h : s.val = 0
  · rw [dif_pos (by omega), if_pos h]
  · rw [dif_neg (by omega), if_neg h]
    congr 2
    exact Fin.ext (by dsimp only; omega)

/-- The row after in the context's sequences. -/
theorem aftCtx_at (x : FVec Ideal S9216x512 .f32) (b : Fin 4) (s : Fin 256) (k : Fin 512) : aftCtx x (ix3 b s k)
    = if h : s.val = 255 then 0 else x (ix2 ⟨8192 + 256 * b.val + s.val + 1, by omega⟩ k) := by
  pointwise [aftCtx]
  by_cases h : s.val = 255
  · rw [dif_neg (by omega), dif_pos h]
  · rw [dif_pos (by omega), dif_neg h]
    congr 2
    exact Fin.ext (by dsimp only; omega)

/-- The taps over the context's sequences, entry by entry. -/
theorem tapsCtx_at (x : FVec Ideal S9216x512 .f32) (w : FVec Ideal S3x512 .f32) (r : Fin 1024) (k : Fin 512) : tapsCtx x w (ix2 r k)
    = w (ix2 0 k) * befCtx x (ix3 ⟨r.val / 256, by omega⟩ ⟨r.val % 256, by omega⟩ k) + w (ix2 1 k) * x (ix2 ⟨8192 + r.val, by omega⟩ k)
      + w (ix2 2 k) * aftCtx x (ix3 ⟨r.val / 256, by omega⟩ ⟨r.val % 256, by omega⟩ k) := by
  pointwise [tapsCtx]

/-- The products of one row. -/
theorem z_eq (p : FVec Ideal S9216x3072 .bf16) (k : Fin 512) {a b : Fin 9216} (h : a.val = b.val) : z p a k = z p b k := by
  rw [Fin.ext h]

/-- Three taps at equal products. -/
theorem taps_eq {a b c x y z x' y' z' : EReal} (hx : x = x') (hy : y = y') (hz : z = z') :
    a * x + b * y + c * z = a * x' + b * y' + c * z' := by
  rw [hx, hy, hz]

/-- The gated rows are the kernel's. -/
theorem yRef_at (p : FVec Ideal S9216x3072 .bf16) (w : FVec Ideal S3x512 .f32) (r : Fin 9216) (k : Fin 512) :
    yRef p w (ix2 r k) = row p w r k := by
  pointwise [yRef]
  unfold row before after
  refine congrArg (fun x : EReal => p (ix2 r ⟨512 + k.val, by omega⟩) * x) ?_
  by_cases h : r.val < 8192
  · rw [dif_pos h, tapsLat_at, befLat_at, aftLat_at]
    simp only [zRef_at]
    refine taps_eq ?_ rfl ?_
    · by_cases a : r.val % 2048 = 0
      · rw [if_pos a, if_pos (by omega)]
      · rw [if_neg a, if_neg (by omega)]
        exact z_eq p k (by dsimp only; omega)
    · by_cases a : r.val % 2048 = 2047
      · rw [dif_pos a, dif_pos (by omega)]
      · rw [dif_neg a, dif_neg (by omega)]
        exact z_eq p k (by dsimp only; omega)
  · rw [dif_neg h, tapsCtx_at, befCtx_at, aftCtx_at]
    simp only [zRef_at]
    refine taps_eq ?_ (z_eq p k (show 8192 + (r.val - 8192) = r.val by omega)) ?_
    · by_cases a : (r.val - 8192) % 256 = 0
      · rw [if_pos a, if_pos (by omega)]
      · rw [if_neg a, if_neg (show ¬(r.val % 256 = 0 ∧ (r.val % 2048 = 0 ∨ 8192 ≤ r.val)) by omega)]
        exact z_eq p k (show 8192 + 256 * ((r.val - 8192) / 256) + (r.val - 8192) % 256 - 1 = r.val - 1 by omega)
    · by_cases a : (r.val - 8192) % 256 = 255
      · rw [dif_pos a, dif_pos (by omega)]
      · rw [dif_neg a, dif_neg (by omega)]
        exact z_eq p k (show 8192 + 256 * ((r.val - 8192) / 256) + (r.val - 8192) % 256 + 1 = r.val + 1 by omega)

/-- The reference's result, entry by entry. -/
theorem res_at (p : FVec Ideal S9216x3072 .bf16) (w : FVec Ideal S3x512 .f32) (g : FVec Ideal S512 .f32) (r : Fin 9216) (k : Fin 512) :
    res p w g (ix2 r k) = normRow (row p w r) (fun k => g (ix1 k)) k := by
  rw [← funext (yRef_at p w r)]
  pointwise [res, normRow]

end Reference

set_option maxHeartbeats 8000000 in
/-- The short convolution's value claim: from equal arguments the kernel and the reference leave equal result arrays. -/
theorem algebraic : Cert.algebraic_ConvIdeal_ConvRefIdeal := by
  pair_intro
  · run_from Cert.ConvIdeal.Gen.run_main m g
  · run_from Cert.ConvRefIdeal.Value.run m' g'
    rw [final m c]
    funext j
    idx_vars j
    obtain ⟨h0, h1, h2⟩ := hagree c
    have e : Cert.ConvRefIdeal.Value.res_main_v71 m' c = res (m' ((c.tc : Thread Cert.ConvRefIdeal.nD Cert.ConvRefIdeal.τ).loc Cert.ConvRefIdeal.main_arg0))
        (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) := rfl
    refine (congrFun e _).trans ((res_at _ _ _ _ _).trans ?_)
    rw [h0, h1, h2]
    rfl

end Cert.ConvValue

end

end
-- ==== Proof.AdaValue.lean ====
/-
  The modulation: the silu of each conditioning row times a layer's weights, plus its bias, over the 4 layers by 12 column
  blocks of 1024.
-/
module

public import proofs.«01_k».proof.Defs
public import proofs.«01_k».proof.Proof.Gen.AdaIdeal.Frame
public import proofs.«01_k».proof.Proof.Gen.Ada.Frame
public import proofs.«01_k».proof.Proof.Gen.AdaRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Claim

@[expose] public section

set_option maxRecDepth 16384

noncomputable section

namespace Cert.AdaValue

open Idealize.ShloMosaic Idealize.ShloMosaic.TcCoe Idealize.SL.Sem
open Idealize.ShloMosaic.Pipeline (Dat)

section Kernel
open Cert.AdaIdeal Cert.AdaIdeal.Gen

variable (m : (ℓ : Loc nD τ sig) → Buf (Elt Ideal) ℓ)

/-- The windows' blocks at point `t`: layer `t / 12`, column block `t % 12`. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] ∧ t.val < 48 :=
  (by decide +kernel : ∀ t : Fin grid0.N, _)

/-- Row `b` of the conditioning: a batch's, the context's, or zero. -/
def row (x : FVec Ideal S4x2048 .f32) (z : FVec Ideal S2048 .f32) (b : Fin 8) (k : Fin 2048) : EReal :=
  if h : b.val < 4 then x (ix2 ⟨b.val, h⟩ k) else if b.val < 5 then z (ix1 k) else 0

/-- The modulation's entry for layer `l`, row `b` and column `n`. -/
def modulation (x : FVec Ideal S4x2048 .f32) (z : FVec Ideal S2048 .f32) (w : FVec Ideal S4x2048x12288 .f32)
    (a : FVec Ideal S4x12288 .f32) (l : Fin 4) (b : Fin 8) (n : Fin 12288) : EReal :=
  (∑ k : Fin 2048, row x z b k * Ideal.logistic (row x z b k) * w (ix3 l k n)) + a (ix2 l n)

/-- The conditioning rows that the host lays out. -/
def laid (x : FVec Ideal S4x2048 .f32) (z : FVec Ideal S2048 .f32) : FVec Ideal S8x2048 .f32 :=
  concatenate S8x2048 0 [⟨S4x2048, x⟩, ⟨S1x2048, broadcastInDim S1x2048 ![1] bcast_S2048_S1x2048_1 z⟩,
    ⟨S3x2048, broadcastInDim S3x2048 ![] bcast_S_S3x2048 (constant S_ .f32 0x00000000#32)⟩]
    concatenates_S4x2048_S1x2048_S3x2048_S8x2048_d0

/-- The conditioning's window holds them. -/
theorem V_laid (c : Dev nD) : V m c main_v2 = laid (m ((c : Thread nD τ).loc main_arg0)) (m ((c : Thread nD τ).loc main_arg1)) := by
  unfold laid
  after_results <;> rfl

/-- The conditioning rows at an entry. -/
theorem laid_at (x : FVec Ideal S4x2048 .f32) (z : FVec Ideal S2048 .f32) (b : Fin 8) (k : Fin 2048) :
    laid x z (ix2 b k) = row x z b k := by
  pointwise [laid, row]
  split_ifs <;> first | rfl | omega

/-- The conditioning's block is all its rows. -/
theorem blk0 (c : Dev nD) (t : Fin cfg0.N) (b : Fin 8) (k : Fin 2048) : iblk m c 0 t (ix2 b k)
    = row (m ((c : Thread nD τ).loc main_arg0)) (m ((c : Thread nD τ).loc main_arg1)) b k := by
  rw [← laid_at, ← V_laid m c]
  blk_ext [iblk, idx t]

/-- The modulation at equal entries. -/
theorem at_eq (x : FVec Ideal S4x2048 .f32) (z : FVec Ideal S2048 .f32) (w : FVec Ideal S4x2048x12288 .f32)
    (a : FVec Ideal S4x12288 .f32) {l l' : Fin 4} {b b' : Fin 8} {n n' : Fin 12288} (hl : l.val = l'.val)
    (hb : b.val = b'.val) (hn : n.val = n'.val) : modulation x z w a l b n = modulation x z w a l' b' n' := by
  rw [Fin.ext hl, Fin.ext hb, Fin.ext hn]

/-- What the body computes at point `t`: the modulation of the point's layer and columns. -/
theorem body_at (c : Dev nD) (t : Fin cfg0.N) (b : Fin 8) (n : Fin 1024) :
    k0_pay1 (iblk m c 0 t) (iblk m c 1 t) (iblk m c 2 t) (ix3 0 b n)
    = modulation (m ((c : Thread nD τ).loc main_arg0)) (m ((c : Thread nD τ).loc main_arg1))
        (m ((c : Thread nD τ).loc main_arg2)) (m ((c : Thread nD τ).loc main_arg3))
        ⟨t.val / 12, by have := (idx t).2.2.2.2; omega⟩ b ⟨t.val % 12 * 1024 + n.val, by omega⟩ := by
  pointwise [k0_pay1, modulation, blk0]
  blk_point [iblk, V, idx t]

/-- The result array after the run, entry by entry. -/
theorem final (c : Dev nD) : (dats m 0 c).arrAt 3 (cfgs 0).N
    = fun j : S4x8x12288.Idx => modulation (m ((c : Thread nD τ).loc main_arg0)) (m ((c : Thread nD τ).loc main_arg1))
        (m ((c : Thread nD τ).loc main_arg2)) (m ((c : Thread nD τ).loc main_arg3)) (j 0) (j 1) (j 2) := by
  refine (dats m 0 c).arrAt_eq_of_covers 3 _ (by decide +kernel) fun t _ y => ?_
  blk_simp
  rw [after0_3]
  frame_out
  have hy : y = ix3 0 (y 1) (y 2) := by
    funext i
    fin_cases i <;> first | rfl | exact Subsingleton.elim (α := Fin 1) _ _
  rw [hy]
  refine (body_at m c t (y 1) (y 2)).trans ?_
  refine at_eq _ _ _ _ ?_ ?_ ?_ <;> simp [idx t]
end Kernel

/-- The modulation's value claim: from equal arguments the kernel and the reference leave equal result arrays. -/
theorem algebraic : Cert.algebraic_AdaIdeal_AdaRefIdeal := by
  pair_intro
  · run_from Cert.AdaIdeal.Gen.run_main m g
  · run_from Cert.AdaRefIdeal.Value.run m' g'
    rw [final m c]
    funext j
    idx_vars j
    obtain ⟨-, -, -, h3⟩ := hagree c
    pointwise [modulation, row, h3]
    split_ifs with h1 h2 h3 <;> first | omega | skip
    · refine congrArg (· + _) (Finset.sum_congr rfl fun k _ => ?_)
      exact mul_comm _ _
    · rfl
    · simp

end Cert.AdaValue

end

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Fin
public import proofs.«01_k».proof.Proof.Gen.Fin.Frame
public import proofs.«01_k».proof.Proof.Gen.FinIdeal
public import proofs.«01_k».proof.Proof.Gen.FinIdeal.Frame
public import proofs.«01_k».proof.Proof.Gen.FinRefIdeal
public import proofs.«01_k».proof.Proof.Gen.FinRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Run
public import proofs.«01_k».proof.Proof.Gen.Pre_finite_scores
public import proofs.«01_k».proof.Proof.UpValue
public import proofs.«01_k».proof.Proof.DownValue
public import proofs.«01_k».proof.Proof.MergeValue
public import proofs.«01_k».proof.Proof.FinValue
public import proofs.«01_k».proof.Proof.AttnValue
public import proofs.«01_k».proof.Proof.InProjValue
public import proofs.«01_k».proof.Proof.QkvValue
public import proofs.«01_k».proof.Proof.ConvValue
public import proofs.«01_k».proof.Proof.AdaValue

@[expose] public section

set_option maxRecDepth 16384

noncomputable section

namespace Cert.Proof

open Idealize.ShloMosaic Idealize.SL.Sem

/-- Terminates, counters at zero, arguments unchanged: the latent attention's call. -/
theorem quiescent_Attn : Cert.quiescent_Attn := by
  exact fun m ρ _ => Cert.Attn.Gen.frame m ρ

/-- Terminates, counters at zero, arguments unchanged: the latent attention's call over the extended reals. -/
theorem quiescent_AttnIdeal : Cert.quiescent_AttnIdeal := by
  exact fun m ρ _ => Cert.AttnIdeal.Gen.frame m ρ

/-- The same under the precondition: the latent attention's call over the extended reals. -/
theorem quiescent_AttnIdeal_pre_finite_scores : Cert.quiescent_AttnIdeal_pre_finite_scores := by
  exact fun m ρ _ => Cert.AttnIdeal.Gen.frame m ρ

/-- Terminates, counters at zero, arguments unchanged: the latent attention's reference over the extended reals. -/
theorem quiescent_AttnRefIdeal : Cert.quiescent_AttnRefIdeal := by
  exact fun m ρ _ => (θ_run Cert.AttnRefIdeal.defs _ _).mono
    (fun r h => ⟨fun c => (h c).2, sem_eq_zero_of_no_sems (by decide) r.2⟩) (Cert.AttnRefIdeal.Value.run m ρ)

/-- The same under the precondition: the latent attention's reference over the extended reals. -/
theorem quiescent_AttnRefIdeal_pre_finite_scores : Cert.quiescent_AttnRefIdeal_pre_finite_scores := by
  exact fun m ρ _ => (θ_run Cert.AttnRefIdeal.defs _ _).mono
    (fun r h => ⟨fun c => (h c).2, sem_eq_zero_of_no_sems (by decide) r.2⟩) (Cert.AttnRefIdeal.Value.run m ρ)

/-- Terminates, counters at zero, arguments unchanged: the input projection's call. -/
theorem quiescent_InProj : Cert.quiescent_InProj := by
  exact fun m ρ _ => Cert.InProj.Gen.frame m ρ

/-- Terminates, counters at zero, arguments unchanged: the input projection's call over the extended reals. -/
theorem quiescent_InProjIdeal : Cert.quiescent_InProjIdeal := by
  exact fun m ρ _ => Cert.InProjIdeal.Gen.frame m ρ

/-- Terminates, counters at zero, arguments unchanged: the input projection's reference over the extended reals. -/
theorem quiescent_InProjRefIdeal : Cert.quiescent_InProjRefIdeal := by
  exact fun m ρ _ => (θ_run Cert.InProjRefIdeal.defs _ _).mono
    (fun r h => ⟨fun c => (h c).2.2, sem_eq_zero_of_no_sems (by decide) r.2⟩) (Cert.InProjRefIdeal.Value.run m ρ)

/-- Terminates, counters at zero, arguments unchanged: the feed-forward part's up projection's call. -/
theorem quiescent_Up : Cert.quiescent_Up := by
  exact fun m ρ _ => Cert.Up.Gen.frame m ρ

/-- Terminates, counters at zero, arguments unchanged: the feed-forward part's up projection's call over the extended reals. -/
theorem quiescent_UpIdeal : Cert.quiescent_UpIdeal := by
  exact fun m ρ _ => Cert.UpIdeal.Gen.frame m ρ

/-- Terminates, counters at zero, arguments unchanged: the feed-forward part's up projection's reference over the extended reals. -/
theorem quiescent_UpRefIdeal : Cert.quiescent_UpRefIdeal := by
  exact fun m ρ _ => (θ_run Cert.UpRefIdeal.defs _ _).mono
    (fun r h => ⟨fun c => (h c).2, sem_eq_zero_of_no_sems (by decide) r.2⟩) (Cert.UpRefIdeal.Value.run m ρ)

/-- Terminates, counters at zero, arguments unchanged: the feed-forward part's down projection's call. -/
theorem quiescent_Down : Cert.quiescent_Down := by
  exact fun m ρ _ => Cert.Down.Gen.frame m ρ

/-- Terminates, counters at zero, arguments unchanged: the feed-forward part's down projection's call over the extended reals. -/
theorem quiescent_DownIdeal : Cert.quiescent_DownIdeal := by
  exact fun m ρ _ => Cert.DownIdeal.Gen.frame m ρ

/-- Terminates, counters at zero, arguments unchanged: the feed-forward part's down projection's reference over the extended reals. -/
theorem quiescent_DownRefIdeal : Cert.quiescent_DownRefIdeal := by
  exact fun m ρ _ => (θ_run Cert.DownRefIdeal.defs _ _).mono
    (fun r h => ⟨fun c => (h c).2, sem_eq_zero_of_no_sems (by decide) r.2⟩) (Cert.DownRefIdeal.Value.run m ρ)

/-- Terminates, counters at zero, arguments unchanged: the merge of the head groups's call. -/
theorem quiescent_Merge : Cert.quiescent_Merge := by
  exact fun m ρ _ => Cert.Merge.Gen.frame m ρ

/-- Terminates, counters at zero, arguments unchanged: the merge of the head groups's call over the extended reals. -/
theorem quiescent_MergeIdeal : Cert.quiescent_MergeIdeal := by
  exact fun m ρ _ => Cert.MergeIdeal.Gen.frame m ρ

/-- Terminates, counters at zero, arguments unchanged: the merge of the head groups's reference over the extended reals. -/
theorem quiescent_MergeRefIdeal : Cert.quiescent_MergeRefIdeal := by
  exact fun m ρ _ => (θ_run Cert.MergeRefIdeal.defs _ _).mono
    (fun r h => ⟨fun c => (h c).2.2, sem_eq_zero_of_no_sems (by decide) r.2⟩) (Cert.MergeRefIdeal.Value.run m ρ)

/-- Terminates, counters at zero, arguments unchanged: the final norm's call. -/
theorem quiescent_Fin : Cert.quiescent_Fin := by
  exact fun m ρ _ => Cert.Fin.Gen.frame m ρ

/-- Terminates, counters at zero, arguments unchanged: the final norm's call over the extended reals. -/
theorem quiescent_FinIdeal : Cert.quiescent_FinIdeal := by
  exact fun m ρ _ => Cert.FinIdeal.Gen.frame m ρ

/-- Terminates, counters at zero, arguments unchanged: the final norm's reference over the extended reals. -/
theorem quiescent_FinRefIdeal : Cert.quiescent_FinRefIdeal := by
  exact fun m ρ _ => (θ_run Cert.FinRefIdeal.defs _ _).mono
    (fun r h => ⟨fun c => (h c).2, sem_eq_zero_of_no_sems (by decide) r.2⟩) (Cert.FinRefIdeal.Value.run m ρ)

/-- Terminates, counters at zero, arguments unchanged: the modulation's call. -/
theorem quiescent_Ada : Cert.quiescent_Ada := by
  exact fun m ρ _ => Cert.Ada.Gen.frame m ρ

/-- Terminates, counters at zero, arguments unchanged: the modulation's call over the extended reals. -/
theorem quiescent_AdaIdeal : Cert.quiescent_AdaIdeal := by
  exact fun m ρ _ => Cert.AdaIdeal.Gen.frame m ρ

/-- Terminates, counters at zero, arguments unchanged: the modulation's reference over the extended reals. -/
theorem quiescent_AdaRefIdeal : Cert.quiescent_AdaRefIdeal := by
  exact fun m ρ _ => (θ_run Cert.AdaRefIdeal.defs _ _).mono
    (fun r h => ⟨fun c => (h c).2, sem_eq_zero_of_no_sems (by decide) r.2⟩) (Cert.AdaRefIdeal.Value.run m ρ)

/-- Terminates, counters at zero, arguments unchanged: the short convolution's call. -/
theorem quiescent_Conv : Cert.quiescent_Conv := by
  exact fun m ρ _ => Cert.Conv.Gen.frame m ρ

/-- Terminates, counters at zero, arguments unchanged: the short convolution's call over the extended reals. -/
theorem quiescent_ConvIdeal : Cert.quiescent_ConvIdeal := by
  exact fun m ρ _ => Cert.ConvIdeal.Gen.frame m ρ

/-- Terminates, counters at zero, arguments unchanged: the short convolution's reference over the extended reals. -/
theorem quiescent_ConvRefIdeal : Cert.quiescent_ConvRefIdeal := by
  exact fun m ρ _ => (θ_run Cert.ConvRefIdeal.defs _ _).mono
    (fun r h => ⟨fun c => (h c).2, sem_eq_zero_of_no_sems (by decide) r.2⟩) (Cert.ConvRefIdeal.Value.run m ρ)

/-- Terminates, counters at zero, arguments unchanged: the queries, keys and values's call. -/
theorem quiescent_Qkv : Cert.quiescent_Qkv := by
  exact fun m ρ _ => Cert.Qkv.Gen.frame m ρ

/-- Terminates, counters at zero, arguments unchanged: the queries, keys and values's call over the extended reals. -/
theorem quiescent_QkvIdeal : Cert.quiescent_QkvIdeal := by
  exact fun m ρ _ => Cert.QkvIdeal.Gen.frame m ρ

/-- Terminates, counters at zero, arguments unchanged: the queries, keys and values's reference over the extended reals. -/
theorem quiescent_QkvRefIdeal : Cert.quiescent_QkvRefIdeal := by
  exact fun m ρ _ => (θ_run Cert.QkvRefIdeal.defs _ _).mono
    (fun r h => ⟨fun c => (h c).2.2.2, sem_eq_zero_of_no_sems (by decide) r.2⟩) (Cert.QkvRefIdeal.Value.run m ρ)

/-- The ideal program is the program over the extended reals: the latent attention's call over the extended reals. -/
theorem preserves_Attn_AttnIdeal : Cert.preserves_Attn_AttnIdeal := trivial

/-- The ideal program is the program over the extended reals: the input projection's call over the extended reals. -/
theorem preserves_InProj_InProjIdeal : Cert.preserves_InProj_InProjIdeal := trivial

/-- The ideal program is the program over the extended reals: the feed-forward part's up projection's call over the extended reals. -/
theorem preserves_Up_UpIdeal : Cert.preserves_Up_UpIdeal := trivial

/-- The ideal program is the program over the extended reals: the feed-forward part's down projection's call over the extended reals. -/
theorem preserves_Down_DownIdeal : Cert.preserves_Down_DownIdeal := trivial

/-- The ideal program is the program over the extended reals: the merge of the head groups's call over the extended reals. -/
theorem preserves_Merge_MergeIdeal : Cert.preserves_Merge_MergeIdeal := trivial

/-- The ideal program is the program over the extended reals: the final norm's call over the extended reals. -/
theorem preserves_Fin_FinIdeal : Cert.preserves_Fin_FinIdeal := trivial

/-- The ideal program is the program over the extended reals: the modulation's call over the extended reals. -/
theorem preserves_Ada_AdaIdeal : Cert.preserves_Ada_AdaIdeal := trivial

/-- The ideal program is the program over the extended reals: the short convolution's call over the extended reals. -/
theorem preserves_Conv_ConvIdeal : Cert.preserves_Conv_ConvIdeal := trivial

/-- The ideal program is the program over the extended reals: the queries, keys and values's call over the extended reals. -/
theorem preserves_Qkv_QkvIdeal : Cert.preserves_Qkv_QkvIdeal := trivial

/-- All claims together. -/
theorem claim : Cert.Claim :=
  ⟨Cert.Attn.Gen.facts, Cert.AttnIdeal.Gen.facts, Cert.AttnRefIdeal.Gen.facts, Cert.InProj.Gen.facts, Cert.InProjIdeal.Gen.facts, Cert.InProjRefIdeal.Gen.facts, Cert.Up.Gen.facts, Cert.UpIdeal.Gen.facts, Cert.UpRefIdeal.Gen.facts, Cert.Down.Gen.facts, Cert.DownIdeal.Gen.facts, Cert.DownRefIdeal.Gen.facts, Cert.Merge.Gen.facts, Cert.MergeIdeal.Gen.facts, Cert.MergeRefIdeal.Gen.facts, Cert.Fin.Gen.facts, Cert.FinIdeal.Gen.facts, Cert.FinRefIdeal.Gen.facts, Cert.Ada.Gen.facts, Cert.AdaIdeal.Gen.facts, Cert.AdaRefIdeal.Gen.facts, Cert.Conv.Gen.facts, Cert.ConvIdeal.Gen.facts, Cert.ConvRefIdeal.Gen.facts, Cert.Qkv.Gen.facts, Cert.QkvIdeal.Gen.facts, Cert.QkvRefIdeal.Gen.facts, Cert.Pre_finite_scores.Gen.facts,
   quiescent_Attn,
   quiescent_AttnIdeal,
   quiescent_AttnIdeal_pre_finite_scores,
   quiescent_AttnRefIdeal,
   quiescent_AttnRefIdeal_pre_finite_scores,
   quiescent_InProj,
   quiescent_InProjIdeal,
   quiescent_InProjRefIdeal,
   quiescent_Up,
   quiescent_UpIdeal,
   quiescent_UpRefIdeal,
   quiescent_Down,
   quiescent_DownIdeal,
   quiescent_DownRefIdeal,
   quiescent_Merge,
   quiescent_MergeIdeal,
   quiescent_MergeRefIdeal,
   quiescent_Fin,
   quiescent_FinIdeal,
   quiescent_FinRefIdeal,
   quiescent_Ada,
   quiescent_AdaIdeal,
   quiescent_AdaRefIdeal,
   quiescent_Conv,
   quiescent_ConvIdeal,
   quiescent_ConvRefIdeal,
   quiescent_Qkv,
   quiescent_QkvIdeal,
   quiescent_QkvRefIdeal,
   preserves_Attn_AttnIdeal,
   Cert.AttnValue.algebraic,
   preserves_InProj_InProjIdeal,
   Cert.InProjValue.algebraic,
   preserves_Up_UpIdeal,
   Cert.UpValue.algebraic,
   preserves_Down_DownIdeal,
   Cert.DownValue.algebraic,
   preserves_Merge_MergeIdeal,
   Cert.MergeValue.algebraic,
   preserves_Fin_FinIdeal,
   Cert.FinValue.algebraic,
   preserves_Ada_AdaIdeal,
   Cert.AdaValue.algebraic,
   preserves_Conv_ConvIdeal,
   Cert.ConvValue.algebraic,
   preserves_Qkv_QkvIdeal,
   Cert.QkvValue.algebraic⟩

end Cert.Proof

end
